-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv6144" .f32 0x392AAAAB#32 ((6144⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_v91)) (v2 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_v91) = v1 c
          ∧ r.2.mem ((c.tc : Thread Cert.KernelIdeal.nD Cert.KernelIdeal.τ).loc Cert.KernelIdeal.main_v92) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v495) = v0 c
          ∧ r.2.mem ((c.tc : Thread Cert.ReferenceIdeal.nD Cert.ReferenceIdeal.τ).loc Cert.ReferenceIdeal.main_v484) = v1 c
          ∧ r.2.mem ((c.tc : Thread Cert.ReferenceIdeal.nD Cert.ReferenceIdeal.τ).loc Cert.ReferenceIdeal.main_v501) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x96x321 : Shape := ⟨3, ![8, 96, 321]⟩
abbrev S64 : Shape := ⟨1, ![64]⟩
abbrev S3x321x4 : Shape := ⟨3, ![3, 321, 4]⟩
abbrev S3x4x64x64 : Shape := ⟨4, ![3, 4, 64, 64]⟩
abbrev S3x4x64 : Shape := ⟨3, ![3, 4, 64]⟩
abbrev S6144x96 : Shape := ⟨2, ![6144, 96]⟩
abbrev S96 : Shape := ⟨1, ![96]⟩
abbrev S_ : Shape := ⟨0, ![]⟩
abbrev S2x4x64x64 : Shape := ⟨4, ![2, 4, 64, 64]⟩
abbrev S2x4x64 : Shape := ⟨3, ![2, 4, 64]⟩

class Facts : Prop where
  bcast_S_S64 : S_.BroadcastsInDim S64 (![] : Fin 0 → Fin S64.rank)
  reducesTo_S64_S_d0 : S64.ReducesTo [0] S_
  h_S_ : 0 < S_.numel
  slices_S3x4x64x64_S2x4x64x64_0_0_0_0 : S3x4x64x64.Slices ![0, 0, 0, 0] S2x4x64x64
  slices_S3x4x64_S2x4x64_0_0_0 : S3x4x64.Slices ![0, 0, 0] S2x4x64
  bcast_S_S3x321x4 : S_.BroadcastsInDim S3x321x4 (![] : Fin 0 → Fin S3x321x4.rank)
  reducesTo_S3x321x4_S_d0_1_2 : S3x321x4.ReducesTo [0, 1, 2] S_
  bcast_S_S2x4x64x64 : S_.BroadcastsInDim S2x4x64x64 (![] : Fin 0 → Fin S2x4x64x64.rank)
  reducesTo_S2x4x64x64_S_d0_1_2_3 : S2x4x64x64.ReducesTo [0, 1, 2, 3] S_
  bcast_S_S2x4x64 : S_.BroadcastsInDim S2x4x64 (![] : Fin 0 → Fin S2x4x64.rank)
  reducesTo_S2x4x64_S_d0_1_2 : S2x4x64.ReducesTo [0, 1, 2] S_

variable [Facts]

def fn_part2 {F : FTy → Type} [FloatOps F] (main_v32 : IVec S_ 1) (main_v33 : FVec F S2x4x64 .f32) (main_v34 : FVec F S2x4x64 .f32) : IVec S_ 1 :=
  let main_v35 : IVec S2x4x64 1 := cmpf .olt main_v33 main_v34
  let main_c_11 : IVec S_ 1 := constantI S_ 1 1#1
  let main_v36 : IVec S_ 1 := (fun x v => Host.reduce IntOp.andi x v reducesTo_S2x4x64_S_d0_1_2 h_S_) main_v35 main_c_11
  let main_v37 : IVec S_ 1 := andi main_v32 main_v36
  main_v37

def fn_part1 {F : FTy → Type} [FloatOps F] (main_v4 : FVec F S2x4x64x64 .f32) (main_v5 : FVec F S2x4x64 .f32) (main_v6 : FVec F S2x4x64x64 .f32) (main_v7 : FVec F S2x4x64 .f32) (main_v17 : IVec S_ 1) : IVec S_ 1 :=
  let main_v18 : FVec F S2x4x64x64 .f32 := Host.absf main_v4
  let main_cst_4 : FVec F S_ .f32 := constant S_ .f32 0x7F800000#32
  let main_v19 : FVec F S2x4x64x64 .f32 := broadcastInDim S2x4x64x64 ![] bcast_S_S2x4x64x64 main_cst_4
  let main_v20 : IVec S2x4x64x64 1 := cmpf .olt main_v18 main_v19
  let main_c_5 : IVec S_ 1 := constantI S_ 1 1#1
  let main_v21 : IVec S_ 1 := (fun x v => Host.reduce IntOp.andi x v reducesTo_S2x4x64x64_S_d0_1_2_3 h_S_) main_v20 main_c_5
  let main_v22 : IVec S_ 1 := andi main_v17 main_v21
  let main_v23 : FVec F S2x4x64 .f32 := Host.absf main_v5
  let main_cst_6 : FVec F S_ .f32 := constant S_ .f32 0x7F800000#32
  let main_v24 : FVec F S2x4x64 .f32 := broadcastInDim S2x4x64 ![] bcast_S_S2x4x64 main_cst_6
  let main_v25 : IVec S2x4x64 1 := cmpf .olt main_v23 main_v24
  let main_c_7 : IVec S_ 1 := constantI S_ 1 1#1
  let main_v26 : IVec S_ 1 := (fun x v => Host.reduce IntOp.andi x v reducesTo_S2x4x64_S_d0_1_2 h_S_) main_v25 main_c_7
  let main_v27 : IVec S_ 1 := andi main_v22 main_v26
  let main_v28 : FVec F S2x4x64x64 .f32 := Host.absf main_v6
  let main_cst_8 : FVec F S_ .f32 := constant S_ .f32 0x7F800000#32
  let main_v29 : FVec F S2x4x64x64 .f32 := broadcastInDim S2x4x64x64 ![] bcast_S_S2x4x64x64 main_cst_8
  let main_v30 : IVec S2x4x64x64 1 := cmpf .olt main_v28 main_v29
  let main_c_9 : IVec S_ 1 := constantI S_ 1 1#1
  let main_v31 : IVec S_ 1 := (fun x v => Host.reduce IntOp.andi x v reducesTo_S2x4x64x64_S_d0_1_2_3 h_S_) main_v30 main_c_9
  let main_v32 : IVec S_ 1 := andi main_v27 main_v31
  let main_v33 : FVec F S2x4x64 .f32 := Host.absf main_v7
  let main_cst_10 : FVec F S_ .f32 := constant S_ .f32 0x7F800000#32
  let main_v34 : FVec F S2x4x64 .f32 := broadcastInDim S2x4x64 ![] bcast_S_S2x4x64 main_cst_10
  fn_part2 (F := F) main_v32 main_v33 main_v34

def fn {F : FTy → Type} [FloatOps F] (main_arg0 : FVec F S8x96x321 .f32) (main_arg1 : FVec F S64 .f32) (main_arg2 : FVec F S64 .f32) (main_arg3 : FVec F S3x321x4 .f32) (main_arg4 : FVec F S3x4x64x64 .f32) (main_arg5 : FVec F S3x4x64 .f32) (main_arg6 : FVec F S3x4x64x64 .f32) (main_arg7 : FVec F S3x4x64 .f32) (main_arg8 : FVec F S6144x96 .f32) (main_arg9 : FVec F S96 .f32) : IVec S_ 1 :=
  let main_v0 : FVec F S64 .f32 := Host.absf main_arg1
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S2x4x64x64 .f32 := (extractStridedSlice S2x4x64x64 ![0, 0, 0, 0] · slices_S3x4x64x64_S2x4x64x64_0_0_0_0) main_arg4
  let main_v5 : FVec F S2x4x64 .f32 := (extractStridedSlice S2x4x64 ![0, 0, 0] · slices_S3x4x64_S2x4x64_0_0_0) main_arg5
  let main_v6 : FVec F S2x4x64x64 .f32 := (extractStridedSlice S2x4x64x64 ![0, 0, 0, 0] · slices_S3x4x64x64_S2x4x64x64_0_0_0_0) main_arg6
  let main_v7 : FVec F S2x4x64 .f32 := (extractStridedSlice S2x4x64 ![0, 0, 0] · slices_S3x4x64_S2x4x64_0_0_0) main_arg7
  let main_v8 : FVec F S64 .f32 := Host.absf main_arg2
  let main_cst_0 : FVec F S_ .f32 := constant S_ .f32 0x7F800000#32
  let main_v9 : FVec F S64 .f32 := broadcastInDim S64 ![] bcast_S_S64 main_cst_0
  let main_v10 : IVec S64 1 := cmpf .olt main_v8 main_v9
  let main_c_1 : IVec S_ 1 := constantI S_ 1 1#1
  let main_v11 : IVec S_ 1 := (fun x v => Host.reduce IntOp.andi x v reducesTo_S64_S_d0 h_S_) main_v10 main_c_1
  let main_v12 : IVec S_ 1 := andi main_v3 main_v11
  let main_v13 : FVec F S3x321x4 .f32 := Host.absf main_arg3
  let main_cst_2 : FVec F S_ .f32 := constant S_ .f32 0x7F800000#32
  let main_v14 : FVec F S3x321x4 .f32 := broadcastInDim S3x321x4 ![] bcast_S_S3x321x4 main_cst_2
  let main_v15 : IVec S3x321x4 1 := cmpf .olt main_v13 main_v14
  let main_c_3 : IVec S_ 1 := constantI S_ 1 1#1
  let main_v16 : IVec S_ 1 := (fun x v => Host.reduce IntOp.andi x v reducesTo_S3x321x4_S_d0_1_2 h_S_) main_v15 main_c_3
  let main_v17 : IVec S_ 1 := andi main_v12 main_v16
  fn_part1 (F := F) main_v4 main_v5 main_v6 main_v7 main_v17
-- ==== Kernel.lean ====
abbrev S8x96x321 : Shape := ⟨3, ![8, 96, 321]⟩
abbrev S64 : Shape := ⟨1, ![64]⟩
abbrev S3x321x4 : Shape := ⟨3, ![3, 321, 4]⟩
abbrev S3x4x64x64 : Shape := ⟨4, ![3, 4, 64, 64]⟩
abbrev S3x4x64 : Shape := ⟨3, ![3, 4, 64]⟩
abbrev S6144x96 : Shape := ⟨2, ![6144, 96]⟩
abbrev S96 : Shape := ⟨1, ![96]⟩
abbrev S_ : Shape := ⟨0, ![]⟩
abbrev S8x321 : Shape := ⟨2, ![8, 321]⟩
abbrev S8x1x321 : Shape := ⟨3, ![8, 1, 321]⟩
abbrev S8x96x321x1 : Shape := ⟨4, ![8, 96, 321, 1]⟩
abbrev S1x1x1x64 : Shape := ⟨4, ![1, 1, 1, 64]⟩
abbrev S8x96x321x64 : Shape := ⟨4, ![8, 96, 321, 64]⟩
abbrev S1x321x4 : Shape := ⟨3, ![1, 321, 4]⟩
abbrev S321x4 : Shape := ⟨2, ![321, 4]⟩
abbrev S8x4 : Shape := ⟨2, ![8, 4]⟩
abbrev S8x336 : Shape := ⟨2, ![8, 336]⟩
abbrev S8x336x1 : Shape := ⟨3, ![8, 336, 1]⟩
abbrev S8x321x96 : Shape := ⟨3, ![8, 321, 96]⟩
abbrev S8x336x96 : Shape := ⟨3, ![8, 336, 96]⟩
abbrev S8x336x48 : Shape := ⟨3, ![8, 336, 48]⟩
abbrev S3x336x4 : Shape := ⟨3, ![3, 336, 4]⟩
abbrev S1x64 : Shape := ⟨2, ![1, 64]⟩
abbrev S1x96 : Shape := ⟨2, ![1, 96]⟩
abbrev S1x4x64x64 : Shape := ⟨4, ![1, 4, 64, 64]⟩
abbrev S4x64x64 : Shape := ⟨3, ![4, 64, 64]⟩
abbrev S1x4x64 : Shape := ⟨3, ![1, 4, 64]⟩
abbrev S4x64 : Shape := ⟨2, ![4, 64]⟩
abbrev S8x128x256 : Shape := ⟨3, ![8, 128, 256]⟩
abbrev S8x1x256 : Shape := ⟨3, ![8, 1, 256]⟩
abbrev S8x256x128 : Shape := ⟨3, ![8, 256, 128]⟩
abbrev S8x1x128 : Shape := ⟨3, ![8, 1, 128]⟩
abbrev S8 : Shape := ⟨1, ![8]⟩
abbrev S8x1 : Shape := ⟨2, ![8, 1]⟩
abbrev S8x64x64 : Shape := ⟨3, ![8, 64, 64]⟩
abbrev S8x64 : Shape := ⟨2, ![8, 64]⟩
abbrev S8x1x1 : Shape := ⟨3, ![8, 1, 1]⟩
abbrev S1x64x64 : Shape := ⟨3, ![1, 64, 64]⟩
abbrev S64x64 : Shape := ⟨2, ![64, 64]⟩
abbrev S8x64x128 : Shape := ⟨3, ![8, 64, 128]⟩
abbrev S8x128x64 : Shape := ⟨3, ![8, 128, 64]⟩
abbrev S8x128 : Shape := ⟨2, ![8, 128]⟩
abbrev S8x64x256 : Shape := ⟨3, ![8, 64, 256]⟩
abbrev S8x128x128 : Shape := ⟨3, ![8, 128, 128]⟩
abbrev S8x256 : Shape := ⟨2, ![8, 256]⟩
abbrev S8x16128x128 : Shape := ⟨3, ![8, 16128, 128]⟩
abbrev S8x1x336x1 : Shape := ⟨4, ![8, 1, 336, 1]⟩
abbrev S1x336x96 : Shape := ⟨3, ![1, 336, 96]⟩
abbrev S1x336x1 : Shape := ⟨3, ![1, 336, 1]⟩
abbrev S1x128x256 : Shape := ⟨3, ![1, 128, 256]⟩
abbrev S1x1x256 : Shape := ⟨3, ![1, 1, 256]⟩
abbrev S1x256x128 : Shape := ⟨3, ![1, 256, 128]⟩
abbrev S1x1x128 : Shape := ⟨3, ![1, 1, 128]⟩
abbrev S1x16128x128 : Shape := ⟨3, ![1, 16128, 128]⟩
abbrev S1x1x336x1 : Shape := ⟨4, ![1, 1, 336, 1]⟩
abbrev S336x96 : Shape := ⟨2, ![336, 96]⟩
abbrev S336x1 : Shape := ⟨2, ![336, 1]⟩
abbrev S336x48 : Shape := ⟨2, ![336, 48]⟩
abbrev S1x1x64 : Shape := ⟨3, ![1, 1, 64]⟩
abbrev S336x48x1 : Shape := ⟨3, ![336, 48, 1]⟩
abbrev S336x48x64 : Shape := ⟨3, ![336, 48, 64]⟩
abbrev S336x48x128 : Shape := ⟨3, ![336, 48, 128]⟩
abbrev S16128x128 : Shape := ⟨2, ![16128, 128]⟩
abbrev S128x256 : Shape := ⟨2, ![128, 256]⟩
abbrev S16128x256 : Shape := ⟨2, ![16128, 256]⟩
abbrev S1x256 : Shape := ⟨2, ![1, 256]⟩
abbrev S256x128 : Shape := ⟨2, ![256, 128]⟩
abbrev S1x128 : Shape := ⟨2, ![1, 128]⟩
abbrev S336x128 : Shape := ⟨2, ![336, 128]⟩
abbrev S336 : Shape := ⟨1, ![336]⟩
abbrev S1x336x4 : Shape := ⟨3, ![1, 336, 4]⟩
abbrev S336x4 : Shape := ⟨2, ![336, 4]⟩
abbrev S336x1x128 : Shape := ⟨3, ![336, 1, 128]⟩
abbrev S336x6144 : Shape := ⟨2, ![336, 6144]⟩
abbrev S1x8x4 : Shape := ⟨3, ![1, 8, 4]⟩
abbrev S3x8x4 : Shape := ⟨3, ![3, 8, 4]⟩
abbrev S1x1 : Shape := ⟨2, ![1, 1]⟩
abbrev S3x4 : Shape := ⟨2, ![3, 4]⟩
abbrev S3 : Shape := ⟨1, ![3]⟩
abbrev S3x1 : Shape := ⟨2, ![3, 1]⟩
abbrev S1 : Shape := ⟨1, ![1]⟩
abbrev S3x8 : Shape := ⟨2, ![3, 8]⟩

abbrev nBuf : Space → Nat
  | .hbm => 154
  | .vmem => 89
  | .smem => 0
  | _ => 0

abbrev hbmTy0_0 (i : Nat) : BufTy := match i % 128 with
  | 0 => ⟨S8x96x321, .f32⟩
  | 1 => ⟨S64, .f32⟩
  | 2 => ⟨S64, .f32⟩
  | 3 => ⟨S3x321x4, .f32⟩
  | 4 => ⟨S3x4x64x64, .f32⟩
  | 5 => ⟨S3x4x64, .f32⟩
  | 6 => ⟨S3x4x64x64, .f32⟩
  | 7 => ⟨S3x4x64, .f32⟩
  | 8 => ⟨S6144x96, .f32⟩
  | 9 => ⟨S96, .f32⟩
  | 10 => ⟨S_, .f32⟩
  | 11 => ⟨S8x321, .f32⟩
  | 12 => ⟨S8x1x321, .f32⟩
  | 13 => ⟨S_, .f32⟩
  | 14 => ⟨S8x1x321, .f32⟩
  | 15 => ⟨S8x1x321, .f32⟩
  | 16 => ⟨S_, .i32⟩
  | 17 => ⟨S_, .f32⟩
  | 18 => ⟨S8x321, .f32⟩
  | 19 => ⟨S8x1x321, .f32⟩
  | 20 => ⟨S_, .f32⟩
  | 21 => ⟨S8x1x321, .f32⟩
  | 22 => ⟨S8x1x321, .f32⟩
  | 23 => ⟨S8x96x321, .f32⟩
  | 24 => ⟨S8x96x321, .f32⟩
  | 25 => ⟨S8x96x321, .f32⟩
  | 26 => ⟨S_, .f32⟩
  | 27 => ⟨S_, .f32⟩
  | 28 => ⟨S_, .f32⟩
  | 29 => ⟨S_, .f32⟩
  | 30 => ⟨S8x321, .f32⟩
  | 31 => ⟨S8x1x321, .f32⟩
  | 32 => ⟨S8x1x321, .f32⟩
  | 33 => ⟨S8x1x321, .f32⟩
  | 34 => ⟨S_, .f32⟩
  | 35 => ⟨S_, .i1⟩
  | 36 => ⟨S_, .f32⟩
  | 37 => ⟨S_, .f32⟩
  | 38 => ⟨S8x1x321, .f32⟩
  | 39 => ⟨S8x1x321, .f32⟩
  | 40 => ⟨S_, .f32⟩
  | 41 => ⟨S8x1x321, .f32⟩
  | 42 => ⟨S8x1x321, .f32⟩
  | 43 => ⟨S8x1x321, .f32⟩
  | 44 => ⟨S8x96x321, .f32⟩
  | 45 => ⟨S8x96x321, .f32⟩
  | 46 => ⟨S8x96x321, .f32⟩
  | 47 => ⟨S8x96x321, .f32⟩
  | 48 => ⟨S8x96x321x1, .f32⟩
  | 49 => ⟨S1x1x1x64, .f32⟩
  | 50 => ⟨S8x96x321x64, .f32⟩
  | 51 => ⟨S8x96x321x64, .f32⟩
  | 52 => ⟨S8x96x321x64, .f32⟩
  | 53 => ⟨S1x1x1x64, .f32⟩
  | 54 => ⟨S8x96x321x64, .f32⟩
  | 55 => ⟨S8x96x321x64, .f32⟩
  | 56 => ⟨S_, .f32⟩
  | 57 => ⟨S8x321, .f32⟩
  | 58 => ⟨S_, .f32⟩
  | 59 => ⟨S8x321, .f32⟩
  | 60 => ⟨S8x321, .f32⟩
  | 61 => ⟨S1x321x4, .f32⟩
  | 62 => ⟨S321x4, .f32⟩
  | 63 => ⟨S8x4, .f32⟩
  | 64 => ⟨S8x321, .f32⟩
  | 65 => ⟨S_, .i32⟩
  | 66 => ⟨S_, .f32⟩
  | 67 => ⟨S8x336, .f32⟩
  | 68 => ⟨S8x336x1, .f32⟩
  | 69 => ⟨S8x321, .f32⟩
  | 70 => ⟨S_, .f32⟩
  | 71 => ⟨S_, .f32⟩
  | 72 => ⟨S8x336, .f32⟩
  | 73 => ⟨S8x336x1, .f32⟩
  | 74 => ⟨S8x321x96, .f32⟩
  | 75 => ⟨S_, .i32⟩
  | 76 => ⟨S_, .f32⟩
  | 77 => ⟨S8x336x96, .f32⟩
  | 78 => ⟨S8x336x48, .f32⟩
  | 79 => ⟨S8x336x48, .f32⟩
  | 80 => ⟨S8x336x96, .f32⟩
  | 81 => ⟨S_, .i32⟩
  | 82 => ⟨S_, .f32⟩
  | 83 => ⟨S3x336x4, .f32⟩
  | 84 => ⟨S1x64, .f32⟩
  | 85 => ⟨S1x64, .f32⟩
  | 86 => ⟨S1x96, .f32⟩
  | 87 => ⟨S1x4x64x64, .f32⟩
  | 88 => ⟨S4x64x64, .f32⟩
  | 89 => ⟨S1x4x64, .f32⟩
  | 90 => ⟨S4x64, .f32⟩
  | 91 => ⟨S1x4x64x64, .f32⟩
  | 92 => ⟨S4x64x64, .f32⟩
  | 93 => ⟨S1x4x64, .f32⟩
  | 94 => ⟨S4x64, .f32⟩
  | 95 => ⟨S8x128x256, .f32⟩
  | 96 => ⟨S8x1x256, .f32⟩
  | 97 => ⟨S8x256x128, .f32⟩
  | 98 => ⟨S8x1x128, .f32⟩
  | 99 => ⟨S8x4, .f32⟩
  | 100 => ⟨S8x128x256, .bf16⟩
  | 101 => ⟨S8x256x128, .bf16⟩
  | 102 => ⟨S8x16128x128, .bf16⟩
  | 103 => ⟨S8x1x336x1, .f32⟩
  | 104 => ⟨S8x336, .f32⟩
  | 105 => ⟨S1x336x4, .f32⟩
  | 106 => ⟨S336x4, .f32⟩
  | 107 => ⟨S1x4x64x64, .f32⟩
  | 108 => ⟨S4x64x64, .f32⟩
  | 109 => ⟨S1x4x64, .f32⟩
  | 110 => ⟨S4x64, .f32⟩
  | 111 => ⟨S1x4x64x64, .f32⟩
  | 112 => ⟨S4x64x64, .f32⟩
  | 113 => ⟨S1x4x64, .f32⟩
  | 114 => ⟨S4x64, .f32⟩
  | 115 => ⟨S8x128x256, .f32⟩
  | 116 => ⟨S8x1x256, .f32⟩
  | 117 => ⟨S8x256x128, .f32⟩
  | 118 => ⟨S8x1x128, .f32⟩
  | 119 => ⟨S8x4, .f32⟩
  | 120 => ⟨S8x128x256, .bf16⟩
  | 121 => ⟨S8x256x128, .bf16⟩
  | 122 => ⟨S8x16128x128, .bf16⟩
  | 123 => ⟨S8x1x336x1, .f32⟩
  | 124 => ⟨S8x336, .f32⟩
  | 125 => ⟨S1x336x4, .f32⟩
  | 126 => ⟨S336x4, .f32⟩
  | 127 => ⟨S1x4x64x64, .f32⟩
  | _ => ⟨S8x96x321, .f32⟩

abbrev hbmTy0_1 (i : Nat) : BufTy := match i % 128 with
  | 0 => ⟨S4x64x64, .f32⟩
  | 1 => ⟨S1x4x64, .f32⟩
  | 2 => ⟨S4x64, .f32⟩
  | 3 => ⟨S1x4x64x64, .f32⟩
  | 4 => ⟨S4x64x64, .f32⟩
  | 5 => ⟨S1x4x64, .f32⟩
  | 6 => ⟨S4x64, .f32⟩
  | 7 => ⟨S8x128x256, .f32⟩
  | 8 => ⟨S8x1x256, .f32⟩
  | 9 => ⟨S8x256x128, .f32⟩
  | 10 => ⟨S8x1x128, .f32⟩
  | 11 => ⟨S8x4, .f32⟩
  | 12 => ⟨S6144x96, .bf16⟩
  | 13 => ⟨S8x128x256, .bf16⟩
  | 14 => ⟨S8x256x128, .bf16⟩
  | 15 => ⟨S8x336x96, .f32⟩
  | 16 => ⟨S8x321x96, .f32⟩
  | 17 => ⟨S8x96x321, .f32⟩
  | 18 => ⟨S1x8x4, .f32⟩
  | 19 => ⟨S1x8x4, .f32⟩
  | 20 => ⟨S1x8x4, .f32⟩
  | 21 => ⟨S3x8x4, .f32⟩
  | 22 => ⟨S1x1, .f32⟩
  | 23 => ⟨S1x1, .f32⟩
  | 24 => ⟨S_, .f32⟩
  | 25 => ⟨S_, .f32⟩
  | _ => ⟨S8x96x321, .f32⟩

abbrev hbmTy (i : Nat) : BufTy := match i / 128 with
  | 0 => hbmTy0_0 i
  | 1 => hbmTy0_1 i
  | _ => ⟨S8x96x321, .f32⟩

abbrev bufTy : (tb : Table) → Fin (tcTables nBuf tb) → BufTy
  | .hbm, ⟨i, _⟩ => hbmTy i
  | .local _ .vmem, ⟨0, _⟩ => ⟨S8x4, .f32⟩
  | .local _ .vmem, ⟨1, _⟩ => ⟨S4x64x64, .f32⟩
  | .local _ .vmem, ⟨2, _⟩ => ⟨S4x64, .f32⟩
  | .local _ .vmem, ⟨3, _⟩ => ⟨S4x64x64, .f32⟩
  | .local _ .vmem, ⟨4, _⟩ => ⟨S4x64, .f32⟩
  | .local _ .vmem, ⟨5, _⟩ => ⟨S8x128x256, .f32⟩
  | .local _ .vmem, ⟨6, _⟩ => ⟨S8x1x256, .f32⟩
  | .local _ .vmem, ⟨7, _⟩ => ⟨S8x256x128, .f32⟩
  | .local _ .vmem, ⟨8, _⟩ => ⟨S8x1x128, .f32⟩
  | .local _ .vmem, ⟨9, _⟩ => ⟨S8x4, .f32⟩
  | .local _ .vmem, ⟨10, _⟩ => ⟨S1x336x96, .f32⟩
  | .local _ .vmem, ⟨11, _⟩ => ⟨S1x336x96, .f32⟩
  | .local _ .vmem, ⟨12, _⟩ => ⟨S1x336x1, .f32⟩
  | .local _ .vmem, ⟨13, _⟩ => ⟨S1x336x1, .f32⟩
  | .local _ .vmem, ⟨14, _⟩ => ⟨S1x336x1, .f32⟩
  | .local _ .vmem, ⟨15, _⟩ => ⟨S1x336x1, .f32⟩
  | .local _ .vmem, ⟨16, _⟩ => ⟨S1x64, .f32⟩
  | .local _ .vmem, ⟨17, _⟩ => ⟨S1x64, .f32⟩
  | .local _ .vmem, ⟨18, _⟩ => ⟨S1x128x256, .bf16⟩
  | .local _ .vmem, ⟨19, _⟩ => ⟨S1x128x256, .bf16⟩
  | .local _ .vmem, ⟨20, _⟩ => ⟨S1x1x256, .f32⟩
  | .local _ .vmem, ⟨21, _⟩ => ⟨S1x1x256, .f32⟩
  | .local _ .vmem, ⟨22, _⟩ => ⟨S1x256x128, .bf16⟩
  | .local _ .vmem, ⟨23, _⟩ => ⟨S1x256x128, .bf16⟩
  | .local _ .vmem, ⟨24, _⟩ => ⟨S1x1x128, .f32⟩
  | .local _ .vmem, ⟨25, _⟩ => ⟨S1x1x128, .f32⟩
  | .local _ .vmem, ⟨26, _⟩ => ⟨S1x16128x128, .bf16⟩
  | .local _ .vmem, ⟨27, _⟩ => ⟨S1x16128x128, .bf16⟩
  | .local _ .vmem, ⟨28, _⟩ => ⟨S1x1x336x1, .f32⟩
  | .local _ .vmem, ⟨29, _⟩ => ⟨S1x1x336x1, .f32⟩
  | .local _ .vmem, ⟨30, _⟩ => ⟨S8x336, .f32⟩
  | .local _ .vmem, ⟨31, _⟩ => ⟨S336x4, .f32⟩
  | .local _ .vmem, ⟨32, _⟩ => ⟨S4x64x64, .f32⟩
  | .local _ .vmem, ⟨33, _⟩ => ⟨S4x64, .f32⟩
  | .local _ .vmem, ⟨34, _⟩ => ⟨S4x64x64, .f32⟩
  | .local _ .vmem, ⟨35, _⟩ => ⟨S4x64, .f32⟩
  | .local _ .vmem, ⟨36, _⟩ => ⟨S8x128x256, .f32⟩
  | .local _ .vmem, ⟨37, _⟩ => ⟨S8x1x256, .f32⟩
  | .local _ .vmem, ⟨38, _⟩ => ⟨S8x256x128, .f32⟩
  | .local _ .vmem, ⟨39, _⟩ => ⟨S8x1x128, .f32⟩
  | .local _ .vmem, ⟨40, _⟩ => ⟨S8x4, .f32⟩
  | .local _ .vmem, ⟨41, _⟩ => ⟨S1x16128x128, .bf16⟩
  | .local _ .vmem, ⟨42, _⟩ => ⟨S1x16128x128, .bf16⟩
  | .local _ .vmem, ⟨43, _⟩ => ⟨S1x1x336x1, .f32⟩
  | .local _ .vmem, ⟨44, _⟩ => ⟨S1x1x336x1, .f32⟩
  | .local _ .vmem, ⟨45, _⟩ => ⟨S1x128x256, .bf16⟩
  | .local _ .vmem, ⟨46, _⟩ => ⟨S1x128x256, .bf16⟩
  | .local _ .vmem, ⟨47, _⟩ => ⟨S1x1x256, .f32⟩
  | .local _ .vmem, ⟨48, _⟩ => ⟨S1x1x256, .f32⟩
  | .local _ .vmem, ⟨49, _⟩ => ⟨S1x256x128, .bf16⟩
  | .local _ .vmem, ⟨50, _⟩ => ⟨S1x256x128, .bf16⟩
  | .local _ .vmem, ⟨51, _⟩ => ⟨S1x1x128, .f32⟩
  | .local _ .vmem, ⟨52, _⟩ => ⟨S1x1x128, .f32⟩
  | .local _ .vmem, ⟨53, _⟩ => ⟨S1x16128x128, .bf16⟩
  | .local _ .vmem, ⟨54, _⟩ => ⟨S1x16128x128, .bf16⟩
  | .local _ .vmem, ⟨55, _⟩ => ⟨S1x1x336x1, .f32⟩
  | .local _ .vmem, ⟨56, _⟩ => ⟨S1x1x336x1, .f32⟩
  | .local _ .vmem, ⟨57, _⟩ => ⟨S8x336, .f32⟩
  | .local _ .vmem, ⟨58, _⟩ => ⟨S336x4, .f32⟩
  | .local _ .vmem, ⟨59, _⟩ => ⟨S4x64x64, .f32⟩
  | .local _ .vmem, ⟨60, _⟩ => ⟨S4x64, .f32⟩
  | .local _ .vmem, ⟨61, _⟩ => ⟨S4x64x64, .f32⟩
  | .local _ .vmem, ⟨62, _⟩ => ⟨S4x64, .f32⟩
  | .local _ .vmem, ⟨63, _⟩ => ⟨S8x128x256, .f32⟩
  | .local _ .vmem, ⟨64, _⟩ => ⟨S8x1x256, .f32⟩
  | .local _ .vmem, ⟨65, _⟩ => ⟨S8x256x128, .f32⟩
  | .local _ .vmem, ⟨66, _⟩ => ⟨S8x1x128, .f32⟩
  | .local _ .vmem, ⟨67, _⟩ => ⟨S8x4, .f32⟩
  | .local _ .vmem, ⟨68, _⟩ => ⟨S1x16128x128, .bf16⟩
  | .local _ .vmem, ⟨69, _⟩ => ⟨S1x16128x128, .bf16⟩
  | .local _ .vmem, ⟨70, _⟩ => ⟨S1x128x256, .bf16⟩
  | .local _ .vmem, ⟨71, _⟩ => ⟨S1x128x256, .bf16⟩
  | .local _ .vmem, ⟨72, _⟩ => ⟨S1x1x256, .f32⟩
  | .local _ .vmem, ⟨73, _⟩ => ⟨S1x1x256, .f32⟩
  | .local _ .vmem, ⟨74, _⟩ => ⟨S1x256x128, .bf16⟩
  | .local _ .vmem, ⟨75, _⟩ => ⟨S1x256x128, .bf16⟩
  | .local _ .vmem, ⟨76, _⟩ => ⟨S1x1x128, .f32⟩
  | .local _ .vmem, ⟨77, _⟩ => ⟨S1x1x128, .f32⟩
  | .local _ .vmem, ⟨78, _⟩ => ⟨S6144x96, .bf16⟩
  | .local _ .vmem, ⟨79, _⟩ => ⟨S1x96, .f32⟩
  | .local _ .vmem, ⟨80, _⟩ => ⟨S1x336x1, .f32⟩
  | .local _ .vmem, ⟨81, _⟩ => ⟨S1x336x1, .f32⟩
  | .local _ .vmem, ⟨82, _⟩ => ⟨S1x336x1, .f32⟩
  | .local _ .vmem, ⟨83, _⟩ => ⟨S1x336x1, .f32⟩
  | .local _ .vmem, ⟨84, _⟩ => ⟨S1x336x96, .f32⟩
  | .local _ .vmem, ⟨85, _⟩ => ⟨S1x336x96, .f32⟩
  | .local _ .vmem, ⟨86, _⟩ => ⟨S3x8x4, .f32⟩
  | .local _ .vmem, ⟨87, _⟩ => ⟨S1x1, .f32⟩
  | .local _ .vmem, ⟨88, _⟩ => ⟨S1x1, .f32⟩
  | _, _ => ⟨S8x96x321, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | _, _ => false

abbrev semScoped : Fin 0 → Bool
  | ⟨_, h⟩ => absurd h (Nat.not_lt_zero _)

abbrev dmaSemScoped : Fin 89 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | _ => false

abbrev sig : RefSig :=
  ofTc nBuf bufTy 0 89 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_v13 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v4 : Ref sig .tc := ⟨.hbm, 39, rfl⟩
abbrev main_cst_1 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_2 : Ref sig .tc := ⟨.hbm, 56, rfl⟩
abbrev main_v20 : Ref sig .tc := ⟨.hbm, 57, rfl⟩
abbrev main_cst_3 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_c_4 : Ref sig .tc := ⟨.hbm, 65, rfl⟩
abbrev main_call1_v0 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst_5 : Ref sig .tc := ⟨.hbm, 70, rfl⟩
abbrev main_call2_v0 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_c_6 : Ref sig .tc := ⟨.hbm, 75, rfl⟩
abbrev main_call3_v0 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_c_7 : Ref sig .tc := ⟨.hbm, 81, rfl⟩
abbrev main_call4_v0 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49_0 : Ref sig .tc := ⟨.hbm, 95, rfl⟩
abbrev main_v49_1 : Ref sig .tc := ⟨.hbm, 96, rfl⟩
abbrev main_v49_2 : Ref sig .tc := ⟨.hbm, 97, rfl⟩
abbrev main_v49_3 : Ref sig .tc := ⟨.hbm, 98, rfl⟩
abbrev main_v49_4 : Ref sig .tc := ⟨.hbm, 99, rfl⟩
abbrev main_v50 : Ref sig .tc := ⟨.hbm, 100, rfl⟩
abbrev main_v51 : Ref sig .tc := ⟨.hbm, 101, rfl⟩
abbrev main_v52_0 : Ref sig .tc := ⟨.hbm, 102, rfl⟩
abbrev main_v52_1 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64_0 : Ref sig .tc := ⟨.hbm, 115, rfl⟩
abbrev main_v64_1 : Ref sig .tc := ⟨.hbm, 116, rfl⟩
abbrev main_v64_2 : Ref sig .tc := ⟨.hbm, 117, rfl⟩
abbrev main_v64_3 : Ref sig .tc := ⟨.hbm, 118, rfl⟩
abbrev main_v64_4 : Ref sig .tc := ⟨.hbm, 119, rfl⟩
abbrev main_v65 : Ref sig .tc := ⟨.hbm, 120, rfl⟩
abbrev main_v66 : Ref sig .tc := ⟨.hbm, 121, rfl⟩
abbrev main_v67_0 : Ref sig .tc := ⟨.hbm, 122, rfl⟩
abbrev main_v67_1 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79_0 : Ref sig .tc := ⟨.hbm, 135, rfl⟩
abbrev main_v79_1 : Ref sig .tc := ⟨.hbm, 136, rfl⟩
abbrev main_v79_2 : Ref sig .tc := ⟨.hbm, 137, rfl⟩
abbrev main_v79_3 : Ref sig .tc := ⟨.hbm, 138, rfl⟩
abbrev main_v79_4 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90_0 : Ref sig .tc := ⟨.hbm, 150, rfl⟩
abbrev main_v90_1 : Ref sig .tc := ⟨.hbm, 151, rfl⟩
abbrev main_v91 : Ref sig .tc := ⟨.hbm, 152, rfl⟩
abbrev main_v92 : Ref sig .tc := ⟨.hbm, 153, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc2_stg0_0 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc3_stg0_0 : Ref sig .tc := ⟨.vmem, 41, rfl⟩
abbrev cc3_stg0_1 : Ref sig .tc := ⟨.vmem, 42, rfl⟩
abbrev cc3_stg1_0 : Ref sig .tc := ⟨.vmem, 43, rfl⟩
abbrev cc3_stg1_1 : Ref sig .tc := ⟨.vmem, 44, rfl⟩
abbrev cc3_stg2_0 : Ref sig .tc := ⟨.vmem, 45, rfl⟩
abbrev cc3_stg2_1 : Ref sig .tc := ⟨.vmem, 46, rfl⟩
abbrev cc3_stg3_0 : Ref sig .tc := ⟨.vmem, 47, rfl⟩
abbrev cc3_stg3_1 : Ref sig .tc := ⟨.vmem, 48, rfl⟩
abbrev cc3_stg4_0 : Ref sig .tc := ⟨.vmem, 49, rfl⟩
abbrev cc3_stg4_1 : Ref sig .tc := ⟨.vmem, 50, rfl⟩
abbrev cc3_stg5_0 : Ref sig .tc := ⟨.vmem, 51, rfl⟩
abbrev cc3_stg5_1 : Ref sig .tc := ⟨.vmem, 52, rfl⟩
abbrev cc3_stg6_0 : Ref sig .tc := ⟨.vmem, 53, rfl⟩
abbrev cc3_stg6_1 : Ref sig .tc := ⟨.vmem, 54, rfl⟩
abbrev cc3_stg7_0 : Ref sig .tc := ⟨.vmem, 55, rfl⟩
abbrev cc3_stg7_1 : Ref sig .tc := ⟨.vmem, 56, rfl⟩
abbrev cc4_stg0_0 : Ref sig .tc := ⟨.vmem, 57, rfl⟩
abbrev cc4_stg1_0 : Ref sig .tc := ⟨.vmem, 58, rfl⟩
abbrev cc4_stg2_0 : Ref sig .tc := ⟨.vmem, 59, rfl⟩
abbrev cc4_stg3_0 : Ref sig .tc := ⟨.vmem, 60, rfl⟩
abbrev cc4_stg4_0 : Ref sig .tc := ⟨.vmem, 61, rfl⟩
abbrev cc4_stg5_0 : Ref sig .tc := ⟨.vmem, 62, rfl⟩
abbrev cc4_stg6_0 : Ref sig .tc := ⟨.vmem, 63, rfl⟩
abbrev cc4_stg7_0 : Ref sig .tc := ⟨.vmem, 64, rfl⟩
abbrev cc4_stg8_0 : Ref sig .tc := ⟨.vmem, 65, rfl⟩
abbrev cc4_stg9_0 : Ref sig .tc := ⟨.vmem, 66, rfl⟩
abbrev cc4_stg10_0 : Ref sig .tc := ⟨.vmem, 67, rfl⟩
abbrev cc5_stg0_0 : Ref sig .tc := ⟨.vmem, 68, rfl⟩
abbrev cc5_stg0_1 : Ref sig .tc := ⟨.vmem, 69, rfl⟩
abbrev cc5_stg1_0 : Ref sig .tc := ⟨.vmem, 70, rfl⟩
abbrev cc5_stg1_1 : Ref sig .tc := ⟨.vmem, 71, rfl⟩
abbrev cc5_stg2_0 : Ref sig .tc := ⟨.vmem, 72, rfl⟩
abbrev cc5_stg2_1 : Ref sig .tc := ⟨.vmem, 73, rfl⟩
abbrev cc5_stg3_0 : Ref sig .tc := ⟨.vmem, 74, rfl⟩
abbrev cc5_stg3_1 : Ref sig .tc := ⟨.vmem, 75, rfl⟩
abbrev cc5_stg4_0 : Ref sig .tc := ⟨.vmem, 76, rfl⟩
abbrev cc5_stg4_1 : Ref sig .tc := ⟨.vmem, 77, rfl⟩
abbrev cc5_stg5_0 : Ref sig .tc := ⟨.vmem, 78, rfl⟩
abbrev cc5_stg6_0 : Ref sig .tc := ⟨.vmem, 79, rfl⟩
abbrev cc5_stg7_0 : Ref sig .tc := ⟨.vmem, 80, rfl⟩
abbrev cc5_stg7_1 : Ref sig .tc := ⟨.vmem, 81, rfl⟩
abbrev cc5_stg8_0 : Ref sig .tc := ⟨.vmem, 82, rfl⟩
abbrev cc5_stg8_1 : Ref sig .tc := ⟨.vmem, 83, rfl⟩
abbrev cc5_stg9_0 : Ref sig .tc := ⟨.vmem, 84, rfl⟩
abbrev cc5_stg9_1 : Ref sig .tc := ⟨.vmem, 85, rfl⟩
abbrev cc6_stg0_0 : Ref sig .tc := ⟨.vmem, 86, rfl⟩
abbrev cc6_stg1_0 : Ref sig .tc := ⟨.vmem, 87, rfl⟩
abbrev cc6_stg2_0 : Ref sig .tc := ⟨.vmem, 88, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28
abbrev cc1_sem10_1 : DmaSem sig := 29
abbrev cc2_sem0_0 : DmaSem sig := 30
abbrev cc2_sem1_0 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc3_sem0_0 : DmaSem sig := 41
abbrev cc3_sem0_1 : DmaSem sig := 42
abbrev cc3_sem1_0 : DmaSem sig := 43
abbrev cc3_sem1_1 : DmaSem sig := 44
abbrev cc3_sem2_0 : DmaSem sig := 45
abbrev cc3_sem2_1 : DmaSem sig := 46
abbrev cc3_sem3_0 : DmaSem sig := 47
abbrev cc3_sem3_1 : DmaSem sig := 48
abbrev cc3_sem4_0 : DmaSem sig := 49
abbrev cc3_sem4_1 : DmaSem sig := 50
abbrev cc3_sem5_0 : DmaSem sig := 51
abbrev cc3_sem5_1 : DmaSem sig := 52
abbrev cc3_sem6_0 : DmaSem sig := 53
abbrev cc3_sem6_1 : DmaSem sig := 54
abbrev cc3_sem7_0 : DmaSem sig := 55
abbrev cc3_sem7_1 : DmaSem sig := 56
abbrev cc4_sem0_0 : DmaSem sig := 57
abbrev cc4_sem1_0 : DmaSem sig := 58
abbrev cc4_sem2_0 : DmaSem sig := 59
abbrev cc4_sem3_0 : DmaSem sig := 60
abbrev cc4_sem4_0 : DmaSem sig := 61
abbrev cc4_sem5_0 : DmaSem sig := 62
abbrev cc4_sem6_0 : DmaSem sig := 63
abbrev cc4_sem7_0 : DmaSem sig := 64
abbrev cc4_sem8_0 : DmaSem sig := 65
abbrev cc4_sem9_0 : DmaSem sig := 66
abbrev cc4_sem10_0 : DmaSem sig := 67
abbrev cc5_sem0_0 : DmaSem sig := 68
abbrev cc5_sem0_1 : DmaSem sig := 69
abbrev cc5_sem1_0 : DmaSem sig := 70
abbrev cc5_sem1_1 : DmaSem sig := 71
abbrev cc5_sem2_0 : DmaSem sig := 72
abbrev cc5_sem2_1 : DmaSem sig := 73
abbrev cc5_sem3_0 : DmaSem sig := 74
abbrev cc5_sem3_1 : DmaSem sig := 75
abbrev cc5_sem4_0 : DmaSem sig := 76
abbrev cc5_sem4_1 : DmaSem sig := 77
abbrev cc5_sem5_0 : DmaSem sig := 78
abbrev cc5_sem6_0 : DmaSem sig := 79
abbrev cc5_sem7_0 : DmaSem sig := 80
abbrev cc5_sem7_1 : DmaSem sig := 81
abbrev cc5_sem8_0 : DmaSem sig := 82
abbrev cc5_sem8_1 : DmaSem sig := 83
abbrev cc5_sem9_0 : DmaSem sig := 84
abbrev cc5_sem9_1 : DmaSem sig := 85
abbrev cc6_sem0_0 : DmaSem sig := 86
abbrev cc6_sem1_0 : DmaSem sig := 87
abbrev cc6_sem2_0 : DmaSem sig := 88

abbrev nD : Nat := 1
abbrev τ : Topo := Topo.v7x

variable {F : FTy → Type} [FloatOps F]

abbrev grid0 : Pipeline.Grid := .none

abbrev stage0_0 : Fin 1 → Memref sig .tc .vmem S8x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨2, ![8, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x336x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x336x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x336x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x128x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x256x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x16128x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x1x336x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev grid2 : Pipeline.Grid := .none

abbrev stage2_0 : Fin 1 → Memref sig .tc .vmem S8x336 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S336x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S4x64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S4x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S4x64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S4x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S8x128x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S8x1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S8x256x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S8x1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S8x4 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev grid3 : Pipeline.Grid := ⟨2, ![8, 1], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_7 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x16128x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1x336x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x128x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x1x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x256x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1x1x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S1x16128x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x1x336x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev grid4 : Pipeline.Grid := .none

abbrev stage4_0 : Fin 1 → Memref sig .tc .vmem S8x336 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S336x4 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S4x64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S4x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S4x64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S4x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S8x128x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev stage4_7 : Fin 1 → Memref sig .tc .vmem S8x1x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))

abbrev stage4_8 : Fin 1 → Memref sig .tc .vmem S8x256x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))

abbrev stage4_9 : Fin 1 → Memref sig .tc .vmem S8x1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))

abbrev stage4_10 : Fin 1 → Memref sig .tc .vmem S8x4 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))

abbrev grid5 : Pipeline.Grid := ⟨2, ![8, 1], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_4 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_8 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_9 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x16128x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x128x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x1x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1x256x128 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S1x1x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev stage5_5 : Fin 1 → Memref sig .tc .vmem S6144x96 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 1 → Memref sig .tc .vmem S1x96 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false, false]

abbrev stage5_7 : Fin 2 → Memref sig .tc .vmem S1x336x1 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]

abbrev stage5_8 : Fin 2 → Memref sig .tc .vmem S1x336x1 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true, true]

abbrev stage5_9 : Fin 2 → Memref sig .tc .vmem S1x336x96 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true, true]

abbrev grid6 : Pipeline.Grid := .none

abbrev stage6_0 : Fin 1 → Memref sig .tc .vmem S3x8x4 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S1x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
-- ==== KernelIdeal.lean ====
variable {F : FTy → Type} [FloatOps F] [Named F]
def κ : String → Option EReal := fun
  | "inv6144" => some ((6144⁻¹ : ℝ) : EReal)
  | _ => none
-- ==== ReferenceIdeal.lean ====
abbrev S8x96x321 : Shape := ⟨3, ![8, 96, 321]⟩
abbrev S64 : Shape := ⟨1, ![64]⟩
abbrev S3x321x4 : Shape := ⟨3, ![3, 321, 4]⟩
abbrev S3x4x64x64 : Shape := ⟨4, ![3, 4, 64, 64]⟩
abbrev S3x4x64 : Shape := ⟨3, ![3, 4, 64]⟩
abbrev S6144x96 : Shape := ⟨2, ![6144, 96]⟩
abbrev S96 : Shape := ⟨1, ![96]⟩
abbrev S_ : Shape := ⟨0, ![]⟩
abbrev S8x321 : Shape := ⟨2, ![8, 321]⟩
abbrev S8x1x321 : Shape := ⟨3, ![8, 1, 321]⟩
abbrev S8x96x321x1 : Shape := ⟨4, ![8, 96, 321, 1]⟩
abbrev S1x1x1x64 : Shape := ⟨4, ![1, 1, 1, 64]⟩
abbrev S8x96x321x64 : Shape := ⟨4, ![8, 96, 321, 64]⟩
abbrev S1x321x4 : Shape := ⟨3, ![1, 321, 4]⟩
abbrev S321x4 : Shape := ⟨2, ![321, 4]⟩
abbrev S1x4x64x64 : Shape := ⟨4, ![1, 4, 64, 64]⟩
abbrev S4x64x64 : Shape := ⟨3, ![4, 64, 64]⟩
abbrev S1x4x64 : Shape := ⟨3, ![1, 4, 64]⟩
abbrev S4x64 : Shape := ⟨2, ![4, 64]⟩
abbrev S8x4 : Shape := ⟨2, ![8, 4]⟩
abbrev S8x2 : Shape := ⟨2, ![8, 2]⟩
abbrev S8 : Shape := ⟨1, ![8]⟩
abbrev S8x1 : Shape := ⟨2, ![8, 1]⟩
abbrev S8x2x1 : Shape := ⟨3, ![8, 2, 1]⟩
abbrev S8x2x2 : Shape := ⟨3, ![8, 2, 2]⟩
abbrev S1x64x64 : Shape := ⟨3, ![1, 64, 64]⟩
abbrev S64x64 : Shape := ⟨2, ![64, 64]⟩
abbrev S1x64 : Shape := ⟨2, ![1, 64]⟩
abbrev S8x1x1x1 : Shape := ⟨4, ![8, 1, 1, 1]⟩
abbrev S4 : Shape := ⟨1, ![4]⟩
abbrev S1 : Shape := ⟨1, ![1]⟩
abbrev S8x321x96x64 : Shape := ⟨4, ![8, 321, 96, 64]⟩
abbrev S8x321x6144 : Shape := ⟨3, ![8, 321, 6144]⟩
abbrev S8x321x96 : Shape := ⟨3, ![8, 321, 96]⟩
abbrev S1x1x96 : Shape := ⟨3, ![1, 1, 96]⟩
abbrev S3 : Shape := ⟨1, ![3]⟩

abbrev nBuf : Space → Nat
  | .hbm => 691
  | .vmem => 0
  | .smem => 0
  | _ => 0

abbrev hbmTy0_0 (i : Nat) : BufTy := match i % 128 with
  | 0 => ⟨S8x96x321, .f32⟩
  | 1 => ⟨S64, .f32⟩
  | 2 => ⟨S64, .f32⟩
  | 3 => ⟨S3x321x4, .f32⟩
  | 4 => ⟨S3x4x64x64, .f32⟩
  | 5 => ⟨S3x4x64, .f32⟩
  | 6 => ⟨S3x4x64x64, .f32⟩
  | 7 => ⟨S3x4x64, .f32⟩
  | 8 => ⟨S6144x96, .f32⟩
  | 9 => ⟨S96, .f32⟩
  | 10 => ⟨S_, .f32⟩
  | 11 => ⟨S8x321, .f32⟩
  | 12 => ⟨S8x1x321, .f32⟩
  | 13 => ⟨S_, .f32⟩
  | 14 => ⟨S8x1x321, .f32⟩
  | 15 => ⟨S8x1x321, .f32⟩
  | 16 => ⟨S_, .i32⟩
  | 17 => ⟨S_, .f32⟩
  | 18 => ⟨S8x321, .f32⟩
  | 19 => ⟨S8x1x321, .f32⟩
  | 20 => ⟨S_, .f32⟩
  | 21 => ⟨S8x1x321, .f32⟩
  | 22 => ⟨S8x1x321, .f32⟩
  | 23 => ⟨S8x96x321, .f32⟩
  | 24 => ⟨S8x96x321, .f32⟩
  | 25 => ⟨S8x96x321, .f32⟩
  | 26 => ⟨S_, .f32⟩
  | 27 => ⟨S_, .f32⟩
  | 28 => ⟨S_, .f32⟩
  | 29 => ⟨S_, .f32⟩
  | 30 => ⟨S8x321, .f32⟩
  | 31 => ⟨S8x1x321, .f32⟩
  | 32 => ⟨S8x1x321, .f32⟩
  | 33 => ⟨S8x1x321, .f32⟩
  | 34 => ⟨S_, .f32⟩
  | 35 => ⟨S_, .i1⟩
  | 36 => ⟨S_, .f32⟩
  | 37 => ⟨S_, .f32⟩
  | 38 => ⟨S8x1x321, .f32⟩
  | 39 => ⟨S8x1x321, .f32⟩
  | 40 => ⟨S_, .f32⟩
  | 41 => ⟨S8x1x321, .f32⟩
  | 42 => ⟨S8x1x321, .f32⟩
  | 43 => ⟨S8x1x321, .f32⟩
  | 44 => ⟨S8x96x321, .f32⟩
  | 45 => ⟨S8x96x321, .f32⟩
  | 46 => ⟨S8x96x321, .f32⟩
  | 47 => ⟨S8x96x321, .f32⟩
  | 48 => ⟨S8x96x321x1, .f32⟩
  | 49 => ⟨S1x1x1x64, .f32⟩
  | 50 => ⟨S8x96x321x64, .f32⟩
  | 51 => ⟨S8x96x321x64, .f32⟩
  | 52 => ⟨S8x96x321x64, .f32⟩
  | 53 => ⟨S1x1x1x64, .f32⟩
  | 54 => ⟨S8x96x321x64, .f32⟩
  | 55 => ⟨S8x96x321x64, .f32⟩
  | 56 => ⟨S1x321x4, .f32⟩
  | 57 => ⟨S321x4, .f32⟩
  | 58 => ⟨S1x4x64x64, .f32⟩
  | 59 => ⟨S4x64x64, .f32⟩
  | 60 => ⟨S1x4x64, .f32⟩
  | 61 => ⟨S4x64, .f32⟩
  | 62 => ⟨S1x4x64x64, .f32⟩
  | 63 => ⟨S4x64x64, .f32⟩
  | 64 => ⟨S1x4x64, .f32⟩
  | 65 => ⟨S4x64, .f32⟩
  | 66 => ⟨S_, .f32⟩
  | 67 => ⟨S8x321, .f32⟩
  | 68 => ⟨S_, .f32⟩
  | 69 => ⟨S8x321, .f32⟩
  | 70 => ⟨S8x321, .f32⟩
  | 71 => ⟨S8x4, .f32⟩
  | 72 => ⟨S8x2, .f32⟩
  | 73 => ⟨S8x2, .i32⟩
  | 74 => ⟨S_, .f32⟩
  | 75 => ⟨S8x2, .f32⟩
  | 76 => ⟨S8x2, .f32⟩
  | 77 => ⟨S_, .f32⟩
  | 78 => ⟨S8, .f32⟩
  | 79 => ⟨S_, .f32⟩
  | 80 => ⟨S8, .f32⟩
  | 81 => ⟨S8, .f32⟩
  | 82 => ⟨S8x1, .f32⟩
  | 83 => ⟨S8x2, .f32⟩
  | 84 => ⟨S8x2, .f32⟩
  | 85 => ⟨S8x2, .f32⟩
  | 86 => ⟨S_, .f32⟩
  | 87 => ⟨S8, .f32⟩
  | 88 => ⟨S8x1, .f32⟩
  | 89 => ⟨S8x2, .f32⟩
  | 90 => ⟨S8x2, .f32⟩
  | 91 => ⟨S_, .f32⟩
  | 92 => ⟨S8x4, .f32⟩
  | 93 => ⟨S8, .i32⟩
  | 94 => ⟨S8x1, .i32⟩
  | 95 => ⟨S_, .i32⟩
  | 96 => ⟨S8x1, .i32⟩
  | 97 => ⟨S8x1, .i1⟩
  | 98 => ⟨S_, .i32⟩
  | 99 => ⟨S8x1, .i32⟩
  | 100 => ⟨S8x1, .i32⟩
  | 101 => ⟨S8x1, .i32⟩
  | 102 => ⟨S_, .i32⟩
  | 103 => ⟨S8x2, .i32⟩
  | 104 => ⟨S8x2, .i1⟩
  | 105 => ⟨S_, .i32⟩
  | 106 => ⟨S8x2, .i32⟩
  | 107 => ⟨S8x2, .i32⟩
  | 108 => ⟨S8x2, .i32⟩
  | 109 => ⟨S8x2, .i32⟩
  | 110 => ⟨S8x2x1, .i32⟩
  | 111 => ⟨S8x2x1, .i32⟩
  | 112 => ⟨S8x2x2, .i32⟩
  | 113 => ⟨S8x4, .f32⟩
  | 114 => ⟨S_, .f32⟩
  | 115 => ⟨S8x96x321x64, .f32⟩
  | 116 => ⟨S1x64x64, .f32⟩
  | 117 => ⟨S64x64, .f32⟩
  | 118 => ⟨S8x96x321x64, .f32⟩
  | 119 => ⟨S1x64, .f32⟩
  | 120 => ⟨S64, .f32⟩
  | 121 => ⟨S1x1x1x64, .f32⟩
  | 122 => ⟨S8x96x321x64, .f32⟩
  | 123 => ⟨S8x96x321x64, .f32⟩
  | 124 => ⟨S_, .f32⟩
  | 125 => ⟨S8x96x321x64, .f32⟩
  | 126 => ⟨S8x96x321x64, .f32⟩
  | 127 => ⟨S1x64x64, .f32⟩
  | _ => ⟨S8x96x321, .f32⟩

abbrev hbmTy0_1 (i : Nat) : BufTy := match i % 128 with
  | 0 => ⟨S64x64, .f32⟩
  | 1 => ⟨S8x96x321x64, .f32⟩
  | 2 => ⟨S1x64, .f32⟩
  | 3 => ⟨S64, .f32⟩
  | 4 => ⟨S1x1x1x64, .f32⟩
  | 5 => ⟨S8x96x321x64, .f32⟩
  | 6 => ⟨S8x96x321x64, .f32⟩
  | 7 => ⟨S8x1, .f32⟩
  | 8 => ⟨S8, .f32⟩
  | 9 => ⟨S8x1x1x1, .f32⟩
  | 10 => ⟨S8x96x321x64, .f32⟩
  | 11 => ⟨S8x96x321x64, .f32⟩
  | 12 => ⟨S8x96x321x64, .f32⟩
  | 13 => ⟨S1x64x64, .f32⟩
  | 14 => ⟨S64x64, .f32⟩
  | 15 => ⟨S8x96x321x64, .f32⟩
  | 16 => ⟨S1x64, .f32⟩
  | 17 => ⟨S64, .f32⟩
  | 18 => ⟨S1x1x1x64, .f32⟩
  | 19 => ⟨S8x96x321x64, .f32⟩
  | 20 => ⟨S8x96x321x64, .f32⟩
  | 21 => ⟨S_, .f32⟩
  | 22 => ⟨S8x96x321x64, .f32⟩
  | 23 => ⟨S8x96x321x64, .f32⟩
  | 24 => ⟨S1x64x64, .f32⟩
  | 25 => ⟨S64x64, .f32⟩
  | 26 => ⟨S8x96x321x64, .f32⟩
  | 27 => ⟨S1x64, .f32⟩
  | 28 => ⟨S64, .f32⟩
  | 29 => ⟨S1x1x1x64, .f32⟩
  | 30 => ⟨S8x96x321x64, .f32⟩
  | 31 => ⟨S8x96x321x64, .f32⟩
  | 32 => ⟨S8x1, .f32⟩
  | 33 => ⟨S8, .f32⟩
  | 34 => ⟨S8x1x1x1, .f32⟩
  | 35 => ⟨S8x96x321x64, .f32⟩
  | 36 => ⟨S8x96x321x64, .f32⟩
  | 37 => ⟨S8x96x321x64, .f32⟩
  | 38 => ⟨S1x64x64, .f32⟩
  | 39 => ⟨S64x64, .f32⟩
  | 40 => ⟨S8x96x321x64, .f32⟩
  | 41 => ⟨S1x64, .f32⟩
  | 42 => ⟨S64, .f32⟩
  | 43 => ⟨S1x1x1x64, .f32⟩
  | 44 => ⟨S8x96x321x64, .f32⟩
  | 45 => ⟨S8x96x321x64, .f32⟩
  | 46 => ⟨S_, .f32⟩
  | 47 => ⟨S8x96x321x64, .f32⟩
  | 48 => ⟨S8x96x321x64, .f32⟩
  | 49 => ⟨S1x64x64, .f32⟩
  | 50 => ⟨S64x64, .f32⟩
  | 51 => ⟨S8x96x321x64, .f32⟩
  | 52 => ⟨S1x64, .f32⟩
  | 53 => ⟨S64, .f32⟩
  | 54 => ⟨S1x1x1x64, .f32⟩
  | 55 => ⟨S8x96x321x64, .f32⟩
  | 56 => ⟨S8x96x321x64, .f32⟩
  | 57 => ⟨S8x1, .f32⟩
  | 58 => ⟨S8, .f32⟩
  | 59 => ⟨S8x1x1x1, .f32⟩
  | 60 => ⟨S8x96x321x64, .f32⟩
  | 61 => ⟨S8x96x321x64, .f32⟩
  | 62 => ⟨S8x96x321x64, .f32⟩
  | 63 => ⟨S1x64x64, .f32⟩
  | 64 => ⟨S64x64, .f32⟩
  | 65 => ⟨S8x96x321x64, .f32⟩
  | 66 => ⟨S1x64, .f32⟩
  | 67 => ⟨S64, .f32⟩
  | 68 => ⟨S1x1x1x64, .f32⟩
  | 69 => ⟨S8x96x321x64, .f32⟩
  | 70 => ⟨S8x96x321x64, .f32⟩
  | 71 => ⟨S_, .f32⟩
  | 72 => ⟨S8x96x321x64, .f32⟩
  | 73 => ⟨S8x96x321x64, .f32⟩
  | 74 => ⟨S1x64x64, .f32⟩
  | 75 => ⟨S64x64, .f32⟩
  | 76 => ⟨S8x96x321x64, .f32⟩
  | 77 => ⟨S1x64, .f32⟩
  | 78 => ⟨S64, .f32⟩
  | 79 => ⟨S1x1x1x64, .f32⟩
  | 80 => ⟨S8x96x321x64, .f32⟩
  | 81 => ⟨S8x96x321x64, .f32⟩
  | 82 => ⟨S8x1, .f32⟩
  | 83 => ⟨S8, .f32⟩
  | 84 => ⟨S8x1x1x1, .f32⟩
  | 85 => ⟨S8x96x321x64, .f32⟩
  | 86 => ⟨S8x96x321x64, .f32⟩
  | 87 => ⟨S8x96x321x64, .f32⟩
  | 88 => ⟨S8x96x321x64, .f32⟩
  | 89 => ⟨S_, .f32⟩
  | 90 => ⟨S4, .f32⟩
  | 91 => ⟨S_, .i32⟩
  | 92 => ⟨S_, .f32⟩
  | 93 => ⟨S_, .f32⟩
  | 94 => ⟨S1, .f32⟩
  | 95 => ⟨S_, .f32⟩
  | 96 => ⟨S1, .f32⟩
  | 97 => ⟨S1, .f32⟩
  | 98 => ⟨S4, .f32⟩
  | 99 => ⟨S4, .f32⟩
  | 100 => ⟨S4, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .i1⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S8x4, .f32⟩
  | 122 => ⟨S8x4, .f32⟩
  | 123 => ⟨S8x4, .f32⟩
  | 124 => ⟨S8x4, .f32⟩
  | 125 => ⟨S_, .f32⟩
  | 126 => ⟨S8, .f32⟩
  | 127 => ⟨S_, .f32⟩
  | _ => ⟨S8x96x321, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S1x321x4, .f32⟩
  | 7 => ⟨S321x4, .f32⟩
  | 8 => ⟨S1x4x64x64, .f32⟩
  | 9 => ⟨S4x64x64, .f32⟩
  | 10 => ⟨S1x4x64, .f32⟩
  | 11 => ⟨S4x64, .f32⟩
  | 12 => ⟨S1x4x64x64, .f32⟩
  | 13 => ⟨S4x64x64, .f32⟩
  | 14 => ⟨S1x4x64, .f32⟩
  | 15 => ⟨S4x64, .f32⟩
  | 16 => ⟨S_, .f32⟩
  | 17 => ⟨S8x321, .f32⟩
  | 18 => ⟨S_, .f32⟩
  | 19 => ⟨S8x321, .f32⟩
  | 20 => ⟨S8x321, .f32⟩
  | 21 => ⟨S8x4, .f32⟩
  | 22 => ⟨S8x2, .f32⟩
  | 23 => ⟨S8x2, .i32⟩
  | 24 => ⟨S_, .f32⟩
  | 25 => ⟨S8x2, .f32⟩
  | 26 => ⟨S8x2, .f32⟩
  | 27 => ⟨S_, .f32⟩
  | 28 => ⟨S8, .f32⟩
  | 29 => ⟨S_, .f32⟩
  | 30 => ⟨S8, .f32⟩
  | 31 => ⟨S8, .f32⟩
  | 32 => ⟨S8x1, .f32⟩
  | 33 => ⟨S8x2, .f32⟩
  | 34 => ⟨S8x2, .f32⟩
  | 35 => ⟨S8x2, .f32⟩
  | 36 => ⟨S_, .f32⟩
  | 37 => ⟨S8, .f32⟩
  | 38 => ⟨S8x1, .f32⟩
  | 39 => ⟨S8x2, .f32⟩
  | 40 => ⟨S8x2, .f32⟩
  | 41 => ⟨S_, .f32⟩
  | 42 => ⟨S8x4, .f32⟩
  | 43 => ⟨S8, .i32⟩
  | 44 => ⟨S8x1, .i32⟩
  | 45 => ⟨S_, .i32⟩
  | 46 => ⟨S8x1, .i32⟩
  | 47 => ⟨S8x1, .i1⟩
  | 48 => ⟨S_, .i32⟩
  | 49 => ⟨S8x1, .i32⟩
  | 50 => ⟨S8x1, .i32⟩
  | 51 => ⟨S8x1, .i32⟩
  | 52 => ⟨S_, .i32⟩
  | 53 => ⟨S8x2, .i32⟩
  | 54 => ⟨S8x2, .i1⟩
  | 55 => ⟨S_, .i32⟩
  | 56 => ⟨S8x2, .i32⟩
  | 57 => ⟨S8x2, .i32⟩
  | 58 => ⟨S8x2, .i32⟩
  | 59 => ⟨S8x2, .i32⟩
  | 60 => ⟨S8x2x1, .i32⟩
  | 61 => ⟨S8x2x1, .i32⟩
  | 62 => ⟨S8x2x2, .i32⟩
  | 63 => ⟨S8x4, .f32⟩
  | 64 => ⟨S_, .f32⟩
  | 65 => ⟨S8x96x321x64, .f32⟩
  | 66 => ⟨S1x64x64, .f32⟩
  | 67 => ⟨S64x64, .f32⟩
  | 68 => ⟨S8x96x321x64, .f32⟩
  | 69 => ⟨S1x64, .f32⟩
  | 70 => ⟨S64, .f32⟩
  | 71 => ⟨S1x1x1x64, .f32⟩
  | 72 => ⟨S8x96x321x64, .f32⟩
  | 73 => ⟨S8x96x321x64, .f32⟩
  | 74 => ⟨S_, .f32⟩
  | 75 => ⟨S8x96x321x64, .f32⟩
  | 76 => ⟨S8x96x321x64, .f32⟩
  | 77 => ⟨S1x64x64, .f32⟩
  | 78 => ⟨S64x64, .f32⟩
  | 79 => ⟨S8x96x321x64, .f32⟩
  | 80 => ⟨S1x64, .f32⟩
  | 81 => ⟨S64, .f32⟩
  | 82 => ⟨S1x1x1x64, .f32⟩
  | 83 => ⟨S8x96x321x64, .f32⟩
  | 84 => ⟨S8x96x321x64, .f32⟩
  | 85 => ⟨S8x1, .f32⟩
  | 86 => ⟨S8, .f32⟩
  | 87 => ⟨S8x1x1x1, .f32⟩
  | 88 => ⟨S8x96x321x64, .f32⟩
  | 89 => ⟨S8x96x321x64, .f32⟩
  | 90 => ⟨S8x96x321x64, .f32⟩
  | 91 => ⟨S1x64x64, .f32⟩
  | 92 => ⟨S64x64, .f32⟩
  | 93 => ⟨S8x96x321x64, .f32⟩
  | 94 => ⟨S1x64, .f32⟩
  | 95 => ⟨S64, .f32⟩
  | 96 => ⟨S1x1x1x64, .f32⟩
  | 97 => ⟨S8x96x321x64, .f32⟩
  | 98 => ⟨S8x96x321x64, .f32⟩
  | 99 => ⟨S_, .f32⟩
  | 100 => ⟨S8x96x321x64, .f32⟩
  | 101 => ⟨S8x96x321x64, .f32⟩
  | 102 => ⟨S1x64x64, .f32⟩
  | 103 => ⟨S64x64, .f32⟩
  | 104 => ⟨S8x96x321x64, .f32⟩
  | 105 => ⟨S1x64, .f32⟩
  | 106 => ⟨S64, .f32⟩
  | 107 => ⟨S1x1x1x64, .f32⟩
  | 108 => ⟨S8x96x321x64, .f32⟩
  | 109 => ⟨S8x96x321x64, .f32⟩
  | 110 => ⟨S8x1, .f32⟩
  | 111 => ⟨S8, .f32⟩
  | 112 => ⟨S8x1x1x1, .f32⟩
  | 113 => ⟨S8x96x321x64, .f32⟩
  | 114 => ⟨S8x96x321x64, .f32⟩
  | 115 => ⟨S8x96x321x64, .f32⟩
  | 116 => ⟨S1x64x64, .f32⟩
  | 117 => ⟨S64x64, .f32⟩
  | 118 => ⟨S8x96x321x64, .f32⟩
  | 119 => ⟨S1x64, .f32⟩
  | 120 => ⟨S64, .f32⟩
  | 121 => ⟨S1x1x1x64, .f32⟩
  | 122 => ⟨S8x96x321x64, .f32⟩
  | 123 => ⟨S8x96x321x64, .f32⟩
  | 124 => ⟨S_, .f32⟩
  | 125 => ⟨S8x96x321x64, .f32⟩
  | 126 => ⟨S8x96x321x64, .f32⟩
  | 127 => ⟨S1x64x64, .f32⟩
  | _ => ⟨S8x96x321, .f32⟩

abbrev hbmTy0_3 (i : Nat) : BufTy := match i % 128 with
  | 0 => ⟨S64x64, .f32⟩
  | 1 => ⟨S8x96x321x64, .f32⟩
  | 2 => ⟨S1x64, .f32⟩
  | 3 => ⟨S64, .f32⟩
  | 4 => ⟨S1x1x1x64, .f32⟩
  | 5 => ⟨S8x96x321x64, .f32⟩
  | 6 => ⟨S8x96x321x64, .f32⟩
  | 7 => ⟨S8x1, .f32⟩
  | 8 => ⟨S8, .f32⟩
  | 9 => ⟨S8x1x1x1, .f32⟩
  | 10 => ⟨S8x96x321x64, .f32⟩
  | 11 => ⟨S8x96x321x64, .f32⟩
  | 12 => ⟨S8x96x321x64, .f32⟩
  | 13 => ⟨S1x64x64, .f32⟩
  | 14 => ⟨S64x64, .f32⟩
  | 15 => ⟨S8x96x321x64, .f32⟩
  | 16 => ⟨S1x64, .f32⟩
  | 17 => ⟨S64, .f32⟩
  | 18 => ⟨S1x1x1x64, .f32⟩
  | 19 => ⟨S8x96x321x64, .f32⟩
  | 20 => ⟨S8x96x321x64, .f32⟩
  | 21 => ⟨S_, .f32⟩
  | 22 => ⟨S8x96x321x64, .f32⟩
  | 23 => ⟨S8x96x321x64, .f32⟩
  | 24 => ⟨S1x64x64, .f32⟩
  | 25 => ⟨S64x64, .f32⟩
  | 26 => ⟨S8x96x321x64, .f32⟩
  | 27 => ⟨S1x64, .f32⟩
  | 28 => ⟨S64, .f32⟩
  | 29 => ⟨S1x1x1x64, .f32⟩
  | 30 => ⟨S8x96x321x64, .f32⟩
  | 31 => ⟨S8x96x321x64, .f32⟩
  | 32 => ⟨S8x1, .f32⟩
  | 33 => ⟨S8, .f32⟩
  | 34 => ⟨S8x1x1x1, .f32⟩
  | 35 => ⟨S8x96x321x64, .f32⟩
  | 36 => ⟨S8x96x321x64, .f32⟩
  | 37 => ⟨S8x96x321x64, .f32⟩
  | 38 => ⟨S8x96x321x64, .f32⟩
  | 39 => ⟨S_, .f32⟩
  | 40 => ⟨S4, .f32⟩
  | 41 => ⟨S_, .i32⟩
  | 42 => ⟨S_, .f32⟩
  | 43 => ⟨S_, .f32⟩
  | 44 => ⟨S1, .f32⟩
  | 45 => ⟨S_, .f32⟩
  | 46 => ⟨S1, .f32⟩
  | 47 => ⟨S1, .f32⟩
  | 48 => ⟨S4, .f32⟩
  | 49 => ⟨S4, .f32⟩
  | 50 => ⟨S4, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .i1⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S8x4, .f32⟩
  | 72 => ⟨S8x4, .f32⟩
  | 73 => ⟨S8x4, .f32⟩
  | 74 => ⟨S8x4, .f32⟩
  | 75 => ⟨S_, .f32⟩
  | 76 => ⟨S8, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S1x321x4, .f32⟩
  | 84 => ⟨S321x4, .f32⟩
  | 85 => ⟨S1x4x64x64, .f32⟩
  | 86 => ⟨S4x64x64, .f32⟩
  | 87 => ⟨S1x4x64, .f32⟩
  | 88 => ⟨S4x64, .f32⟩
  | 89 => ⟨S1x4x64x64, .f32⟩
  | 90 => ⟨S4x64x64, .f32⟩
  | 91 => ⟨S1x4x64, .f32⟩
  | 92 => ⟨S4x64, .f32⟩
  | 93 => ⟨S_, .f32⟩
  | 94 => ⟨S8x321, .f32⟩
  | 95 => ⟨S_, .f32⟩
  | 96 => ⟨S8x321, .f32⟩
  | 97 => ⟨S8x321, .f32⟩
  | 98 => ⟨S8x4, .f32⟩
  | 99 => ⟨S8x2, .f32⟩
  | 100 => ⟨S8x2, .i32⟩
  | 101 => ⟨S_, .f32⟩
  | 102 => ⟨S8x2, .f32⟩
  | 103 => ⟨S8x2, .f32⟩
  | 104 => ⟨S_, .f32⟩
  | 105 => ⟨S8, .f32⟩
  | 106 => ⟨S_, .f32⟩
  | 107 => ⟨S8, .f32⟩
  | 108 => ⟨S8, .f32⟩
  | 109 => ⟨S8x1, .f32⟩
  | 110 => ⟨S8x2, .f32⟩
  | 111 => ⟨S8x2, .f32⟩
  | 112 => ⟨S8x2, .f32⟩
  | 113 => ⟨S_, .f32⟩
  | 114 => ⟨S8, .f32⟩
  | 115 => ⟨S8x1, .f32⟩
  | 116 => ⟨S8x2, .f32⟩
  | 117 => ⟨S8x2, .f32⟩
  | 118 => ⟨S_, .f32⟩
  | 119 => ⟨S8x4, .f32⟩
  | 120 => ⟨S8, .i32⟩
  | 121 => ⟨S8x1, .i32⟩
  | 122 => ⟨S_, .i32⟩
  | 123 => ⟨S8x1, .i32⟩
  | 124 => ⟨S8x1, .i1⟩
  | 125 => ⟨S_, .i32⟩
  | 126 => ⟨S8x1, .i32⟩
  | 127 => ⟨S8x1, .i32⟩
  | _ => ⟨S8x96x321, .f32⟩

abbrev hbmTy0_4 (i : Nat) : BufTy := match i % 128 with
  | 0 => ⟨S8x1, .i32⟩
  | 1 => ⟨S_, .i32⟩
  | 2 => ⟨S8x2, .i32⟩
  | 3 => ⟨S8x2, .i1⟩
  | 4 => ⟨S_, .i32⟩
  | 5 => ⟨S8x2, .i32⟩
  | 6 => ⟨S8x2, .i32⟩
  | 7 => ⟨S8x2, .i32⟩
  | 8 => ⟨S8x2, .i32⟩
  | 9 => ⟨S8x2x1, .i32⟩
  | 10 => ⟨S8x2x1, .i32⟩
  | 11 => ⟨S8x2x2, .i32⟩
  | 12 => ⟨S8x4, .f32⟩
  | 13 => ⟨S_, .f32⟩
  | 14 => ⟨S8x96x321x64, .f32⟩
  | 15 => ⟨S1x64x64, .f32⟩
  | 16 => ⟨S64x64, .f32⟩
  | 17 => ⟨S8x96x321x64, .f32⟩
  | 18 => ⟨S1x64, .f32⟩
  | 19 => ⟨S64, .f32⟩
  | 20 => ⟨S1x1x1x64, .f32⟩
  | 21 => ⟨S8x96x321x64, .f32⟩
  | 22 => ⟨S8x96x321x64, .f32⟩
  | 23 => ⟨S_, .f32⟩
  | 24 => ⟨S8x96x321x64, .f32⟩
  | 25 => ⟨S8x96x321x64, .f32⟩
  | 26 => ⟨S1x64x64, .f32⟩
  | 27 => ⟨S64x64, .f32⟩
  | 28 => ⟨S8x96x321x64, .f32⟩
  | 29 => ⟨S1x64, .f32⟩
  | 30 => ⟨S64, .f32⟩
  | 31 => ⟨S1x1x1x64, .f32⟩
  | 32 => ⟨S8x96x321x64, .f32⟩
  | 33 => ⟨S8x96x321x64, .f32⟩
  | 34 => ⟨S8x1, .f32⟩
  | 35 => ⟨S8, .f32⟩
  | 36 => ⟨S8x1x1x1, .f32⟩
  | 37 => ⟨S8x96x321x64, .f32⟩
  | 38 => ⟨S8x96x321x64, .f32⟩
  | 39 => ⟨S8x96x321x64, .f32⟩
  | 40 => ⟨S1x64x64, .f32⟩
  | 41 => ⟨S64x64, .f32⟩
  | 42 => ⟨S8x96x321x64, .f32⟩
  | 43 => ⟨S1x64, .f32⟩
  | 44 => ⟨S64, .f32⟩
  | 45 => ⟨S1x1x1x64, .f32⟩
  | 46 => ⟨S8x96x321x64, .f32⟩
  | 47 => ⟨S8x96x321x64, .f32⟩
  | 48 => ⟨S_, .f32⟩
  | 49 => ⟨S8x96x321x64, .f32⟩
  | 50 => ⟨S8x96x321x64, .f32⟩
  | 51 => ⟨S1x64x64, .f32⟩
  | 52 => ⟨S64x64, .f32⟩
  | 53 => ⟨S8x96x321x64, .f32⟩
  | 54 => ⟨S1x64, .f32⟩
  | 55 => ⟨S64, .f32⟩
  | 56 => ⟨S1x1x1x64, .f32⟩
  | 57 => ⟨S8x96x321x64, .f32⟩
  | 58 => ⟨S8x96x321x64, .f32⟩
  | 59 => ⟨S8x1, .f32⟩
  | 60 => ⟨S8, .f32⟩
  | 61 => ⟨S8x1x1x1, .f32⟩
  | 62 => ⟨S8x96x321x64, .f32⟩
  | 63 => ⟨S8x96x321x64, .f32⟩
  | 64 => ⟨S8x96x321x64, .f32⟩
  | 65 => ⟨S1x64x64, .f32⟩
  | 66 => ⟨S64x64, .f32⟩
  | 67 => ⟨S8x96x321x64, .f32⟩
  | 68 => ⟨S1x64, .f32⟩
  | 69 => ⟨S64, .f32⟩
  | 70 => ⟨S1x1x1x64, .f32⟩
  | 71 => ⟨S8x96x321x64, .f32⟩
  | 72 => ⟨S8x96x321x64, .f32⟩
  | 73 => ⟨S_, .f32⟩
  | 74 => ⟨S8x96x321x64, .f32⟩
  | 75 => ⟨S8x96x321x64, .f32⟩
  | 76 => ⟨S1x64x64, .f32⟩
  | 77 => ⟨S64x64, .f32⟩
  | 78 => ⟨S8x96x321x64, .f32⟩
  | 79 => ⟨S1x64, .f32⟩
  | 80 => ⟨S64, .f32⟩
  | 81 => ⟨S1x1x1x64, .f32⟩
  | 82 => ⟨S8x96x321x64, .f32⟩
  | 83 => ⟨S8x96x321x64, .f32⟩
  | 84 => ⟨S8x1, .f32⟩
  | 85 => ⟨S8, .f32⟩
  | 86 => ⟨S8x1x1x1, .f32⟩
  | 87 => ⟨S8x96x321x64, .f32⟩
  | 88 => ⟨S8x96x321x64, .f32⟩
  | 89 => ⟨S8x96x321x64, .f32⟩
  | 90 => ⟨S1x64x64, .f32⟩
  | 91 => ⟨S64x64, .f32⟩
  | 92 => ⟨S8x96x321x64, .f32⟩
  | 93 => ⟨S1x64, .f32⟩
  | 94 => ⟨S64, .f32⟩
  | 95 => ⟨S1x1x1x64, .f32⟩
  | 96 => ⟨S8x96x321x64, .f32⟩
  | 97 => ⟨S8x96x321x64, .f32⟩
  | 98 => ⟨S_, .f32⟩
  | 99 => ⟨S8x96x321x64, .f32⟩
  | 100 => ⟨S8x96x321x64, .f32⟩
  | 101 => ⟨S1x64x64, .f32⟩
  | 102 => ⟨S64x64, .f32⟩
  | 103 => ⟨S8x96x321x64, .f32⟩
  | 104 => ⟨S1x64, .f32⟩
  | 105 => ⟨S64, .f32⟩
  | 106 => ⟨S1x1x1x64, .f32⟩
  | 107 => ⟨S8x96x321x64, .f32⟩
  | 108 => ⟨S8x96x321x64, .f32⟩
  | 109 => ⟨S8x1, .f32⟩
  | 110 => ⟨S8, .f32⟩
  | 111 => ⟨S8x1x1x1, .f32⟩
  | 112 => ⟨S8x96x321x64, .f32⟩
  | 113 => ⟨S8x96x321x64, .f32⟩
  | 114 => ⟨S8x96x321x64, .f32⟩
  | 115 => ⟨S8x96x321x64, .f32⟩
  | 116 => ⟨S_, .f32⟩
  | 117 => ⟨S4, .f32⟩
  | 118 => ⟨S_, .i32⟩
  | 119 => ⟨S_, .f32⟩
  | 120 => ⟨S_, .f32⟩
  | 121 => ⟨S1, .f32⟩
  | 122 => ⟨S_, .f32⟩
  | 123 => ⟨S1, .f32⟩
  | 124 => ⟨S1, .f32⟩
  | 125 => ⟨S4, .f32⟩
  | 126 => ⟨S4, .f32⟩
  | 127 => ⟨S4, .f32⟩
  | _ => ⟨S8x96x321, .f32⟩

abbrev hbmTy0_5 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .i1⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S8x4, .f32⟩
  | 21 => ⟨S8x4, .f32⟩
  | 22 => ⟨S8x4, .f32⟩
  | 23 => ⟨S8x4, .f32⟩
  | 24 => ⟨S_, .f32⟩
  | 25 => ⟨S8, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S8x321x96x64, .f32⟩
  | 33 => ⟨S8x321x6144, .f32⟩
  | 34 => ⟨S8x321x96, .f32⟩
  | 35 => ⟨S1x1x96, .f32⟩
  | 36 => ⟨S8x321x96, .f32⟩
  | 37 => ⟨S8x321x96, .f32⟩
  | 38 => ⟨S8x96x321, .f32⟩
  | 39 => ⟨S8x96x321, .f32⟩
  | 40 => ⟨S8x96x321, .f32⟩
  | 41 => ⟨S8x96x321, .f32⟩
  | 42 => ⟨S8x96x321, .f32⟩
  | 43 => ⟨S1, .f32⟩
  | 44 => ⟨S1, .f32⟩
  | 45 => ⟨S1, .f32⟩
  | 46 => ⟨S3, .f32⟩
  | 47 => ⟨S_, .f32⟩
  | 48 => ⟨S_, .f32⟩
  | 49 => ⟨S_, .f32⟩
  | 50 => ⟨S_, .f32⟩
  | _ => ⟨S8x96x321, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x96x321, .f32⟩

abbrev bufTy : (tb : Table) → Fin (tcTables nBuf tb) → BufTy
  | .hbm, ⟨i, _⟩ => hbmTy i
  | _, _ => ⟨S8x96x321, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_v13 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v4 : Ref sig .tc := ⟨.hbm, 39, rfl⟩
abbrev main_cst_1 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_2 : Ref sig .tc := ⟨.hbm, 66, rfl⟩
abbrev main_v30 : Ref sig .tc := ⟨.hbm, 67, rfl⟩
abbrev main_cst_3 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_values : Ref sig .tc := ⟨.hbm, 72, rfl⟩
abbrev main_indices : Ref sig .tc := ⟨.hbm, 73, rfl⟩
abbrev main_cst_4 : Ref sig .tc := ⟨.hbm, 74, rfl⟩
abbrev main_v34 : Ref sig .tc := ⟨.hbm, 75, rfl⟩
abbrev main_v35 : Ref sig .tc := ⟨.hbm, 76, rfl⟩
abbrev main_cst_5 : Ref sig .tc := ⟨.hbm, 77, rfl⟩
abbrev main_v36 : Ref sig .tc := ⟨.hbm, 78, rfl⟩
abbrev main_cst_6 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_cst_7 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_8 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_c_9 : Ref sig .tc := ⟨.hbm, 95, rfl⟩
abbrev main_v50 : Ref sig .tc := ⟨.hbm, 96, rfl⟩
abbrev main_v51 : Ref sig .tc := ⟨.hbm, 97, rfl⟩
abbrev main_c_10 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_c_11 : Ref sig .tc := ⟨.hbm, 102, rfl⟩
abbrev main_v55 : Ref sig .tc := ⟨.hbm, 103, rfl⟩
abbrev main_v56 : Ref sig .tc := ⟨.hbm, 104, rfl⟩
abbrev main_c_12 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_cst_13 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_call1_cst : Ref sig .tc := ⟨.hbm, 124, rfl⟩
abbrev main_call1_v0 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_call2_cst : Ref sig .tc := ⟨.hbm, 149, rfl⟩
abbrev main_call2_v0 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_call3_cst : Ref sig .tc := ⟨.hbm, 174, rfl⟩
abbrev main_call3_v0 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_call4_cst : Ref sig .tc := ⟨.hbm, 199, rfl⟩
abbrev main_call4_v0 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_cst_14 : Ref sig .tc := ⟨.hbm, 217, rfl⟩
abbrev main_v159 : Ref sig .tc := ⟨.hbm, 218, rfl⟩
abbrev main_c_15 : Ref sig .tc := ⟨.hbm, 219, rfl⟩
abbrev main_call5_cst : Ref sig .tc := ⟨.hbm, 220, rfl⟩
abbrev main_call5_v0 : Ref sig .tc := ⟨.hbm, 221, rfl⟩
abbrev main_call5_v1 : Ref sig .tc := ⟨.hbm, 222, rfl⟩
abbrev main_call5_cst_0 : Ref sig .tc := ⟨.hbm, 223, rfl⟩
abbrev main_call5_v2 : Ref sig .tc := ⟨.hbm, 224, rfl⟩
abbrev main_call5_v3 : Ref sig .tc := ⟨.hbm, 225, rfl⟩
abbrev main_call5_v4 : Ref sig .tc := ⟨.hbm, 226, rfl⟩
abbrev main_call5_v5 : Ref sig .tc := ⟨.hbm, 227, rfl⟩
abbrev main_call5_v6 : Ref sig .tc := ⟨.hbm, 228, rfl⟩
abbrev main_call5_v7 : Ref sig .tc := ⟨.hbm, 229, rfl⟩
abbrev main_call5_cst_1 : Ref sig .tc := ⟨.hbm, 230, rfl⟩
abbrev main_call5_v8 : Ref sig .tc := ⟨.hbm, 231, rfl⟩
abbrev main_call5_cst_2 : Ref sig .tc := ⟨.hbm, 232, rfl⟩
abbrev main_call5_v9 : Ref sig .tc := ⟨.hbm, 233, rfl⟩
abbrev main_call5_v10 : Ref sig .tc := ⟨.hbm, 234, rfl⟩
abbrev main_call5_cst_3 : Ref sig .tc := ⟨.hbm, 235, rfl⟩
abbrev main_call5_v11 : Ref sig .tc := ⟨.hbm, 236, rfl⟩
abbrev main_call5_cst_4 : Ref sig .tc := ⟨.hbm, 237, rfl⟩
abbrev main_call5_call0_v0 : Ref sig .tc := ⟨.hbm, 238, rfl⟩
abbrev main_v160 : Ref sig .tc := ⟨.hbm, 239, rfl⟩
abbrev main_cst_16 : Ref sig .tc := ⟨.hbm, 240, rfl⟩
abbrev main_v161 : Ref sig .tc := ⟨.hbm, 241, rfl⟩
abbrev main_cst_17 : Ref sig .tc := ⟨.hbm, 242, rfl⟩
abbrev main_v162 : Ref sig .tc := ⟨.hbm, 243, rfl⟩
abbrev main_v163 : Ref sig .tc := ⟨.hbm, 244, rfl⟩
abbrev main_cst_18 : Ref sig .tc := ⟨.hbm, 245, rfl⟩
abbrev main_v164 : Ref sig .tc := ⟨.hbm, 246, rfl⟩
abbrev main_v165 : Ref sig .tc := ⟨.hbm, 247, rfl⟩
abbrev main_cst_19 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_cst_20 : Ref sig .tc := ⟨.hbm, 253, rfl⟩
abbrev main_v170 : Ref sig .tc := ⟨.hbm, 254, rfl⟩
abbrev main_cst_21 : Ref sig .tc := ⟨.hbm, 255, rfl⟩
abbrev main_v171 : Ref sig .tc := ⟨.hbm, 256, rfl⟩
abbrev main_cst_22 : Ref sig .tc := ⟨.hbm, 257, rfl⟩
abbrev main_v172 : Ref sig .tc := ⟨.hbm, 258, rfl⟩
abbrev main_v173 : Ref sig .tc := ⟨.hbm, 259, rfl⟩
abbrev main_cst_23 : Ref sig .tc := ⟨.hbm, 260, rfl⟩
abbrev main_v174 : Ref sig .tc := ⟨.hbm, 261, rfl⟩
abbrev main_v175 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_cst_24 : Ref sig .tc := ⟨.hbm, 272, rfl⟩
abbrev main_v185 : Ref sig .tc := ⟨.hbm, 273, rfl⟩
abbrev main_cst_25 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_values_26 : Ref sig .tc := ⟨.hbm, 278, rfl⟩
abbrev main_indices_27 : Ref sig .tc := ⟨.hbm, 279, rfl⟩
abbrev main_cst_28 : Ref sig .tc := ⟨.hbm, 280, rfl⟩
abbrev main_v189 : Ref sig .tc := ⟨.hbm, 281, rfl⟩
abbrev main_v190 : Ref sig .tc := ⟨.hbm, 282, rfl⟩
abbrev main_cst_29 : Ref sig .tc := ⟨.hbm, 283, rfl⟩
abbrev main_v191 : Ref sig .tc := ⟨.hbm, 284, rfl⟩
abbrev main_cst_30 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_cst_31 : Ref sig .tc := ⟨.hbm, 292, rfl⟩
abbrev main_v198 : Ref sig .tc := ⟨.hbm, 293, rfl⟩
abbrev main_v199 : Ref sig .tc := ⟨.hbm, 294, rfl⟩
abbrev main_v200 : Ref sig .tc := ⟨.hbm, 295, rfl⟩
abbrev main_v201 : Ref sig .tc := ⟨.hbm, 296, rfl⟩
abbrev main_cst_32 : Ref sig .tc := ⟨.hbm, 297, rfl⟩
abbrev main_v202 : Ref sig .tc := ⟨.hbm, 298, rfl⟩
abbrev main_v203 : Ref sig .tc := ⟨.hbm, 299, rfl⟩
abbrev main_v204 : Ref sig .tc := ⟨.hbm, 300, rfl⟩
abbrev main_c_33 : Ref sig .tc := ⟨.hbm, 301, rfl⟩
abbrev main_v205 : Ref sig .tc := ⟨.hbm, 302, rfl⟩
abbrev main_v206 : Ref sig .tc := ⟨.hbm, 303, rfl⟩
abbrev main_c_34 : Ref sig .tc := ⟨.hbm, 304, rfl⟩
abbrev main_v207 : Ref sig .tc := ⟨.hbm, 305, rfl⟩
abbrev main_v208 : Ref sig .tc := ⟨.hbm, 306, rfl⟩
abbrev main_v209 : Ref sig .tc := ⟨.hbm, 307, rfl⟩
abbrev main_c_35 : Ref sig .tc := ⟨.hbm, 308, rfl⟩
abbrev main_v210 : Ref sig .tc := ⟨.hbm, 309, rfl⟩
abbrev main_v211 : Ref sig .tc := ⟨.hbm, 310, rfl⟩
abbrev main_c_36 : Ref sig .tc := ⟨.hbm, 311, rfl⟩
abbrev main_v212 : Ref sig .tc := ⟨.hbm, 312, rfl⟩
abbrev main_v213 : Ref sig .tc := ⟨.hbm, 313, rfl⟩
abbrev main_v214 : Ref sig .tc := ⟨.hbm, 314, rfl⟩
abbrev main_v215 : Ref sig .tc := ⟨.hbm, 315, rfl⟩
abbrev main_v216 : Ref sig .tc := ⟨.hbm, 316, rfl⟩
abbrev main_v217 : Ref sig .tc := ⟨.hbm, 317, rfl⟩
abbrev main_v218 : Ref sig .tc := ⟨.hbm, 318, rfl⟩
abbrev main_v219 : Ref sig .tc := ⟨.hbm, 319, rfl⟩
abbrev main_cst_37 : Ref sig .tc := ⟨.hbm, 320, rfl⟩
abbrev main_v220 : Ref sig .tc := ⟨.hbm, 321, rfl⟩
abbrev main_v221 : Ref sig .tc := ⟨.hbm, 322, rfl⟩
abbrev main_v222 : Ref sig .tc := ⟨.hbm, 323, rfl⟩
abbrev main_v223 : Ref sig .tc := ⟨.hbm, 324, rfl⟩
abbrev main_v224 : Ref sig .tc := ⟨.hbm, 325, rfl⟩
abbrev main_v225 : Ref sig .tc := ⟨.hbm, 326, rfl⟩
abbrev main_v226 : Ref sig .tc := ⟨.hbm, 327, rfl⟩
abbrev main_v227 : Ref sig .tc := ⟨.hbm, 328, rfl⟩
abbrev main_v228 : Ref sig .tc := ⟨.hbm, 329, rfl⟩
abbrev main_call6_cst : Ref sig .tc := ⟨.hbm, 330, rfl⟩
abbrev main_call6_v0 : Ref sig .tc := ⟨.hbm, 331, rfl⟩
abbrev main_v229 : Ref sig .tc := ⟨.hbm, 332, rfl⟩
abbrev main_v230 : Ref sig .tc := ⟨.hbm, 333, rfl⟩
abbrev main_v231 : Ref sig .tc := ⟨.hbm, 334, rfl⟩
abbrev main_v232 : Ref sig .tc := ⟨.hbm, 335, rfl⟩
abbrev main_v233 : Ref sig .tc := ⟨.hbm, 336, rfl⟩
abbrev main_v234 : Ref sig .tc := ⟨.hbm, 337, rfl⟩
abbrev main_v235 : Ref sig .tc := ⟨.hbm, 338, rfl⟩
abbrev main_v236 : Ref sig .tc := ⟨.hbm, 339, rfl⟩
abbrev main_v237 : Ref sig .tc := ⟨.hbm, 340, rfl⟩
abbrev main_v238 : Ref sig .tc := ⟨.hbm, 341, rfl⟩
abbrev main_v239 : Ref sig .tc := ⟨.hbm, 342, rfl⟩
abbrev main_v240 : Ref sig .tc := ⟨.hbm, 343, rfl⟩
abbrev main_v241 : Ref sig .tc := ⟨.hbm, 344, rfl⟩
abbrev main_v242 : Ref sig .tc := ⟨.hbm, 345, rfl⟩
abbrev main_v243 : Ref sig .tc := ⟨.hbm, 346, rfl⟩
abbrev main_v244 : Ref sig .tc := ⟨.hbm, 347, rfl⟩
abbrev main_v245 : Ref sig .tc := ⟨.hbm, 348, rfl⟩
abbrev main_v246 : Ref sig .tc := ⟨.hbm, 349, rfl⟩
abbrev main_v247 : Ref sig .tc := ⟨.hbm, 350, rfl⟩
abbrev main_v248 : Ref sig .tc := ⟨.hbm, 351, rfl⟩
abbrev main_v249 : Ref sig .tc := ⟨.hbm, 352, rfl⟩
abbrev main_v250 : Ref sig .tc := ⟨.hbm, 353, rfl⟩
abbrev main_v251 : Ref sig .tc := ⟨.hbm, 354, rfl⟩
abbrev main_call7_cst : Ref sig .tc := ⟨.hbm, 355, rfl⟩
abbrev main_call7_v0 : Ref sig .tc := ⟨.hbm, 356, rfl⟩
abbrev main_v252 : Ref sig .tc := ⟨.hbm, 357, rfl⟩
abbrev main_v253 : Ref sig .tc := ⟨.hbm, 358, rfl⟩
abbrev main_v254 : Ref sig .tc := ⟨.hbm, 359, rfl⟩
abbrev main_v255 : Ref sig .tc := ⟨.hbm, 360, rfl⟩
abbrev main_v256 : Ref sig .tc := ⟨.hbm, 361, rfl⟩
abbrev main_v257 : Ref sig .tc := ⟨.hbm, 362, rfl⟩
abbrev main_v258 : Ref sig .tc := ⟨.hbm, 363, rfl⟩
abbrev main_v259 : Ref sig .tc := ⟨.hbm, 364, rfl⟩
abbrev main_v260 : Ref sig .tc := ⟨.hbm, 365, rfl⟩
abbrev main_v261 : Ref sig .tc := ⟨.hbm, 366, rfl⟩
abbrev main_v262 : Ref sig .tc := ⟨.hbm, 367, rfl⟩
abbrev main_v263 : Ref sig .tc := ⟨.hbm, 368, rfl⟩
abbrev main_v264 : Ref sig .tc := ⟨.hbm, 369, rfl⟩
abbrev main_v265 : Ref sig .tc := ⟨.hbm, 370, rfl⟩
abbrev main_v266 : Ref sig .tc := ⟨.hbm, 371, rfl⟩
abbrev main_v267 : Ref sig .tc := ⟨.hbm, 372, rfl⟩
abbrev main_v268 : Ref sig .tc := ⟨.hbm, 373, rfl⟩
abbrev main_v269 : Ref sig .tc := ⟨.hbm, 374, rfl⟩
abbrev main_v270 : Ref sig .tc := ⟨.hbm, 375, rfl⟩
abbrev main_v271 : Ref sig .tc := ⟨.hbm, 376, rfl⟩
abbrev main_v272 : Ref sig .tc := ⟨.hbm, 377, rfl⟩
abbrev main_v273 : Ref sig .tc := ⟨.hbm, 378, rfl⟩
abbrev main_v274 : Ref sig .tc := ⟨.hbm, 379, rfl⟩
abbrev main_call8_cst : Ref sig .tc := ⟨.hbm, 380, rfl⟩
abbrev main_call8_v0 : Ref sig .tc := ⟨.hbm, 381, rfl⟩
abbrev main_v275 : Ref sig .tc := ⟨.hbm, 382, rfl⟩
abbrev main_v276 : Ref sig .tc := ⟨.hbm, 383, rfl⟩
abbrev main_v277 : Ref sig .tc := ⟨.hbm, 384, rfl⟩
abbrev main_v278 : Ref sig .tc := ⟨.hbm, 385, rfl⟩
abbrev main_v279 : Ref sig .tc := ⟨.hbm, 386, rfl⟩
abbrev main_v280 : Ref sig .tc := ⟨.hbm, 387, rfl⟩
abbrev main_v281 : Ref sig .tc := ⟨.hbm, 388, rfl⟩
abbrev main_v282 : Ref sig .tc := ⟨.hbm, 389, rfl⟩
abbrev main_v283 : Ref sig .tc := ⟨.hbm, 390, rfl⟩
abbrev main_v284 : Ref sig .tc := ⟨.hbm, 391, rfl⟩
abbrev main_v285 : Ref sig .tc := ⟨.hbm, 392, rfl⟩
abbrev main_v286 : Ref sig .tc := ⟨.hbm, 393, rfl⟩
abbrev main_v287 : Ref sig .tc := ⟨.hbm, 394, rfl⟩
abbrev main_v288 : Ref sig .tc := ⟨.hbm, 395, rfl⟩
abbrev main_v289 : Ref sig .tc := ⟨.hbm, 396, rfl⟩
abbrev main_v290 : Ref sig .tc := ⟨.hbm, 397, rfl⟩
abbrev main_v291 : Ref sig .tc := ⟨.hbm, 398, rfl⟩
abbrev main_v292 : Ref sig .tc := ⟨.hbm, 399, rfl⟩
abbrev main_v293 : Ref sig .tc := ⟨.hbm, 400, rfl⟩
abbrev main_v294 : Ref sig .tc := ⟨.hbm, 401, rfl⟩
abbrev main_v295 : Ref sig .tc := ⟨.hbm, 402, rfl⟩
abbrev main_v296 : Ref sig .tc := ⟨.hbm, 403, rfl⟩
abbrev main_v297 : Ref sig .tc := ⟨.hbm, 404, rfl⟩
abbrev main_call9_cst : Ref sig .tc := ⟨.hbm, 405, rfl⟩
abbrev main_call9_v0 : Ref sig .tc := ⟨.hbm, 406, rfl⟩
abbrev main_v298 : Ref sig .tc := ⟨.hbm, 407, rfl⟩
abbrev main_v299 : Ref sig .tc := ⟨.hbm, 408, rfl⟩
abbrev main_v300 : Ref sig .tc := ⟨.hbm, 409, rfl⟩
abbrev main_v301 : Ref sig .tc := ⟨.hbm, 410, rfl⟩
abbrev main_v302 : Ref sig .tc := ⟨.hbm, 411, rfl⟩
abbrev main_v303 : Ref sig .tc := ⟨.hbm, 412, rfl⟩
abbrev main_v304 : Ref sig .tc := ⟨.hbm, 413, rfl⟩
abbrev main_v305 : Ref sig .tc := ⟨.hbm, 414, rfl⟩
abbrev main_v306 : Ref sig .tc := ⟨.hbm, 415, rfl⟩
abbrev main_v307 : Ref sig .tc := ⟨.hbm, 416, rfl⟩
abbrev main_v308 : Ref sig .tc := ⟨.hbm, 417, rfl⟩
abbrev main_v309 : Ref sig .tc := ⟨.hbm, 418, rfl⟩
abbrev main_v310 : Ref sig .tc := ⟨.hbm, 419, rfl⟩
abbrev main_v311 : Ref sig .tc := ⟨.hbm, 420, rfl⟩
abbrev main_v312 : Ref sig .tc := ⟨.hbm, 421, rfl⟩
abbrev main_v313 : Ref sig .tc := ⟨.hbm, 422, rfl⟩
abbrev main_cst_38 : Ref sig .tc := ⟨.hbm, 423, rfl⟩
abbrev main_v314 : Ref sig .tc := ⟨.hbm, 424, rfl⟩
abbrev main_c_39 : Ref sig .tc := ⟨.hbm, 425, rfl⟩
abbrev main_call10_cst : Ref sig .tc := ⟨.hbm, 426, rfl⟩
abbrev main_call10_v0 : Ref sig .tc := ⟨.hbm, 427, rfl⟩
abbrev main_call10_v1 : Ref sig .tc := ⟨.hbm, 428, rfl⟩
abbrev main_call10_cst_0 : Ref sig .tc := ⟨.hbm, 429, rfl⟩
abbrev main_call10_v2 : Ref sig .tc := ⟨.hbm, 430, rfl⟩
abbrev main_call10_v3 : Ref sig .tc := ⟨.hbm, 431, rfl⟩
abbrev main_call10_v4 : Ref sig .tc := ⟨.hbm, 432, rfl⟩
abbrev main_call10_v5 : Ref sig .tc := ⟨.hbm, 433, rfl⟩
abbrev main_call10_v6 : Ref sig .tc := ⟨.hbm, 434, rfl⟩
abbrev main_call10_v7 : Ref sig .tc := ⟨.hbm, 435, rfl⟩
abbrev main_call10_cst_1 : Ref sig .tc := ⟨.hbm, 436, rfl⟩
abbrev main_call10_v8 : Ref sig .tc := ⟨.hbm, 437, rfl⟩
abbrev main_call10_cst_2 : Ref sig .tc := ⟨.hbm, 438, rfl⟩
abbrev main_call10_v9 : Ref sig .tc := ⟨.hbm, 439, rfl⟩
abbrev main_call10_v10 : Ref sig .tc := ⟨.hbm, 440, rfl⟩
abbrev main_call10_cst_3 : Ref sig .tc := ⟨.hbm, 441, rfl⟩
abbrev main_call10_v11 : Ref sig .tc := ⟨.hbm, 442, rfl⟩
abbrev main_call10_cst_4 : Ref sig .tc := ⟨.hbm, 443, rfl⟩
abbrev main_call10_call0_v0 : Ref sig .tc := ⟨.hbm, 444, rfl⟩
abbrev main_v315 : Ref sig .tc := ⟨.hbm, 445, rfl⟩
abbrev main_cst_40 : Ref sig .tc := ⟨.hbm, 446, rfl⟩
abbrev main_v316 : Ref sig .tc := ⟨.hbm, 447, rfl⟩
abbrev main_cst_41 : Ref sig .tc := ⟨.hbm, 448, rfl⟩
abbrev main_v317 : Ref sig .tc := ⟨.hbm, 449, rfl⟩
abbrev main_v318 : Ref sig .tc := ⟨.hbm, 450, rfl⟩
abbrev main_cst_42 : Ref sig .tc := ⟨.hbm, 451, rfl⟩
abbrev main_v319 : Ref sig .tc := ⟨.hbm, 452, rfl⟩
abbrev main_v320 : Ref sig .tc := ⟨.hbm, 453, rfl⟩
abbrev main_cst_43 : Ref sig .tc := ⟨.hbm, 454, rfl⟩
abbrev main_v321 : Ref sig .tc := ⟨.hbm, 455, rfl⟩
abbrev main_v322 : Ref sig .tc := ⟨.hbm, 456, rfl⟩
abbrev main_v323 : Ref sig .tc := ⟨.hbm, 457, rfl⟩
abbrev main_v324 : Ref sig .tc := ⟨.hbm, 458, rfl⟩
abbrev main_cst_44 : Ref sig .tc := ⟨.hbm, 459, rfl⟩
abbrev main_v325 : Ref sig .tc := ⟨.hbm, 460, rfl⟩
abbrev main_cst_45 : Ref sig .tc := ⟨.hbm, 461, rfl⟩
abbrev main_v326 : Ref sig .tc := ⟨.hbm, 462, rfl⟩
abbrev main_cst_46 : Ref sig .tc := ⟨.hbm, 463, rfl⟩
abbrev main_v327 : Ref sig .tc := ⟨.hbm, 464, rfl⟩
abbrev main_v328 : Ref sig .tc := ⟨.hbm, 465, rfl⟩
abbrev main_v329 : Ref sig .tc := ⟨.hbm, 466, rfl⟩
abbrev main_v330 : Ref sig .tc := ⟨.hbm, 467, rfl⟩
abbrev main_v331 : Ref sig .tc := ⟨.hbm, 468, rfl⟩
abbrev main_v332 : Ref sig .tc := ⟨.hbm, 469, rfl⟩
abbrev main_v333 : Ref sig .tc := ⟨.hbm, 470, rfl⟩
abbrev main_v334 : Ref sig .tc := ⟨.hbm, 471, rfl⟩
abbrev main_v335 : Ref sig .tc := ⟨.hbm, 472, rfl⟩
abbrev main_v336 : Ref sig .tc := ⟨.hbm, 473, rfl⟩
abbrev main_v337 : Ref sig .tc := ⟨.hbm, 474, rfl⟩
abbrev main_v338 : Ref sig .tc := ⟨.hbm, 475, rfl⟩
abbrev main_v339 : Ref sig .tc := ⟨.hbm, 476, rfl⟩
abbrev main_cst_47 : Ref sig .tc := ⟨.hbm, 477, rfl⟩
abbrev main_v340 : Ref sig .tc := ⟨.hbm, 478, rfl⟩
abbrev main_cst_48 : Ref sig .tc := ⟨.hbm, 479, rfl⟩
abbrev main_v341 : Ref sig .tc := ⟨.hbm, 480, rfl⟩
abbrev main_v342 : Ref sig .tc := ⟨.hbm, 481, rfl⟩
abbrev main_v343 : Ref sig .tc := ⟨.hbm, 482, rfl⟩
abbrev main_values_49 : Ref sig .tc := ⟨.hbm, 483, rfl⟩
abbrev main_indices_50 : Ref sig .tc := ⟨.hbm, 484, rfl⟩
abbrev main_cst_51 : Ref sig .tc := ⟨.hbm, 485, rfl⟩
abbrev main_v344 : Ref sig .tc := ⟨.hbm, 486, rfl⟩
abbrev main_v345 : Ref sig .tc := ⟨.hbm, 487, rfl⟩
abbrev main_cst_52 : Ref sig .tc := ⟨.hbm, 488, rfl⟩
abbrev main_v346 : Ref sig .tc := ⟨.hbm, 489, rfl⟩
abbrev main_cst_53 : Ref sig .tc := ⟨.hbm, 490, rfl⟩
abbrev main_v347 : Ref sig .tc := ⟨.hbm, 491, rfl⟩
abbrev main_v348 : Ref sig .tc := ⟨.hbm, 492, rfl⟩
abbrev main_v349 : Ref sig .tc := ⟨.hbm, 493, rfl⟩
abbrev main_v350 : Ref sig .tc := ⟨.hbm, 494, rfl⟩
abbrev main_v351 : Ref sig .tc := ⟨.hbm, 495, rfl⟩
abbrev main_v352 : Ref sig .tc := ⟨.hbm, 496, rfl⟩
abbrev main_cst_54 : Ref sig .tc := ⟨.hbm, 497, rfl⟩
abbrev main_v353 : Ref sig .tc := ⟨.hbm, 498, rfl⟩
abbrev main_v354 : Ref sig .tc := ⟨.hbm, 499, rfl⟩
abbrev main_v355 : Ref sig .tc := ⟨.hbm, 500, rfl⟩
abbrev main_v356 : Ref sig .tc := ⟨.hbm, 501, rfl⟩
abbrev main_cst_55 : Ref sig .tc := ⟨.hbm, 502, rfl⟩
abbrev main_v357 : Ref sig .tc := ⟨.hbm, 503, rfl⟩
abbrev main_v358 : Ref sig .tc := ⟨.hbm, 504, rfl⟩
abbrev main_v359 : Ref sig .tc := ⟨.hbm, 505, rfl⟩
abbrev main_c_56 : Ref sig .tc := ⟨.hbm, 506, rfl⟩
abbrev main_v360 : Ref sig .tc := ⟨.hbm, 507, rfl⟩
abbrev main_v361 : Ref sig .tc := ⟨.hbm, 508, rfl⟩
abbrev main_c_57 : Ref sig .tc := ⟨.hbm, 509, rfl⟩
abbrev main_v362 : Ref sig .tc := ⟨.hbm, 510, rfl⟩
abbrev main_v363 : Ref sig .tc := ⟨.hbm, 511, rfl⟩
abbrev main_v364 : Ref sig .tc := ⟨.hbm, 512, rfl⟩
abbrev main_c_58 : Ref sig .tc := ⟨.hbm, 513, rfl⟩
abbrev main_v365 : Ref sig .tc := ⟨.hbm, 514, rfl⟩
abbrev main_v366 : Ref sig .tc := ⟨.hbm, 515, rfl⟩
abbrev main_c_59 : Ref sig .tc := ⟨.hbm, 516, rfl⟩
abbrev main_v367 : Ref sig .tc := ⟨.hbm, 517, rfl⟩
abbrev main_v368 : Ref sig .tc := ⟨.hbm, 518, rfl⟩
abbrev main_v369 : Ref sig .tc := ⟨.hbm, 519, rfl⟩
abbrev main_v370 : Ref sig .tc := ⟨.hbm, 520, rfl⟩
abbrev main_v371 : Ref sig .tc := ⟨.hbm, 521, rfl⟩
abbrev main_v372 : Ref sig .tc := ⟨.hbm, 522, rfl⟩
abbrev main_v373 : Ref sig .tc := ⟨.hbm, 523, rfl⟩
abbrev main_v374 : Ref sig .tc := ⟨.hbm, 524, rfl⟩
abbrev main_cst_60 : Ref sig .tc := ⟨.hbm, 525, rfl⟩
abbrev main_v375 : Ref sig .tc := ⟨.hbm, 526, rfl⟩
abbrev main_v376 : Ref sig .tc := ⟨.hbm, 527, rfl⟩
abbrev main_v377 : Ref sig .tc := ⟨.hbm, 528, rfl⟩
abbrev main_v378 : Ref sig .tc := ⟨.hbm, 529, rfl⟩
abbrev main_v379 : Ref sig .tc := ⟨.hbm, 530, rfl⟩
abbrev main_v380 : Ref sig .tc := ⟨.hbm, 531, rfl⟩
abbrev main_v381 : Ref sig .tc := ⟨.hbm, 532, rfl⟩
abbrev main_v382 : Ref sig .tc := ⟨.hbm, 533, rfl⟩
abbrev main_v383 : Ref sig .tc := ⟨.hbm, 534, rfl⟩
abbrev main_call11_cst : Ref sig .tc := ⟨.hbm, 535, rfl⟩
abbrev main_call11_v0 : Ref sig .tc := ⟨.hbm, 536, rfl⟩
abbrev main_v384 : Ref sig .tc := ⟨.hbm, 537, rfl⟩
abbrev main_v385 : Ref sig .tc := ⟨.hbm, 538, rfl⟩
abbrev main_v386 : Ref sig .tc := ⟨.hbm, 539, rfl⟩
abbrev main_v387 : Ref sig .tc := ⟨.hbm, 540, rfl⟩
abbrev main_v388 : Ref sig .tc := ⟨.hbm, 541, rfl⟩
abbrev main_v389 : Ref sig .tc := ⟨.hbm, 542, rfl⟩
abbrev main_v390 : Ref sig .tc := ⟨.hbm, 543, rfl⟩
abbrev main_v391 : Ref sig .tc := ⟨.hbm, 544, rfl⟩
abbrev main_v392 : Ref sig .tc := ⟨.hbm, 545, rfl⟩
abbrev main_v393 : Ref sig .tc := ⟨.hbm, 546, rfl⟩
abbrev main_v394 : Ref sig .tc := ⟨.hbm, 547, rfl⟩
abbrev main_v395 : Ref sig .tc := ⟨.hbm, 548, rfl⟩
abbrev main_v396 : Ref sig .tc := ⟨.hbm, 549, rfl⟩
abbrev main_v397 : Ref sig .tc := ⟨.hbm, 550, rfl⟩
abbrev main_v398 : Ref sig .tc := ⟨.hbm, 551, rfl⟩
abbrev main_v399 : Ref sig .tc := ⟨.hbm, 552, rfl⟩
abbrev main_v400 : Ref sig .tc := ⟨.hbm, 553, rfl⟩
abbrev main_v401 : Ref sig .tc := ⟨.hbm, 554, rfl⟩
abbrev main_v402 : Ref sig .tc := ⟨.hbm, 555, rfl⟩
abbrev main_v403 : Ref sig .tc := ⟨.hbm, 556, rfl⟩
abbrev main_v404 : Ref sig .tc := ⟨.hbm, 557, rfl⟩
abbrev main_v405 : Ref sig .tc := ⟨.hbm, 558, rfl⟩
abbrev main_v406 : Ref sig .tc := ⟨.hbm, 559, rfl⟩
abbrev main_call12_cst : Ref sig .tc := ⟨.hbm, 560, rfl⟩
abbrev main_call12_v0 : Ref sig .tc := ⟨.hbm, 561, rfl⟩
abbrev main_v407 : Ref sig .tc := ⟨.hbm, 562, rfl⟩
abbrev main_v408 : Ref sig .tc := ⟨.hbm, 563, rfl⟩
abbrev main_v409 : Ref sig .tc := ⟨.hbm, 564, rfl⟩
abbrev main_v410 : Ref sig .tc := ⟨.hbm, 565, rfl⟩
abbrev main_v411 : Ref sig .tc := ⟨.hbm, 566, rfl⟩
abbrev main_v412 : Ref sig .tc := ⟨.hbm, 567, rfl⟩
abbrev main_v413 : Ref sig .tc := ⟨.hbm, 568, rfl⟩
abbrev main_v414 : Ref sig .tc := ⟨.hbm, 569, rfl⟩
abbrev main_v415 : Ref sig .tc := ⟨.hbm, 570, rfl⟩
abbrev main_v416 : Ref sig .tc := ⟨.hbm, 571, rfl⟩
abbrev main_v417 : Ref sig .tc := ⟨.hbm, 572, rfl⟩
abbrev main_v418 : Ref sig .tc := ⟨.hbm, 573, rfl⟩
abbrev main_v419 : Ref sig .tc := ⟨.hbm, 574, rfl⟩
abbrev main_v420 : Ref sig .tc := ⟨.hbm, 575, rfl⟩
abbrev main_v421 : Ref sig .tc := ⟨.hbm, 576, rfl⟩
abbrev main_v422 : Ref sig .tc := ⟨.hbm, 577, rfl⟩
abbrev main_v423 : Ref sig .tc := ⟨.hbm, 578, rfl⟩
abbrev main_v424 : Ref sig .tc := ⟨.hbm, 579, rfl⟩
abbrev main_v425 : Ref sig .tc := ⟨.hbm, 580, rfl⟩
abbrev main_v426 : Ref sig .tc := ⟨.hbm, 581, rfl⟩
abbrev main_v427 : Ref sig .tc := ⟨.hbm, 582, rfl⟩
abbrev main_v428 : Ref sig .tc := ⟨.hbm, 583, rfl⟩
abbrev main_v429 : Ref sig .tc := ⟨.hbm, 584, rfl⟩
abbrev main_call13_cst : Ref sig .tc := ⟨.hbm, 585, rfl⟩
abbrev main_call13_v0 : Ref sig .tc := ⟨.hbm, 586, rfl⟩
abbrev main_v430 : Ref sig .tc := ⟨.hbm, 587, rfl⟩
abbrev main_v431 : Ref sig .tc := ⟨.hbm, 588, rfl⟩
abbrev main_v432 : Ref sig .tc := ⟨.hbm, 589, rfl⟩
abbrev main_v433 : Ref sig .tc := ⟨.hbm, 590, rfl⟩
abbrev main_v434 : Ref sig .tc := ⟨.hbm, 591, rfl⟩
abbrev main_v435 : Ref sig .tc := ⟨.hbm, 592, rfl⟩
abbrev main_v436 : Ref sig .tc := ⟨.hbm, 593, rfl⟩
abbrev main_v437 : Ref sig .tc := ⟨.hbm, 594, rfl⟩
abbrev main_v438 : Ref sig .tc := ⟨.hbm, 595, rfl⟩
abbrev main_v439 : Ref sig .tc := ⟨.hbm, 596, rfl⟩
abbrev main_v440 : Ref sig .tc := ⟨.hbm, 597, rfl⟩
abbrev main_v441 : Ref sig .tc := ⟨.hbm, 598, rfl⟩
abbrev main_v442 : Ref sig .tc := ⟨.hbm, 599, rfl⟩
abbrev main_v443 : Ref sig .tc := ⟨.hbm, 600, rfl⟩
abbrev main_v444 : Ref sig .tc := ⟨.hbm, 601, rfl⟩
abbrev main_v445 : Ref sig .tc := ⟨.hbm, 602, rfl⟩
abbrev main_v446 : Ref sig .tc := ⟨.hbm, 603, rfl⟩
abbrev main_v447 : Ref sig .tc := ⟨.hbm, 604, rfl⟩
abbrev main_v448 : Ref sig .tc := ⟨.hbm, 605, rfl⟩
abbrev main_v449 : Ref sig .tc := ⟨.hbm, 606, rfl⟩
abbrev main_v450 : Ref sig .tc := ⟨.hbm, 607, rfl⟩
abbrev main_v451 : Ref sig .tc := ⟨.hbm, 608, rfl⟩
abbrev main_v452 : Ref sig .tc := ⟨.hbm, 609, rfl⟩
abbrev main_call14_cst : Ref sig .tc := ⟨.hbm, 610, rfl⟩
abbrev main_call14_v0 : Ref sig .tc := ⟨.hbm, 611, rfl⟩
abbrev main_v453 : Ref sig .tc := ⟨.hbm, 612, rfl⟩
abbrev main_v454 : Ref sig .tc := ⟨.hbm, 613, rfl⟩
abbrev main_v455 : Ref sig .tc := ⟨.hbm, 614, rfl⟩
abbrev main_v456 : Ref sig .tc := ⟨.hbm, 615, rfl⟩
abbrev main_v457 : Ref sig .tc := ⟨.hbm, 616, rfl⟩
abbrev main_v458 : Ref sig .tc := ⟨.hbm, 617, rfl⟩
abbrev main_v459 : Ref sig .tc := ⟨.hbm, 618, rfl⟩
abbrev main_v460 : Ref sig .tc := ⟨.hbm, 619, rfl⟩
abbrev main_v461 : Ref sig .tc := ⟨.hbm, 620, rfl⟩
abbrev main_v462 : Ref sig .tc := ⟨.hbm, 621, rfl⟩
abbrev main_v463 : Ref sig .tc := ⟨.hbm, 622, rfl⟩
abbrev main_v464 : Ref sig .tc := ⟨.hbm, 623, rfl⟩
abbrev main_v465 : Ref sig .tc := ⟨.hbm, 624, rfl⟩
abbrev main_v466 : Ref sig .tc := ⟨.hbm, 625, rfl⟩
abbrev main_v467 : Ref sig .tc := ⟨.hbm, 626, rfl⟩
abbrev main_v468 : Ref sig .tc := ⟨.hbm, 627, rfl⟩
abbrev main_cst_61 : Ref sig .tc := ⟨.hbm, 628, rfl⟩
abbrev main_v469 : Ref sig .tc := ⟨.hbm, 629, rfl⟩
abbrev main_c_62 : Ref sig .tc := ⟨.hbm, 630, rfl⟩
abbrev main_call15_cst : Ref sig .tc := ⟨.hbm, 631, rfl⟩
abbrev main_call15_v0 : Ref sig .tc := ⟨.hbm, 632, rfl⟩
abbrev main_call15_v1 : Ref sig .tc := ⟨.hbm, 633, rfl⟩
abbrev main_call15_cst_0 : Ref sig .tc := ⟨.hbm, 634, rfl⟩
abbrev main_call15_v2 : Ref sig .tc := ⟨.hbm, 635, rfl⟩
abbrev main_call15_v3 : Ref sig .tc := ⟨.hbm, 636, rfl⟩
abbrev main_call15_v4 : Ref sig .tc := ⟨.hbm, 637, rfl⟩
abbrev main_call15_v5 : Ref sig .tc := ⟨.hbm, 638, rfl⟩
abbrev main_call15_v6 : Ref sig .tc := ⟨.hbm, 639, rfl⟩
abbrev main_call15_v7 : Ref sig .tc := ⟨.hbm, 640, rfl⟩
abbrev main_call15_cst_1 : Ref sig .tc := ⟨.hbm, 641, rfl⟩
abbrev main_call15_v8 : Ref sig .tc := ⟨.hbm, 642, rfl⟩
abbrev main_call15_cst_2 : Ref sig .tc := ⟨.hbm, 643, rfl⟩
abbrev main_call15_v9 : Ref sig .tc := ⟨.hbm, 644, rfl⟩
abbrev main_call15_v10 : Ref sig .tc := ⟨.hbm, 645, rfl⟩
abbrev main_call15_cst_3 : Ref sig .tc := ⟨.hbm, 646, rfl⟩
abbrev main_call15_v11 : Ref sig .tc := ⟨.hbm, 647, rfl⟩
abbrev main_call15_cst_4 : Ref sig .tc := ⟨.hbm, 648, rfl⟩
abbrev main_call15_call0_v0 : Ref sig .tc := ⟨.hbm, 649, rfl⟩
abbrev main_v470 : Ref sig .tc := ⟨.hbm, 650, rfl⟩
abbrev main_cst_63 : Ref sig .tc := ⟨.hbm, 651, rfl⟩
abbrev main_v471 : Ref sig .tc := ⟨.hbm, 652, rfl⟩
abbrev main_cst_64 : Ref sig .tc := ⟨.hbm, 653, rfl⟩
abbrev main_v472 : Ref sig .tc := ⟨.hbm, 654, rfl⟩
abbrev main_v473 : Ref sig .tc := ⟨.hbm, 655, rfl⟩
abbrev main_cst_65 : Ref sig .tc := ⟨.hbm, 656, rfl⟩
abbrev main_v474 : Ref sig .tc := ⟨.hbm, 657, rfl⟩
abbrev main_v475 : Ref sig .tc := ⟨.hbm, 658, rfl⟩
abbrev main_cst_66 : Ref sig .tc := ⟨.hbm, 659, rfl⟩
abbrev main_v476 : Ref sig .tc := ⟨.hbm, 660, rfl⟩
abbrev main_v477 : Ref sig .tc := ⟨.hbm, 661, rfl⟩
abbrev main_v478 : Ref sig .tc := ⟨.hbm, 662, rfl⟩
abbrev main_v479 : Ref sig .tc := ⟨.hbm, 663, rfl⟩
abbrev main_cst_67 : Ref sig .tc := ⟨.hbm, 664, rfl⟩
abbrev main_v480 : Ref sig .tc := ⟨.hbm, 665, rfl⟩
abbrev main_cst_68 : Ref sig .tc := ⟨.hbm, 666, rfl⟩
abbrev main_v481 : Ref sig .tc := ⟨.hbm, 667, rfl⟩
abbrev main_cst_69 : Ref sig .tc := ⟨.hbm, 668, rfl⟩
abbrev main_v482 : Ref sig .tc := ⟨.hbm, 669, rfl⟩
abbrev main_v483 : Ref sig .tc := ⟨.hbm, 670, rfl⟩
abbrev main_v484 : Ref sig .tc := ⟨.hbm, 671, rfl⟩
abbrev main_v485 : Ref sig .tc := ⟨.hbm, 672, rfl⟩
abbrev main_v486 : Ref sig .tc := ⟨.hbm, 673, rfl⟩
abbrev main_v487 : Ref sig .tc := ⟨.hbm, 674, rfl⟩
abbrev main_v488 : Ref sig .tc := ⟨.hbm, 675, rfl⟩
abbrev main_v489 : Ref sig .tc := ⟨.hbm, 676, rfl⟩
abbrev main_v490 : Ref sig .tc := ⟨.hbm, 677, rfl⟩
abbrev main_v491 : Ref sig .tc := ⟨.hbm, 678, rfl⟩
abbrev main_v492 : Ref sig .tc := ⟨.hbm, 679, rfl⟩
abbrev main_v493 : Ref sig .tc := ⟨.hbm, 680, rfl⟩
abbrev main_v494 : Ref sig .tc := ⟨.hbm, 681, rfl⟩
abbrev main_v495 : Ref sig .tc := ⟨.hbm, 682, rfl⟩
abbrev main_v496 : Ref sig .tc := ⟨.hbm, 683, rfl⟩
abbrev main_v497 : Ref sig .tc := ⟨.hbm, 684, rfl⟩
abbrev main_v498 : Ref sig .tc := ⟨.hbm, 685, rfl⟩
abbrev main_v499 : Ref sig .tc := ⟨.hbm, 686, rfl⟩
abbrev main_cst_70 : Ref sig .tc := ⟨.hbm, 687, rfl⟩
abbrev main_v500 : Ref sig .tc := ⟨.hbm, 688, rfl⟩
abbrev main_cst_71 : Ref sig .tc := ⟨.hbm, 689, rfl⟩
abbrev main_v501 : Ref sig .tc := ⟨.hbm, 690, rfl⟩

abbrev nD : Nat := 1
abbrev τ : Topo := Topo.v7x

variable {F : FTy → Type} [FloatOps F]
-- ==== Proof.Moe.Top.lean ====
/- The choice of two experts out of four, as mathematics: the first position of a row's maximum, the first position of
   the maximum of the rest, and the gate each of the four experts gets. Two computations of the choice are shown to
   make it: the kernel's maxima and least positions, and the sort the reference's top-k is. -/
module

public import Idealize.ShloMosaic.Lib.SortFacts
public import Idealize.ShloMosaic.Lib.Pointwise

@[expose] public section

noncomputable section

namespace Moe

open Idealize.ShloMosaic

/-- `i` is the first position at which the row `r` takes its maximum. -/
def First (r : Fin 4 → EReal) (i : Fin 4) : Prop := ∀ k, r k < r i ∨ (r k = r i ∧ i ≤ k)

/-- The row `r` with position `i` taken out of the running. -/
def mask (r : Fin 4 → EReal) (i : Fin 4) : Fin 4 → EReal := fun k => if k = i then ⊥ else r k

theorem First.unique {r : Fin 4 → EReal} {i j : Fin 4} (hi : First r i) (hj : First r j) : i = j := by
  rcases hi j with h | ⟨h, h'⟩
  · rcases hj i with g | ⟨g, -⟩
    · exact absurd (h.trans g) (lt_irrefl _)
    · exact absurd h (g ▸ lt_irrefl _)
  · rcases hj i with g | ⟨-, g'⟩
    · exact absurd g (h ▸ lt_irrefl _)
    · exact le_antisymm h' g'

/-- Every row has such a position. -/
theorem exists_first (r : Fin 4 → EReal) : ∃ i, First r i := by
  obtain ⟨i, -, hi⟩ := Finset.exists_max_image Finset.univ (fun k => toLex (r k, OrderDual.toDual k)) ⟨0, Finset.mem_univ _⟩
  refine ⟨i, fun k => ?_⟩
  have h := hi k (Finset.mem_univ _)
  rw [Prod.Lex.toLex_le_toLex] at h
  exact h

/-- The best expert's position, -/
def top1 (r : Fin 4 → EReal) : Fin 4 := Classical.choose (exists_first r)
/-- and the best of the other three's. -/
def top2 (r : Fin 4 → EReal) : Fin 4 := Classical.choose (exists_first (mask r (top1 r)))

theorem first_top1 (r : Fin 4 → EReal) : First r (top1 r) := Classical.choose_spec (exists_first r)
theorem first_top2 (r : Fin 4 → EReal) : First (mask r (top1 r)) (top2 r) := Classical.choose_spec (exists_first (mask r (top1 r)))

/-- The second is not the first, where no entry is `⊥`. -/
theorem top2_ne {r : Fin 4 → EReal} (hr : ∀ k, r k ≠ ⊥) : top2 r ≠ top1 r := by
  intro e
  have h0 : ∃ k : Fin 4, k ≠ top1 r := by
    generalize top1 r = i
    revert i; decide
  obtain ⟨k, hk⟩ := h0
  have h := first_top2 r k
  rw [e] at h
  simp only [mask, if_neg hk, if_true] at h
  rcases h with h | ⟨h, -⟩
  · exact absurd h not_lt_bot
  · exact hr k h

theorem mask_top2 {r : Fin 4 → EReal} (hr : ∀ k, r k ≠ ⊥) : mask r (top1 r) (top2 r) = r (top2 r) := if_neg (top2_ne hr)

/-- How much less the second expert weighs than the first. -/
def weight (r : Fin 4 → EReal) : EReal := Ideal.exp (r (top2 r) - r (top1 r))

/-- The gate of expert `e`: the softmax of the two best logits, at their experts, and zero elsewhere. -/
def gate (r : Fin 4 → EReal) (e : Fin 4) : EReal :=
  if e = top1 r then Ideal.div 1 (1 + weight r) else if e = top2 r then Ideal.div (weight r) (1 + weight r) else 0

/-! ## The choice by maxima and least positions -/

theorem First.le {r : Fin 4 → EReal} {i : Fin 4} (h : First r i) (k : Fin 4) : r k ≤ r i := by
  rcases h k with h | ⟨h, -⟩
  · exact h.le
  · exact h.le

/-- The maximum of the row is its entry there. -/
theorem First.fold_max {r : Fin 4 → EReal} {i : Fin 4} (h : First r i) :
    Finset.univ.fold max (⊥ : EReal) r = r i := by
  apply le_antisymm
  · rw [Finset.fold_max_le]
    exact ⟨bot_le, fun k _ => h.le k⟩
  · rw [Finset.le_fold_max]
    exact Or.inr ⟨i, Finset.mem_univ _, le_rfl⟩

/-- The least position at which the row takes its maximum, computed on words. -/
theorem First.fold_min {r : Fin 4 → EReal} {i : Fin 4} (h : First r i) :
    Finset.univ.fold IntOp.minsi (2147483647#32) (fun k : Fin 4 => if r k = r i then BitVec.ofNat 32 k else 4#32) = BitVec.ofNat 32 i := by
  have key : ∀ (p : Fin 4 → Bool), p i = true → (∀ k, k < i → p k = false) →
      Finset.univ.fold IntOp.minsi (2147483647#32) (fun k : Fin 4 => if p k then BitVec.ofNat 32 k else 4#32) = BitVec.ofNat 32 i := by
    clear h
    revert i
    decide
  have e := key (fun k => decide (r k = r i)) (by simp) (fun k hk => by
    rcases h k with g | ⟨-, g⟩
    · simpa using g.ne
    · exact absurd hk (not_lt.mpr g))
  simpa using e

/-! ## The choice by a stable sort -/

/-- `a` comes strictly before `b`: greater, or equal and earlier. -/
def before (r : Fin 4 → EReal) (a b : Fin 4) : Bool := decide (r b < r a ∨ (r a = r b ∧ a < b))

theorem insert_eq (r : Fin 4 → EReal) (a : Fin 4) (l : List (Fin 4)) (h : ∀ b ∈ l, a < b) :
    insertBefore (fun x y => decide (r y < r x)) a l = insertBefore (before r) a l :=
  insertBefore_congr _ _ a l fun b hb => by
    have : ¬ b < a := not_lt.mpr (h b hb).le
    simp [before, this]

theorem sort_eq (r : Fin 4 → EReal) (l : List (Fin 4)) (h : l.Pairwise (· < ·)) :
    stableSort (fun x y => decide (r y < r x)) l = stableSort (before r) l := by
  induction l with
  | nil => rfl
  | cons a l ih =>
    rw [List.pairwise_cons] at h
    unfold stableSort
    rw [ih h.2]
    exact insert_eq r a _ fun b hb => h.1 b ((perm_stableSort _ _).mem_iff.mp hb)

theorem sortedFrom_eq (r : Fin 4 → EReal) (k : Fin 4) :
    sortedFrom (fun x y => decide (r y < r x)) k = sortedFrom (before r) k := by
  have key : ∀ (l l' : List (Fin 4)) (_ : l = l') (h : l.length = 4) (h' : l'.length = 4),
      l.get (k.cast h.symm) = l'.get (k.cast h'.symm) := by
    rintro l _ rfl _ _; rfl
  exact key _ _ (sort_eq r _ (List.pairwise_lt_finRange 4)) (length_sortPositions 4 _) (length_sortPositions 4 _)

theorem before_false (r : Fin 4 → EReal) {a b : Fin 4} : before r a b = false ↔ (r a < r b ∨ (r a = r b ∧ b ≤ a)) := by
  unfold before
  rw [decide_eq_false_iff_not, not_or, not_and, not_lt, not_lt]
  constructor
  · rintro ⟨h1, h2⟩
    rcases h1.lt_or_eq with h | h
    · exact Or.inl h
    · exact Or.inr ⟨h, h2 h⟩
  · rintro (h | ⟨h, h'⟩)
    · exact ⟨h.le, fun e => absurd h (e ▸ lt_irrefl _)⟩
    · exact ⟨h.le, fun _ => h'⟩

theorem sorted_before (r : Fin 4 → EReal) {i j : Fin 4} (hij : i < j) :
    before r (sortedFrom (before r) j) (sortedFrom (before r) i) = false := by
  refine sortedFrom_noInversion (before r) (before r) (fun a b h => ?_) (fun _ _ h => h) (fun a b c h1 h2 => ?_) i j hij
  · rw [before_false]
    simp only [before, decide_eq_true_eq] at h
    rcases h with h | ⟨h, h'⟩
    · exact Or.inl h
    · exact Or.inr ⟨h.symm, h'.le⟩
  · rw [before_false] at *
    rcases h1 with h1 | ⟨h1, g1⟩ <;> rcases h2 with h2 | ⟨h2, g2⟩
    · exact Or.inl (h1.trans h2)
    · exact Or.inl (h2 ▸ h1)
    · exact Or.inl (h1 ▸ h2)
    · exact Or.inr ⟨h1.trans h2, g2.trans g1⟩

/-- The sort puts the best expert first, -/
theorem sorted_zero (r : Fin 4 → EReal) : sortedFrom (fun x y => decide (r y < r x)) 0 = top1 r := by
  rw [sortedFrom_eq]
  refine First.unique (r := r) (fun k => ?_) (first_top1 r)
  obtain ⟨m, rfl⟩ := sortedFrom_surjective (before r) k
  rcases eq_or_ne m 0 with rfl | hm
  · exact Or.inr ⟨rfl, le_rfl⟩
  · exact (before_false r).mp (sorted_before r (Fin.pos_of_ne_zero hm))

/-- and the best of the others second. -/
theorem sorted_one {r : Fin 4 → EReal} (hr : ∀ k, r k ≠ ⊥) : sortedFrom (fun x y => decide (r y < r x)) 1 = top2 r := by
  have h0 := sorted_zero r
  rw [sortedFrom_eq] at h0 ⊢
  have hne : sortedFrom (before r) 1 ≠ top1 r := by
    rw [← h0]
    exact fun e => absurd (sortedFrom_injective (before r) e) (by decide)
  refine First.unique (r := mask r (top1 r)) (fun k => ?_) (first_top2 r)
  obtain ⟨m, rfl⟩ := sortedFrom_surjective (before r) k
  have e1 : mask r (top1 r) (sortedFrom (before r) 1) = r (sortedFrom (before r) 1) := if_neg hne
  rcases eq_or_ne m 0 with rfl | hm
  · refine Or.inl ?_
    rw [e1, h0, mask, if_pos rfl]
    exact bot_lt_iff_ne_bot.mpr (hr _)
  · have hm' : sortedFrom (before r) m ≠ top1 r := by
      rw [← h0]
      exact fun e => hm (sortedFrom_injective (before r) e)
    rw [e1, mask, if_neg hm']
    rcases eq_or_ne m 1 with rfl | h1
    · exact Or.inr ⟨rfl, le_rfl⟩
    · exact (before_false r).mp (sorted_before r (by omega))

end Moe

end
-- ==== Proof.Moe.Spec.lean ====
/- What the forecaster computes, as mathematics over the extended reals: one expert's feed-forward network, a layer that
   mixes the experts by the rows' gates, the logits the gates come from, and the two statistics of a layer's gates. -/
module

public import proofs.«01_k».proof.Proof.Moe.Top

@[expose] public section

noncomputable section

namespace Moe

open Idealize.ShloMosaic

/-- The activations: series `b`, time step `l`, node `n`, feature `d`. -/
abbrev Act := Fin 8 → Fin 96 → Fin 321 → Fin 64 → EReal

/-- The four experts of a layer. -/
structure Experts where
  W1 : Fin 4 → Fin 64 → Fin 64 → EReal
  b1 : Fin 4 → Fin 64 → EReal
  W2 : Fin 4 → Fin 64 → Fin 64 → EReal
  b2 : Fin 4 → Fin 64 → EReal

/-- Expert `e`'s feed-forward network at the features `v`. -/
def ffn (P : Experts) (e : Fin 4) (v : Fin 64 → EReal) (d : Fin 64) : EReal :=
  (∑ f, max ((∑ k, v k * P.W1 e k f) + P.b1 e f) 0 * P.W2 e f d) + P.b2 e d

/-- The experts mixed by the gates `g`. -/
def mixed (P : Experts) (g : Fin 4 → EReal) (v : Fin 64 → EReal) (d : Fin 64) : EReal := ∑ e, g e * ffn P e v d

/-- A layer: the mixed experts of every position, and the position itself. -/
def layer (P : Experts) (g : Fin 8 → Fin 4 → EReal) (X : Act) : Act :=
  fun b l n d => mixed P (g b) (X b l n) d + X b l n d

/-- A node's sum over time and features. -/
def total (X : Act) (b : Fin 8) (n : Fin 321) : EReal := ∑ l, ∑ d, X b l n d

/-- The number of summands of such a sum, `96 · 64`. -/
abbrev c6144 : EReal := Ideal.ofBits .f32 0x45C00000#32

/-- The gating logits: the node means through the gating matrix. -/
def logits (gw : Fin 321 → Fin 4 → EReal) (X : Act) (b : Fin 8) (e : Fin 4) : EReal :=
  ∑ n, Ideal.div (total X b n) c6144 * gw n e

/-- The gates of every row. -/
def gates (gw : Fin 321 → Fin 4 → EReal) (X : Act) (b : Fin 8) (e : Fin 4) : EReal := gate (logits gw X b) e

/-! ## The statistics of a layer's gates -/

/-- How much of all rows' gates expert `e` gets. -/
def importance (g : Fin 8 → Fin 4 → EReal) (e : Fin 4) : EReal := ∑ b, g b e

/-- The mean importance, -/
def impMean (g : Fin 8 → Fin 4 → EReal) : EReal := Ideal.div (∑ e, importance g e) (Ideal.ofBits .f32 0x40800000#32)

/-- its variance, -/
def impVar (g : Fin 8 → Fin 4 → EReal) : EReal :=
  Ideal.div (∑ e, (importance g e - impMean g) * (importance g e - impMean g)) (Ideal.ofBits .f32 0x40800000#32)

/-- and the squared coefficient of variation: the load-balance loss. -/
def balance (g : Fin 8 → Fin 4 → EReal) : EReal :=
  Ideal.div (impVar g) (impMean g * impMean g + Ideal.ofBits .f32 0x2EDBE6FF#32)

/-- The mean entropy of the rows' gates. -/
def entropy (g : Fin 8 → Fin 4 → EReal) : EReal :=
  -Ideal.div (∑ b, ∑ e, g b e * Ideal.log (g b e + Ideal.ofBits .f32 0x3089705F#32)) (Ideal.ofBits .f32 0x41000000#32)

end Moe

end
-- ==== Proof.Moe.Algebra.lean ====
/- The algebra of the packed layer: two positions side by side in one row of 128 numbers, their two chosen experts side
   by side in block-diagonal weights, the gates multiplied into the second weights. Such a row holds, for each of its two
   positions, the two experts mixed by their gates. -/
module

public import proofs.«01_k».proof.Proof.Moe.Spec

@[expose] public section

noncomputable section

namespace Moe

open Idealize.ShloMosaic

/-! ## Numbers that are finite -/

/-- A finite number. -/
def Real' (x : EReal) : Prop := ∃ r : ℝ, x = (r : EReal)

theorem Real'.of_ne {x : EReal} (h1 : x ≠ ⊥) (h2 : x ≠ ⊤) : Real' x := ⟨x.toReal, (EReal.coe_toReal h2 h1).symm⟩
theorem Real'.ne_bot {x : EReal} (h : Real' x) : x ≠ ⊥ := by obtain ⟨r, rfl⟩ := h; exact EReal.coe_ne_bot r
theorem Real'.ne_top {x : EReal} (h : Real' x) : x ≠ ⊤ := by obtain ⟨r, rfl⟩ := h; exact EReal.coe_ne_top r
theorem Real'.zero : Real' 0 := ⟨0, rfl⟩
theorem Real'.add {x y : EReal} (hx : Real' x) (hy : Real' y) : Real' (x + y) := by
  obtain ⟨a, rfl⟩ := hx; obtain ⟨b, rfl⟩ := hy; exact ⟨a + b, (EReal.coe_add a b).symm⟩
theorem Real'.sub {x y : EReal} (hx : Real' x) (hy : Real' y) : Real' (x - y) := by
  obtain ⟨a, rfl⟩ := hx; obtain ⟨b, rfl⟩ := hy; exact ⟨a - b, (EReal.coe_sub a b).symm⟩
theorem Real'.mul {x y : EReal} (hx : Real' x) (hy : Real' y) : Real' (x * y) := by
  obtain ⟨a, rfl⟩ := hx; obtain ⟨b, rfl⟩ := hy; exact ⟨a * b, (EReal.coe_mul a b).symm⟩
theorem Real'.max {x y : EReal} (hx : Real' x) (hy : Real' y) : Real' (max x y) := by
  rcases max_choice x y with h | h <;> rw [h] <;> assumption
theorem Real'.sum {ι : Type} {s : Finset ι} {f : ι → EReal} (h : ∀ i ∈ s, Real' (f i)) : Real' (∑ i ∈ s, f i) :=
  Finset.sum_induction f Real' (fun _ _ => Real'.add) Real'.zero h
theorem div_coe (a : ℝ) {b : ℝ} (hb : b ≠ 0) : Ideal.div (a : EReal) (b : EReal) = ((a / b : ℝ) : EReal) := by
  unfold Ideal.div
  rw [if_neg (fun h => hb (EReal.coe_eq_zero.mp h)), ← EReal.coe_inv, ← EReal.coe_mul, div_eq_mul_inv]
theorem Real'.div {x : EReal} (hx : Real' x) {b : ℝ} (hb : b ≠ 0) : Real' (Ideal.div x (b : EReal)) := by
  obtain ⟨a, rfl⟩ := hx; exact ⟨a / b, div_coe a hb⟩

theorem c6144_eq : c6144 = ((6144 : ℝ) : EReal) := by
  simp [c6144, Ideal.ofBits, Ideal.ieee, -EReal.coe_mul]; norm_num

/-! ## The gates of finite logits -/

/-- The second expert's weight is a positive number. -/
theorem weight_real {r : Fin 4 → EReal} (h : ∀ k, Real' (r k)) : ∃ w : ℝ, 0 < w ∧ weight r = (w : EReal) := by
  obtain ⟨d, hd⟩ := (h (top2 r)).sub (h (top1 r))
  exact ⟨Real.exp d, Real.exp_pos d, by unfold weight; rw [hd]; rfl⟩

/-- A gate of finite logits is a number that is not negative. -/
theorem gate_real {r : Fin 4 → EReal} (h : ∀ k, Real' (r k)) (e : Fin 4) : ∃ g : ℝ, 0 ≤ g ∧ gate r e = (g : EReal) := by
  obtain ⟨w, hw, hwe⟩ := weight_real h
  have h1 : (1 : EReal) + (w : EReal) = ((1 + w : ℝ) : EReal) := by rw [EReal.coe_add, EReal.coe_one]
  have h0 : (1 + w) ≠ 0 := by positivity
  unfold gate
  rw [hwe, h1, show (1 : EReal) = ((1 : ℝ) : EReal) from rfl, div_coe _ h0, div_coe _ h0]
  split_ifs
  · exact ⟨_, by positivity, rfl⟩
  · exact ⟨_, by positivity, rfl⟩
  · exact ⟨0, le_rfl, rfl⟩

/-! ## A layer of finite activations is finite -/

/-- The experts' entries are finite. -/
structure Experts.Fin (P : Experts) : Prop where
  W1 : ∀ e k f, Real' (P.W1 e k f)
  b1 : ∀ e f, Real' (P.b1 e f)
  W2 : ∀ e k f, Real' (P.W2 e k f)
  b2 : ∀ e f, Real' (P.b2 e f)

theorem ffn_real {P : Experts} (hP : P.Fin) (e : _root_.Fin 4) {v : _root_.Fin 64 → EReal} (hv : ∀ k, Real' (v k)) (d : _root_.Fin 64) :
    Real' (ffn P e v d) :=
  (Real'.sum fun f _ => (((Real'.sum fun k _ => (hv k).mul (hP.W1 e k f)).add (hP.b1 e f)).max Real'.zero).mul (hP.W2 e f d)).add (hP.b2 e d)

theorem logits_real {gw : _root_.Fin 321 → _root_.Fin 4 → EReal} (hg : ∀ n e, Real' (gw n e)) {X : Act} (hX : ∀ b l n d, Real' (X b l n d))
    (b : _root_.Fin 8) (e : _root_.Fin 4) : Real' (logits gw X b e) :=
  Real'.sum fun n _ => by
    rw [c6144_eq]
    exact ((Real'.sum fun l _ => Real'.sum fun d _ => hX b l n d).div (by norm_num)).mul (hg n e)

theorem layer_real {P : Experts} (hP : P.Fin) {g : _root_.Fin 8 → _root_.Fin 4 → EReal} (hg : ∀ b e, Real' (g b e)) {X : Act}
    (hX : ∀ b l n d, Real' (X b l n d)) (b : _root_.Fin 8) (l : _root_.Fin 96) (n : _root_.Fin 321) (d : _root_.Fin 64) : Real' (layer P g X b l n d) :=
  (Real'.sum fun e _ => (hg b e).mul (ffn_real hP e (hX b l n) d)).add (hX b l n d)

/-! ## The two chosen experts -/

/-- Mixing by gates that are zero off two experts is mixing those two. -/
theorem mixed_pair (P : Experts) {i j : Fin 4} (hij : i ≠ j) (g : Fin 2 → EReal) (v : Fin 64 → EReal) (d : Fin 64) :
    mixed P (fun e => if e = i then g 0 else if e = j then g 1 else 0) v d = g 0 * ffn P i v d + g 1 * ffn P j v d := by
  unfold mixed
  rw [Finset.sum_eq_add i j hij (fun e _ h => by simp only [if_neg h.1, if_neg h.2, zero_mul])
    (fun h => absurd (Finset.mem_univ _) h) (fun h => absurd (Finset.mem_univ _) h)]
  simp only [if_true, if_neg hij.symm]

/-! ## The packing -/

/-- Feature `d` of position `p` of a row of two positions, -/
abbrev pk (p : Fin 2) (d : Fin 64) : Fin 128 := ⟨p.val * 64 + d.val, by omega⟩
/-- and hidden feature `f` of the position's expert `r`. -/
abbrev hid (q r : Fin 2) (f : Fin 64) : Fin 256 := ⟨q.val * 128 + r.val * 64 + f.val, by omega⟩

/-- A sum over the coordinates of `m` runs of `n`. -/
theorem sum_runs {m n N : ℕ} (hN : N = m * n) (F : Fin N → EReal) :
    ∑ k, F k = ∑ p : Fin m, ∑ d : Fin n, F ⟨p.val * n + d.val, by
      rw [hN]; have := p.isLt; have := d.isLt
      calc p.val * n + d.val < p.val * n + n := by omega
        _ = (p.val + 1) * n := by ring
        _ ≤ m * n := Nat.mul_le_mul_right n (by omega)⟩ := by
  subst hN
  rw [← Fintype.sum_prod_type']
  refine (Fintype.sum_equiv finProdFinEquiv _ _ fun x => ?_).symm
  congr 1
  apply Fin.ext
  simp only [finProdFinEquiv_apply_val]
  ring

theorem sum_pk (F : Fin 128 → EReal) : ∑ k, F k = ∑ p, ∑ d, F (pk p d) := sum_runs (m := 2) (n := 64) rfl F

theorem sum_hid (F : Fin 256 → EReal) : ∑ k, F k = ∑ q, ∑ r, ∑ f, F (hid q r f) := by
  rw [sum_runs (m := 2) (n := 128) rfl F]
  refine Finset.sum_congr rfl fun q _ => ?_
  rw [sum_runs (m := 2) (n := 64) rfl]
  refine Finset.sum_congr rfl fun r _ => Finset.sum_congr rfl fun f _ => ?_
  congr 1
  exact Fin.ext (by simp only; omega)

/-- A number that is not negative and not infinite multiplies into a sum. -/
theorem mul_sum' {ι : Type} {g : EReal} (h0 : 0 ≤ g) (ht : g ≠ ⊤) (s : Finset ι) (f : ι → EReal) :
    g * ∑ i ∈ s, f i = ∑ i ∈ s, g * f i := by
  classical
  induction s using Finset.induction_on with
  | empty => simp
  | insert a s ha ih => rw [Finset.sum_insert ha, Finset.sum_insert ha, EReal.left_distrib_of_nonneg_of_ne_top h0 ht, ih]

/-- What the packed weights must hold: the two experts `sel 0` and `sel 1` on the diagonal blocks, their gates in the
    second weights and the second bias. -/
structure Packed (P : Experts) (sel : Fin 2 → Fin 4) (g : Fin 2 → EReal) (w1 : Fin 128 → Fin 256 → EReal) (b1 : Fin 256 → EReal)
    (w2 : Fin 256 → Fin 128 → EReal) (b2 : Fin 128 → EReal) : Prop where
  w1 : ∀ p k q r f, w1 (pk p k) (hid q r f) = if p = q then P.W1 (sel r) k f else 0
  b1 : ∀ q r f, b1 (hid q r f) = P.b1 (sel r) f
  w2 : ∀ q r f p d, w2 (hid q r f) (pk p d) = if p = q then g r * P.W2 (sel r) f d else 0
  b2 : ∀ p d, b2 (pk p d) = g 0 * P.b2 (sel 0) d + g 1 * P.b2 (sel 1) d

/-- The packed layer's row holds at each position the two experts mixed by their gates. -/
theorem Packed.row {P : Experts} {sel : Fin 2 → Fin 4} {g : Fin 2 → EReal} {w1 : Fin 128 → Fin 256 → EReal} {b1 : Fin 256 → EReal}
    {w2 : Fin 256 → Fin 128 → EReal} {b2 : Fin 128 → EReal} (h : Packed P sel g w1 b1 w2 b2) (hg : ∀ r, 0 ≤ g r ∧ g r ≠ ⊤)
    (A : Fin 128 → EReal) (p : Fin 2) (d : Fin 64) :
    (∑ c, max ((∑ k, A k * w1 k c) + b1 c) 0 * w2 c (pk p d)) + b2 (pk p d)
      = g 0 * ffn P (sel 0) (fun k => A (pk p k)) d + g 1 * ffn P (sel 1) (fun k => A (pk p k)) d := by
  have hin : ∀ q r f, ∑ k, A k * w1 k (hid q r f) = ∑ k, A (pk q k) * P.W1 (sel r) k f := by
    intro q r f
    rw [sum_pk, Finset.sum_eq_single q]
    · exact Finset.sum_congr rfl fun k _ => by rw [h.w1, if_pos rfl]
    · exact fun p' _ hp => Finset.sum_eq_zero fun k _ => by rw [h.w1, if_neg hp, mul_zero]
    · exact fun hq => absurd (Finset.mem_univ _) hq
  rw [sum_hid, Finset.sum_eq_single p]
  · simp only [hin, h.b1, h.w2, if_true, h.b2, ffn]
    rw [EReal.left_distrib_of_nonneg_of_ne_top (hg 0).1 (hg 0).2, EReal.left_distrib_of_nonneg_of_ne_top (hg 1).1 (hg 1).2,
      mul_sum' (hg 0).1 (hg 0).2, mul_sum' (hg 1).1 (hg 1).2, Fin.sum_univ_two, add_add_add_comm]
    simp only [mul_left_comm]
  · exact fun q _ hq => Finset.sum_eq_zero fun r _ => Finset.sum_eq_zero fun f _ => by rw [h.w2, if_neg hq.symm, mul_zero]
  · exact fun hq => absurd (Finset.mem_univ _) hq

end Moe

end
-- ==== Proof.Moe.Series.lean ====
/- The series' statistics and the embedded series, in plain sums. -/
module

public import proofs.«01_k».proof.Proof.Moe.Spec

@[expose] public section

noncomputable section

namespace Moe

open Idealize.ShloMosaic

/-- The number of time steps. -/
abbrev c96 : EReal := Ideal.ofBits .f32 0x42C00000#32

variable (x : Fin 8 → Fin 96 → Fin 321 → EReal)

/-- A node's mean over time, -/
def mean (b : Fin 8) (n : Fin 321) : EReal := Ideal.div (∑ l, x b l n) c96

/-- its variance, -/
def var (b : Fin 8) (n : Fin 321) : EReal := Ideal.div (∑ l, (x b l n - mean x b n) * (x b l n - mean x b n)) c96

/-- its standard deviation, kept off zero, -/
def std (b : Fin 8) (n : Fin 321) : EReal := Ideal.sqrt (var x b n + Ideal.ofBits .f32 0x3727C5AC#32)

/-- and the embedded input: the standardised series times the embedding's weight, plus its bias. -/
def embedded (w a : Fin 64 → EReal) : Act := fun b l n d => Ideal.div (x b l n - mean x b n) (std x b n) * w d + a d

/-- The forecast: every node's activations through the projection, on the series' own scale. -/
def forecast (X : Act) (pw : Fin 6144 → Fin 96 → EReal) (pb : Fin 96 → EReal) (b : Fin 8) (t : Fin 96) (n : Fin 321) : EReal :=
  ((∑ k : Fin 6144, X b ⟨k.val / 64, by omega⟩ n ⟨k.val % 64, by omega⟩ * pw k t) + pb t) * std x b n + mean x b n

end Moe

end
-- ==== Proof.Moe.Model.lean ====
/- The whole network as a function of its arguments, and that the activations before each of its layers are finite
when the embedding, the gates and the experts are. -/
module

public import proofs.«01_k».proof.Proof.Moe.Algebra
public import proofs.«01_k».proof.Proof.Moe.Series

@[expose] public section

noncomputable section

namespace Moe

open Idealize.ShloMosaic

/-- The arguments: the series, the embedding, the three layers' gating matrices and experts, and the projection. -/
structure Args where
  x : Fin 8 → Fin 96 → Fin 321 → EReal
  sw : Fin 64 → EReal
  sb : Fin 64 → EReal
  gw : Fin 3 → Fin 321 → Fin 4 → EReal
  P : Fin 3 → Experts
  pw : Fin 6144 → Fin 96 → EReal
  pb : Fin 96 → EReal

namespace Args

variable (a : Args)

/-- One layer with its own gates. -/
def step (k : Fin 3) (X : Act) : Act := layer (a.P k) (gates (a.gw k) X) X

/-- The activations before the layers, -/
def X0 : Act := embedded a.x a.sw a.sb
/-- after the first, -/
def X1 : Act := a.step 0 a.X0
/-- after the second, -/
def X2 : Act := a.step 1 a.X1
/-- and after the third. -/
def X3 : Act := a.step 2 a.X2

/-- The gates of the three layers. -/
def G : Fin 3 → Fin 8 → Fin 4 → EReal := ![gates (a.gw 0) a.X0, gates (a.gw 1) a.X1, gates (a.gw 2) a.X2]

/-- The forecast, -/
def out (b : Fin 8) (t : Fin 96) (n : Fin 321) : EReal := forecast a.x a.X3 a.pw a.pb b t n
/-- the sum of the load-balance losses, -/
def bal : EReal := ∑ l, balance (a.G l)
/-- and the mean of the entropies. -/
def con : EReal := Ideal.div (∑ l, entropy (a.G l)) (Ideal.ofBits .f32 0x40400000#32)

/-- Arguments whose embedding, gating matrices and experts of the first two layers are made of finite numbers. -/
structure Finite : Prop where
  sw : ∀ d, Real' (a.sw d)
  sb : ∀ d, Real' (a.sb d)
  gw : ∀ k n e, Real' (a.gw k n e)
  P0 : (a.P 0).Fin
  P1 : (a.P 1).Fin

end Args

/-! ## Finiteness -/

theorem c96_real : c96 = ((96 : ℝ) : EReal) := by
  simp [c96, Ideal.ofBits, Ideal.ieee, -EReal.coe_mul]
  norm_num

/-- What is added to a variance is a positive number. -/
theorem eps_real : ∃ r : ℝ, 0 < r ∧ Ideal.ofBits .f32 0x3727C5AC#32 = (r : EReal) := by
  refine ⟨_, ?_, by simp [Ideal.ofBits, Ideal.ieee, -EReal.coe_mul]; rfl⟩
  norm_num

theorem mean_real {x : Fin 8 → Fin 96 → Fin 321 → EReal} {b : Fin 8} {n : Fin 321} (h : ∀ l, Real' (x b l n)) : Real' (mean x b n) := by
  unfold mean
  rw [c96_real]
  exact (Real'.sum fun l _ => h l).div (by norm_num)

/-- A sum of squares of numbers is a number that is not negative. -/
theorem sum_sq {f : Fin 96 → EReal} (h : ∀ l, Real' (f l)) : ∃ r : ℝ, 0 ≤ r ∧ ∑ l, f l * f l = (r : EReal) := by
  refine Finset.sum_induction _ (fun y => ∃ r : ℝ, 0 ≤ r ∧ y = (r : EReal)) ?_ ⟨0, le_rfl, rfl⟩ fun l _ => ?_
  · rintro _ _ ⟨r, hr, rfl⟩ ⟨s, hs, rfl⟩
    exact ⟨r + s, add_nonneg hr hs, (EReal.coe_add r s).symm⟩
  · obtain ⟨r, hr⟩ := h l
    exact ⟨r * r, mul_self_nonneg r, by rw [hr, EReal.coe_mul]⟩

/-- The standard deviation of numbers is a positive number. -/
theorem std_real {x : Fin 8 → Fin 96 → Fin 321 → EReal} {b : Fin 8} {n : Fin 321} (h : ∀ l, Real' (x b l n)) :
    ∃ s : ℝ, 0 < s ∧ std x b n = (s : EReal) := by
  obtain ⟨v, hv, hve⟩ := sum_sq fun l => (h l).sub (mean_real h)
  obtain ⟨r, hr, hre⟩ := eps_real
  have h0 : 0 < v / 96 + r := by positivity
  refine ⟨Real.sqrt (v / 96 + r), Real.sqrt_pos.mpr h0, ?_⟩
  unfold std var
  rw [hve, c96_real, div_coe _ (by norm_num), hre, ← EReal.coe_add]
  show (if v / 96 + r < 0 then _ else _) = _
  rw [if_neg (not_lt.mpr h0.le)]

/-- A square is not negative, -/
theorem sq_nonneg' (y : EReal) : 0 ≤ y * y := by
  induction y using EReal.rec with
  | bot => simp
  | coe r => rw [← EReal.coe_mul]; exact EReal.coe_nonneg.mpr (mul_self_nonneg r)
  | top => simp

/-- and that of an infinity less anything is infinite. -/
theorem sq_of_infinite {y : EReal} (h : ¬ Real' y) (m : EReal) : (y - m) * (y - m) = ⊤ := by
  induction y using EReal.rec with
  | bot => simp
  | coe r => exact absurd ⟨r, rfl⟩ h
  | top => induction m using EReal.rec <;> simp

/-- The standard deviation of values that aren't all numbers is infinite. -/
theorem std_of_infinite {x : Fin 8 → Fin 96 → Fin 321 → EReal} {b : Fin 8} {n : Fin 321} {l : Fin 96} (h : ¬ Real' (x b l n)) :
    std x b n = ⊤ := by
  have hs : ∑ l, (x b l n - mean x b n) * (x b l n - mean x b n) = ⊤ := by
    rw [← Finset.add_sum_erase _ _ (Finset.mem_univ l), sq_of_infinite h]
    exact EReal.top_add_of_ne_bot (ne_bot_of_le_ne_bot EReal.zero_ne_bot (Finset.sum_nonneg fun _ _ => sq_nonneg' _))
  obtain ⟨r, hr, hre⟩ := eps_real
  unfold std var
  rw [hs, c96_real, hre]
  unfold Ideal.div
  rw [if_neg (by norm_num), ← EReal.coe_inv, EReal.top_mul_coe_of_pos (by norm_num), EReal.top_add_coe]
  rfl

/-- Whatever the series holds, its standardised values are numbers: dividing by an infinite deviation gives zero. -/
theorem standard_real (x : Fin 8 → Fin 96 → Fin 321 → EReal) (b : Fin 8) (l : Fin 96) (n : Fin 321) :
    Real' (Ideal.div (x b l n - mean x b n) (std x b n)) := by
  by_cases h : ∀ l, Real' (x b l n)
  · obtain ⟨s, hs, hse⟩ := std_real h
    rw [hse]
    exact ((h l).sub (mean_real h)).div hs.ne'
  · obtain ⟨l', h'⟩ := not_forall.mp h
    rw [std_of_infinite h']
    refine ⟨0, ?_⟩
    unfold Ideal.div
    rw [if_neg EReal.top_ne_zero, EReal.inv_top, mul_zero]
    rfl

theorem embedded_real (x : Fin 8 → Fin 96 → Fin 321 → EReal) {w a : Fin 64 → EReal} (hw : ∀ d, Real' (w d)) (ha : ∀ d, Real' (a d))
    (b : Fin 8) (l : Fin 96) (n : Fin 321) (d : Fin 64) : Real' (embedded x w a b l n d) :=
  ((standard_real x b l n).mul (hw d)).add (ha d)

namespace Args

variable {a : Args}

theorem step_real (h : a.Finite) (k : Fin 3) (hP : (a.P k).Fin) {X : Act} (hX : ∀ b l n d, Real' (X b l n d)) (b : Fin 8) (l : Fin 96) (n : Fin 321)
    (d : Fin 64) : Real' (a.step k X b l n d) :=
  layer_real hP (fun b e => (gate_real (fun e => logits_real (h.gw k) hX b e) e).imp fun _ hr => hr.2) hX b l n d

theorem X0_real (h : a.Finite) (b : Fin 8) (l : Fin 96) (n : Fin 321) (d : Fin 64) : Real' (a.X0 b l n d) :=
  embedded_real a.x h.sw h.sb b l n d
theorem X1_real (h : a.Finite) (b : Fin 8) (l : Fin 96) (n : Fin 321) (d : Fin 64) : Real' (a.X1 b l n d) :=
  step_real h 0 h.P0 (X0_real h) b l n d
theorem X2_real (h : a.Finite) (b : Fin 8) (l : Fin 96) (n : Fin 321) (d : Fin 64) : Real' (a.X2 b l n d) :=
  step_real h 1 h.P1 (X1_real h) b l n d

end Args

end Moe

end
-- ==== Proof.Moe.Arrays.lean ====
/- The network's arguments, held by arrays. -/
module

public import proofs.«01_k».proof.Proof.Moe.Model

@[expose] public section

noncomputable section

namespace Moe

open Idealize.ShloMosaic

/-- The arguments that ten arrays hold. -/
def argsOf (x : FVec Ideal ⟨3, ![8, 96, 321]⟩ .f32) (sw sb : FVec Ideal ⟨1, ![64]⟩ .f32) (gw : FVec Ideal ⟨3, ![3, 321, 4]⟩ .f32)
    (W1 : FVec Ideal ⟨4, ![3, 4, 64, 64]⟩ .f32) (b1 : FVec Ideal ⟨3, ![3, 4, 64]⟩ .f32) (W2 : FVec Ideal ⟨4, ![3, 4, 64, 64]⟩ .f32)
    (b2 : FVec Ideal ⟨3, ![3, 4, 64]⟩ .f32) (pw : FVec Ideal ⟨2, ![6144, 96]⟩ .f32) (pb : FVec Ideal ⟨1, ![96]⟩ .f32) : Args where
  x b l n := x (ix3 b l n)
  sw d := sw (ix1 d)
  sb d := sb (ix1 d)
  gw k n e := gw (ix3 k n e)
  P k := ⟨fun e i f => W1 (ix4 k e i f), fun e f => b1 (ix3 k e f), fun e i f => W2 (ix4 k e i f), fun e f => b2 (ix3 k e f)⟩
  pw i t := pw (ix2 i t)
  pb t := pb (ix1 t)

end Moe

end
-- ==== Proof.Moe.Finite.lean ====
/- The precondition: the embedding, the gating matrices and the experts of the first two layers hold numbers. -/
module

public import proofs.«01_k».proof.Pre_finite
public import proofs.«01_k».proof.Proof.Moe.Arrays
import Idealize.ShloMosaic.Lib.ReduceAll
import Idealize.ShloMosaic.Lib.Pointwise

@[expose] public section

set_option maxRecDepth 16384

noncomputable section

namespace Moe

open Idealize.ShloMosaic Cert.Pre_finite

/-- The shapes fit, as the precondition's program asks. -/
theorem shapes_fit : Cert.Pre_finite.Facts where
  bcast_S_S64 := by decide
  reducesTo_S64_S_d0 := by decide
  h_S_ := by decide
  slices_S3x4x64x64_S2x4x64x64_0_0_0_0 := by decide
  slices_S3x4x64_S2x4x64_0_0_0 := by decide
  bcast_S_S3x321x4 := by decide
  reducesTo_S3x321x4_S_d0_1_2 := by decide
  bcast_S_S2x4x64x64 := by decide
  reducesTo_S2x4x64x64_S_d0_1_2_3 := by decide
  bcast_S_S2x4x64 := by decide
  reducesTo_S2x4x64_S_d0_1_2 := by decide

theorem infinity_eq : Ideal.ofBits .f32 0x7F800000#32 = ⊤ := by
  simp [Ideal.ofBits, Ideal.ieee]

/-- A value whose magnitude is below infinity is a number. -/
theorem real_of_magnitude {x : EReal} (h : Ideal.cmp .olt (max x (-x)) (Ideal.ofBits .f32 0x7F800000#32) = 1#1) : Real' x := by
  rw [infinity_eq] at h
  have hlt : max x (-x) < ⊤ := by
    by_contra hn
    simp [Ideal.cmp, hn] at h
  refine Real'.of_ne ?_ ?_
  · rintro rfl
    simp at hlt
  · rintro rfl
    simp at hlt

instance : Subsingleton S_.Idx := ⟨fun _ _ => funext fun k => k.elim0⟩

/-- An array whose elements all pass the test holds numbers. -/
theorem all_real {s : Shape} {axes : List (Fin s.rank)} (a : FVec Ideal s .f32) (hb : S_.BroadcastsInDim s (![] : Fin 0 → Fin s.rank))
    (hr : s.ReducesTo axes S_) (hu : 0 < S_.numel)
    (h : Host.reduce IntOp.andi (cmpf .olt (Host.absf a) (broadcastInDim s ![] hb (constant S_ .f32 0x7F800000#32 : FVec Ideal S_ .f32)))
      (constantI S_ 1 1#1) hr hu ix0 = 1#1) (i : s.Idx) : Real' (a i) :=
  real_of_magnitude (Host.reduce_andi_all _ _ hr hu ix0 h i)

/-- Two truths that hold together hold each. -/
theorem both {u v : IVec S_ 1} (h : andi u v ix0 = 1#1) : u ix0 = 1#1 ∧ v ix0 = 1#1 := by
  have h' : u ix0 &&& v ix0 = 1#1 := h
  revert h'
  generalize u ix0 = p
  generalize v ix0 = q
  revert p q
  decide

/-- The weights of the first two of three layers hold numbers when their slice does, -/
theorem two_of_three4 {W : FVec Ideal S3x4x64x64 .f32} (hs : S3x4x64x64.Slices ![0, 0, 0, 0] S2x4x64x64)
    (h : ∀ i, Real' (extractStridedSlice S2x4x64x64 ![0, 0, 0, 0] W hs i)) (k : Fin 2) (e : Fin 4) (i f : Fin 64) :
    Real' (W (ix4 ⟨k.val, by omega⟩ e i f)) := by
  have hk := h (ix4 k e i f)
  pointwise at hk
  exact hk

/-- and so do their biases. -/
theorem two_of_three3 {W : FVec Ideal S3x4x64 .f32} (hs : S3x4x64.Slices ![0, 0, 0] S2x4x64)
    (h : ∀ i, Real' (extractStridedSlice S2x4x64 ![0, 0, 0] W hs i)) (k : Fin 2) (e : Fin 4) (f : Fin 64) :
    Real' (W (ix3 ⟨k.val, by omega⟩ e f)) := by
  have hk := h (ix3 k e f)
  pointwise at hk
  exact hk

/-- Arguments of which the precondition holds are finite. -/
theorem finite_of [Cert.Pre_finite.Facts] (x : FVec Ideal S8x96x321 .f32) (sw sb : FVec Ideal S64 .f32) (gw : FVec Ideal S3x321x4 .f32)
    (W1 : FVec Ideal S3x4x64x64 .f32) (b1 : FVec Ideal S3x4x64 .f32) (W2 : FVec Ideal S3x4x64x64 .f32) (b2 : FVec Ideal S3x4x64 .f32)
    (pw : FVec Ideal S6144x96 .f32) (pb : FVec Ideal S96 .f32) (h : fn (F := Ideal) x sw sb gw W1 b1 W2 b2 pw pb ix0 = 1#1) :
    (argsOf x sw sb gw W1 b1 W2 b2 pw pb).Finite := by
  unfold fn fn_part1 fn_part2 at h
  have ⟨p6, h7⟩ := both h
  have ⟨p5, h6⟩ := both p6
  have ⟨p4, h5⟩ := both p5
  have ⟨p3, h4⟩ := both p4
  have ⟨p2, h3⟩ := both p3
  have ⟨h1, h2⟩ := both p2
  clear h p6 p5 p4 p3 p2
  replace h1 := all_real sw Facts.bcast_S_S64 Facts.reducesTo_S64_S_d0 Facts.h_S_ h1
  replace h2 := all_real sb Facts.bcast_S_S64 Facts.reducesTo_S64_S_d0 Facts.h_S_ h2
  replace h3 := all_real gw Facts.bcast_S_S3x321x4 Facts.reducesTo_S3x321x4_S_d0_1_2 Facts.h_S_ h3
  replace h4 := two_of_three4 _ (all_real _ Facts.bcast_S_S2x4x64x64 Facts.reducesTo_S2x4x64x64_S_d0_1_2_3 Facts.h_S_ h4)
  replace h5 := two_of_three3 _ (all_real _ Facts.bcast_S_S2x4x64 Facts.reducesTo_S2x4x64_S_d0_1_2 Facts.h_S_ h5)
  replace h6 := two_of_three4 _ (all_real _ Facts.bcast_S_S2x4x64x64 Facts.reducesTo_S2x4x64x64_S_d0_1_2_3 Facts.h_S_ h6)
  replace h7 := two_of_three3 _ (all_real _ Facts.bcast_S_S2x4x64 Facts.reducesTo_S2x4x64_S_d0_1_2 Facts.h_S_ h7)
  exact ⟨fun d => h1 (ix1 d), fun d => h2 (ix1 d), fun k n e => h3 (ix3 k n e), ⟨h4 0, h5 0, h6 0, h7 0⟩, ⟨h4 1, h5 1, h6 1, h7 1⟩⟩

end Moe

end
-- ==== Proof.Kernel.Run.lean ====
/- The run of the idealized kernel: it ends with its results at what the last stretch of host operations left, and its
arguments as they were launched. -/
module

public import proofs.«01_k».proof.Proof.Gen.KernelIdeal.Frame

@[expose] public section

set_option maxRecDepth 16384

noncomputable section

namespace Moe.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

-- the launch's implicit arguments are found by unifying its conclusion with this one
set_option backward.isDefEq.respectTransparency.types false in
/-- Every execution ends with the three results at the last boundary's contents and the arguments unchanged. The launch is
that of the frame; only what is read off the final state differs. -/
theorem run : θ_run defs (onTc (τ := τ) (main (F := Ideal))) ⟨m, fun _ => 0, ρ⟩ (fun r => ∀ c : Dev nD,
      r.2.mem ((c.tc : Thread nD τ).loc main_v85) = W25 m ρ c (Proc.devRef .tc main_v85)
      ∧ r.2.mem ((c.tc : Thread nD τ).loc main_v91) = W25 m ρ c (Proc.devRef .tc main_v91)
      ∧ r.2.mem ((c.tc : Thread nD τ).loc main_v92) = W25 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h _ c =>
      ⟨h c _ (mem_uc main_v85 (by decide)),
       h c _ (mem_uc main_v91 (by decide)),
       h c _ (mem_uc main_v92 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c),
       (h c _ (mem_uc main_arg9 (by decide))).trans (W25_main_arg9 m ρ c)⟩)

end Moe.K

end
-- ==== Proof.Kernel.Pack.lean ====
/- The routing kernels' packed weights, read at an index: which expert's entry, or zero, stands where. The kernels choose
   an expert by multiplying each with one or zero and adding up; these are those sums, as the three routing kernels
   write them, and what they are when the chosen experts are `s 0` and `s 1`. -/
module

public import proofs.«01_k».proof.Proof.Moe.Algebra

@[expose] public section

noncomputable section

namespace Moe.K

open Idealize.ShloMosaic

/-- One where the words are equal, zero where not. -/
def one (i e : BitVec 32) : EReal := FloatOps.sitofp (F := Ideal) FTy.f32 (BitVec.setWidth 32 (IntOp.cmpi .eq i e))

/-- The entry of the expert whose number is `i`. -/
def hot (i : BitVec 32) (w : Fin 4 → EReal) : EReal := one i 0#32 * w 0 + one i 1#32 * w 1 + one i 2#32 * w 2 + one i 3#32 * w 3

/-- The same, times its gate. -/
def hotG (g : EReal) (i : BitVec 32) (w : Fin 4 → EReal) : EReal :=
  g * one i 0#32 * w 0 + g * one i 1#32 * w 1 + g * one i 2#32 * w 2 + g * one i 3#32 * w 3

/-- Two experts' entries, each times its gate. -/
def hotGG (g g' : EReal) (i i' : BitVec 32) (w : Fin 4 → EReal) : EReal :=
  (g * one i 0#32 + g' * one i' 0#32) * w 0 + (g * one i 1#32 + g' * one i' 1#32) * w 1
    + (g * one i 2#32 + g' * one i' 2#32) * w 2 + (g * one i 3#32 + g' * one i' 3#32) * w 3

theorem one_eq (s e : Fin 4) : one (BitVec.ofNat 32 s.val) (BitVec.ofNat 32 e.val) = if e = s then 1 else 0 := by
  have h1 : FloatOps.sitofp (F := Ideal) FTy.f32 (1#32) = 1 := by
    show ((((1#32).toInt : ℤ) : ℝ) : EReal) = 1
    simp
  have h0 : FloatOps.sitofp (F := Ideal) FTy.f32 (0#32) = 0 := by
    show ((((0#32).toInt : ℤ) : ℝ) : EReal) = 0
    simp
  unfold one
  fin_cases s <;> fin_cases e <;> first | exact h1 | exact h0

/-- `one_eq` at each of the four numbers, as the kernels write them. -/
theorem ones (s : Fin 4) : one (BitVec.ofNat 32 s.val) 0#32 = (if 0 = s then 1 else 0) ∧ one (BitVec.ofNat 32 s.val) 1#32 = (if 1 = s then 1 else 0)
    ∧ one (BitVec.ofNat 32 s.val) 2#32 = (if 2 = s then 1 else 0) ∧ one (BitVec.ofNat 32 s.val) 3#32 = (if 3 = s then 1 else 0) :=
  ⟨one_eq s 0, one_eq s 1, one_eq s 2, one_eq s 3⟩

theorem hot_eq (s : Fin 4) (w : Fin 4 → EReal) : hot (BitVec.ofNat 32 s.val) w = w s := by
  obtain ⟨h0, h1, h2, h3⟩ := ones s
  unfold hot
  rw [h0, h1, h2, h3]
  fin_cases s <;> simp

theorem hotG_eq (g : EReal) (s : Fin 4) (w : Fin 4 → EReal) : hotG g (BitVec.ofNat 32 s.val) w = g * w s := by
  obtain ⟨h0, h1, h2, h3⟩ := ones s
  unfold hotG
  rw [h0, h1, h2, h3]
  fin_cases s <;> simp

theorem hotGG_eq (g g' : EReal) {s s' : Fin 4} (hs : s ≠ s') (w : Fin 4 → EReal) :
    hotGG g g' (BitVec.ofNat 32 s.val) (BitVec.ofNat 32 s'.val) w = g * w s + g' * w s' := by
  obtain ⟨h0, h1, h2, h3⟩ := ones s
  obtain ⟨h0', h1', h2', h3'⟩ := ones s'
  unfold hotGG
  rw [h0, h1, h2, h3, h0', h1', h2', h3']
  fin_cases s <;> fin_cases s' <;> first | exact absurd rfl hs | (simp <;> rw [add_comm])

/-! ## The packed arrays -/

/-- The packed first weights: the two experts' columns side by side, twice on the diagonal. -/
def packW1 (i i' : BitVec 32) (W : Fin 4 → Fin 64 → Fin 64 → EReal) (k : Fin 128) (c : Fin 256) : EReal :=
  if hk : k.val < 64 then
    if hc : c.val < 128 then
      if hd : c.val < 64 then hot i (fun e => W e ⟨k.val, hk⟩ ⟨c.val, hd⟩)
      else hot i' (fun e => W e ⟨k.val, hk⟩ ⟨c.val - 64, by omega⟩)
    else 0
  else
    if hc : c.val < 128 then 0
    else
      if hd : c.val - 128 < 64 then hot i (fun e => W e ⟨k.val - 64, by omega⟩ ⟨c.val - 128, hd⟩)
      else hot i' (fun e => W e ⟨k.val - 64, by omega⟩ ⟨c.val - 128 - 64, by omega⟩)

/-- The packed first bias. -/
def packB1 (i i' : BitVec 32) (b : Fin 4 → Fin 64 → EReal) (c : Fin 256) : EReal :=
  if hc : c.val < 128 then
    if hd : c.val < 64 then hot i (fun e => b e ⟨c.val, hd⟩) else hot i' (fun e => b e ⟨c.val - 64, by omega⟩)
  else
    if hd : c.val - 128 < 64 then hot i (fun e => b e ⟨c.val - 128, hd⟩) else hot i' (fun e => b e ⟨c.val - 128 - 64, by omega⟩)

/-- The packed second weights: the two experts' rows below each other, times their gates, twice on the diagonal. -/
def packW2 (g g' : EReal) (i i' : BitVec 32) (W : Fin 4 → Fin 64 → Fin 64 → EReal) (c : Fin 256) (k : Fin 128) : EReal :=
  if hc : c.val < 128 then
    if hk : k.val < 64 then
      if hd : c.val < 64 then hotG g i (fun e => W e ⟨c.val, hd⟩ ⟨k.val, hk⟩)
      else hotG g' i' (fun e => W e ⟨c.val - 64, by omega⟩ ⟨k.val, hk⟩)
    else 0
  else
    if hk : k.val < 64 then 0
    else
      if hd : c.val - 128 < 64 then hotG g i (fun e => W e ⟨c.val - 128, hd⟩ ⟨k.val - 64, by omega⟩)
      else hotG g' i' (fun e => W e ⟨c.val - 128 - 64, by omega⟩ ⟨k.val - 64, by omega⟩)

/-- The packed second bias: the experts' biases mixed, twice. -/
def packB2 (g g' : EReal) (i i' : BitVec 32) (b : Fin 4 → Fin 64 → EReal) (k : Fin 128) : EReal :=
  if hk : k.val < 64 then hotGG g g' i i' (fun e => b e ⟨k.val, hk⟩) else hotGG g g' i i' (fun e => b e ⟨k.val - 64, by omega⟩)

/-- The gates as the kernels write them. -/
def packG (g g' : EReal) (i i' : BitVec 32) (e : Fin 4) : EReal :=
  Scalar.select (IntOp.cmpi .eq (BitVec.ofNat 32 e.val) i) g 0 + Scalar.select (IntOp.cmpi .eq (BitVec.ofNat 32 e.val) i') g' 0

theorem packW1_eq (s : Fin 2 → Fin 4) (W : Fin 4 → Fin 64 → Fin 64 → EReal) (p : Fin 2) (k : Fin 64) (q r : Fin 2) (f : Fin 64) :
    packW1 (BitVec.ofNat 32 (s 0).val) (BitVec.ofNat 32 (s 1).val) W (pk p k) (hid q r f) = if p = q then W (s r) k f else 0 := by
  unfold packW1
  simp only [hot_eq]
  fin_cases p <;> fin_cases q <;> fin_cases r <;> simp <;> grind

theorem packB1_eq (s : Fin 2 → Fin 4) (b : Fin 4 → Fin 64 → EReal) (q r : Fin 2) (f : Fin 64) :
    packB1 (BitVec.ofNat 32 (s 0).val) (BitVec.ofNat 32 (s 1).val) b (hid q r f) = b (s r) f := by
  unfold packB1
  simp only [hot_eq]
  fin_cases q <;> fin_cases r <;> simp <;> grind

theorem packW2_eq (g : Fin 2 → EReal) (s : Fin 2 → Fin 4) (W : Fin 4 → Fin 64 → Fin 64 → EReal) (q r : Fin 2) (f : Fin 64) (p : Fin 2) (d : Fin 64) :
    packW2 (g 0) (g 1) (BitVec.ofNat 32 (s 0).val) (BitVec.ofNat 32 (s 1).val) W (hid q r f) (pk p d)
      = if p = q then g r * W (s r) f d else 0 := by
  unfold packW2
  simp only [hotG_eq]
  fin_cases p <;> fin_cases q <;> fin_cases r <;> simp <;> grind

theorem packB2_eq (g : Fin 2 → EReal) {s : Fin 2 → Fin 4} (hs : s 0 ≠ s 1) (b : Fin 4 → Fin 64 → EReal) (p : Fin 2) (d : Fin 64) :
    packB2 (g 0) (g 1) (BitVec.ofNat 32 (s 0).val) (BitVec.ofNat 32 (s 1).val) b (pk p d) = g 0 * b (s 0) d + g 1 * b (s 1) d := by
  unfold packB2
  simp only [hotGG_eq _ _ hs]
  fin_cases p <;> simp <;> grind

theorem packG_eq (g : Fin 2 → EReal) {s : Fin 2 → Fin 4} (hs : s 0 ≠ s 1) (e : Fin 4) :
    packG (g 0) (g 1) (BitVec.ofNat 32 (s 0).val) (BitVec.ofNat 32 (s 1).val) e = if e = s 0 then g 0 else if e = s 1 then g 1 else 0 := by
  have key : ∀ (e s : Fin 4) (x : EReal), Scalar.select (IntOp.cmpi .eq (BitVec.ofNat 32 e.val) (BitVec.ofNat 32 s.val)) x 0 = if e = s then x else 0 := by
    intro e s x
    fin_cases e <;> fin_cases s <;> rfl
  unfold packG
  rw [key, key]
  by_cases h0 : e = s 0
  · rw [if_pos h0, if_pos h0, if_neg (fun h => hs (h0.symm.trans h)), add_zero]
  · rw [if_neg h0, if_neg h0, zero_add]

/-! ## The packed weights of a row of logits -/

/-- The two chosen experts of the logits `r`, -/
def sel (r : Fin 4 → EReal) : Fin 2 → Fin 4 := ![top1 r, top2 r]

/-- and their gates. -/
def gsel (r : Fin 4 → EReal) : Fin 2 → EReal := ![Ideal.div 1 (1 + weight r), Ideal.div (weight r) (1 + weight r)]

theorem sel_ne {r : Fin 4 → EReal} (hr : ∀ k, Real' (r k)) : sel r 0 ≠ sel r 1 := (top2_ne fun k => (hr k).ne_bot).symm

theorem gate_eq (r : Fin 4 → EReal) (e : Fin 4) : gate r e = if e = sel r 0 then gsel r 0 else if e = sel r 1 then gsel r 1 else 0 := rfl

/-- The chosen experts' gates are numbers that are not negative. -/
theorem gsel_real {r : Fin 4 → EReal} (hr : ∀ k, Real' (r k)) (j : Fin 2) : 0 ≤ gsel r j ∧ gsel r j ≠ ⊤ := by
  have key : gsel r j = gate r (sel r j) := by
    rw [gate_eq]
    fin_cases j
    · exact (if_pos rfl).symm
    · exact ((if_neg (sel_ne hr).symm).trans (if_pos rfl)).symm
  obtain ⟨g, h0, hg⟩ := gate_real hr (sel r j)
  rw [key, hg]
  exact ⟨EReal.coe_nonneg.mpr h0, EReal.coe_ne_top g⟩

/-- What a routing kernel has computed of a row's logits: the two experts' numbers and their gates. -/
structure Chosen (r : Fin 4 → EReal) (i i' : BitVec 32) (g g' : EReal) : Prop where
  i : i = BitVec.ofNat 32 (sel r 0).val
  i' : i' = BitVec.ofNat 32 (sel r 1).val
  g : g = gsel r 0
  g' : g' = gsel r 1

theorem Chosen.packed {r : Fin 4 → EReal} (hr : ∀ k, Real' (r k)) {i i' : BitVec 32} {g g' : EReal} (h : Chosen r i i' g g') (P : Experts) :
    Packed P (sel r) (gsel r) (packW1 i i' P.W1) (packB1 i i' P.b1) (packW2 g g' i i' P.W2) (packB2 g g' i i' P.b2) := by
  obtain ⟨rfl, rfl, rfl, rfl⟩ := h
  exact ⟨packW1_eq (sel r) P.W1, packB1_eq (sel r) P.b1, packW2_eq (gsel r) (sel r) P.W2, packB2_eq (gsel r) (sel_ne hr) P.b2⟩

theorem Chosen.gates {r : Fin 4 → EReal} (hr : ∀ k, Real' (r k)) {i i' : BitVec 32} {g g' : EReal} (h : Chosen r i i' g g') (e : Fin 4) :
    packG g g' i i' e = gate r e := by
  obtain ⟨rfl, rfl, rfl, rfl⟩ := h
  exact (packG_eq (gsel r) (sel_ne hr) e).trans (gate_eq r e).symm

/-- A row of packed weights mixes two positions' experts by the row's gates. -/
theorem row_mixed {r : Fin 4 → EReal} (hr : ∀ k, Real' (r k)) {P : Experts} {w1 : Fin 128 → Fin 256 → EReal} {b1 : Fin 256 → EReal}
    {w2 : Fin 256 → Fin 128 → EReal} {b2 : Fin 128 → EReal} (h : Packed P (sel r) (gsel r) w1 b1 w2 b2)
    (A : Fin 128 → EReal) (p : Fin 2) (d : Fin 64) :
    (∑ c, max ((∑ k, A k * w1 k c) + b1 c) 0 * w2 c (pk p d)) + b2 (pk p d) = mixed P (gate r) (fun k => A (pk p k)) d :=
  (h.row (gsel_real hr) A p d).trans (mixed_pair P (sel_ne hr) (gsel r) _ d).symm

end Moe.K

end
-- ==== Proof.Kernel.Route0.lean ====
/- The routing kernel of the first layer, which is given the logits: what it leaves in its five results. -/
module

public import proofs.«01_k».proof.Proof.Kernel.Pack
public import proofs.«01_k».proof.Proof.Gen.KernelIdeal.Frame
import Idealize.ShloMosaic.Lib.Pointwise

@[expose] public section

set_option maxRecDepth 16384

noncomputable section

namespace Moe.K

open Idealize.ShloMosaic Idealize.ShloMosaic.TcCoe Cert.KernelIdeal Cert.KernelIdeal.Gen

/-- The experts an array's entries are. -/
def experts (x1 : Vec Ideal S4x64x64 .f32) (x2 : Vec Ideal S4x64 .f32) (x3 : Vec Ideal S4x64x64 .f32) (x4 : Vec Ideal S4x64 .f32) : Experts where
  W1 e k f := x1 (ix3 e k f)
  b1 e f := x2 (ix2 e f)
  W2 e k f := x3 (ix3 e k f)
  b2 e f := x4 (ix2 e f)

/-! ## The two largest logits of every row -/

section Chosen

variable (v : Vec Ideal S8x4 .f32) (b : Fin 8)

/-- A row of the logits. -/
abbrev row (v : Vec Ideal S8x4 .f32) (b : Fin 8) : Fin 4 → EReal := fun e => v (ix2 b e)

theorem negInf : Ideal.ofBits .f32 0xFF800000#32 = ⊥ := by simp [Ideal.ofBits, Ideal.ieee]

theorem pay3 : k0_pay3 v = v := by
  funext i
  obtain ⟨b, e, rfl⟩ : ∃ b e, i = ix2 b e := ⟨i 0, i 1, by funext a; fin_cases a <;> rfl⟩
  unfold k0_pay3
  pointwise

theorem pay4 : k0_pay4 v (ix2 b 0) = row v b (top1 (row v b)) := by
  unfold k0_pay4
  rw [pay3]
  pointwise
  rw [negInf]
  exact (first_top1 (row v b)).fold_max

theorem pay5 : k0_pay5 v (ix2 b 0) = BitVec.ofNat 32 (top1 (row v b)).val := by
  unfold k0_pay5
  rw [pay3]
  pointwise
  rw [pay4]
  exact (first_top1 (row v b)).fold_min

theorem pay6 (e : Fin 4) : k0_pay6 v (ix2 b e) = mask (row v b) (top1 (row v b)) e := by
  unfold k0_pay6
  rw [pay3]
  pointwise
  rw [pay5, negInf]
  generalize top1 (row v b) = i
  show Scalar.select (IntOp.cmpi .eq (BitVec.ofNat 32 e.val) (BitVec.ofNat 32 i.val)) ⊥ (row v b e) = mask (row v b) i e
  unfold mask
  fin_cases e <;> fin_cases i <;> rfl

theorem pay7 : k0_pay7 v (ix2 b 0) = mask (row v b) (top1 (row v b)) (top2 (row v b)) := by
  unfold k0_pay7
  pointwise
  simp only [pay6, negInf]
  exact (first_top2 (row v b)).fold_max

theorem pay8 : k0_pay8 v (ix2 b 0) = BitVec.ofNat 32 (top2 (row v b)).val := by
  unfold k0_pay8
  pointwise
  simp only [pay6, pay7]
  exact (first_top2 (row v b)).fold_min

variable (hr : ∀ e, Real' (row v b e))
include hr

theorem pay9 : k0_pay9 v (ix2 b 0) = weight (row v b) := by
  unfold k0_pay9
  pointwise
  rw [pay7, pay4, mask_top2 fun k => (hr k).ne_bot]
  rfl

theorem pay10 : k0_pay10 v (ix2 b 0) = 1 + weight (row v b) := by
  unfold k0_pay10
  pointwise
  rw [pay9 v b hr]

theorem pay11 : k0_pay11 v (ix2 b 0) = gsel (row v b) 0 := by
  unfold k0_pay11
  pointwise
  rw [pay10 v b hr]
  rfl

theorem pay12 : k0_pay12 v (ix2 b 0) = gsel (row v b) 1 := by
  unfold k0_pay12
  pointwise
  rw [pay10 v b hr, pay9 v b hr]
  rfl

theorem chosen : Chosen (row v b) (k0_pay5 v (ix2 b 0)) (k0_pay8 v (ix2 b 0)) (k0_pay11 v (ix2 b 0)) (k0_pay12 v (ix2 b 0)) :=
  ⟨pay5 v b, pay8 v b, pay11 v b hr, pay12 v b hr⟩

end Chosen

/-! ## The results, read at an index -/

theorem ld0 (v : Vec Ideal S8x4 .f32) : View.ld v r0_0 = v := View.ld_unit_zero (by funext a; fin_cases a <;> rfl) _ _

variable (lg : Vec Ideal S8x4 .f32) (x1 : Vec Ideal S4x64x64 .f32) (x2 : Vec Ideal S4x64 .f32)
  (x3 : Vec Ideal S4x64x64 .f32) (x4 : Vec Ideal S4x64 .f32)

theorem w1_0 (b : Fin 8) (k : Fin 128) (c : Fin 256) : out0_5 lg x1 x2 x3 x4 (ix3 b k c)
    = packW1 (k0_pay5 (View.ld lg r0_0) (ix2 b 0)) (k0_pay8 (View.ld lg r0_0) (ix2 b 0)) (fun e k f => x1 (ix3 e k f)) k c := by
  unfold_out out0_5
  rw [View.canon_unit_zero (by funext a; fin_cases a <;> rfl)]
  generalize k0_pay5 (View.ld lg r0_0) = i
  generalize k0_pay8 (View.ld lg r0_0) = i'
  unfold_payloads
  pointwise
  rfl

theorem b1_0 (b : Fin 8) (c : Fin 256) : out0_6 lg x1 x2 x3 x4 (ix3 b 0 c)
    = packB1 (k0_pay5 (View.ld lg r0_0) (ix2 b 0)) (k0_pay8 (View.ld lg r0_0) (ix2 b 0)) (fun e f => x2 (ix2 e f)) c := by
  unfold_out out0_6
  rw [View.canon_unit_zero (by funext a; fin_cases a <;> rfl)]
  generalize k0_pay5 (View.ld lg r0_0) = i
  generalize k0_pay8 (View.ld lg r0_0) = i'
  unfold_payloads
  pointwise
  rfl

theorem w2_0 (b : Fin 8) (c : Fin 256) (k : Fin 128) : out0_7 lg x1 x2 x3 x4 (ix3 b c k)
    = packW2 (k0_pay11 (View.ld lg r0_0) (ix2 b 0)) (k0_pay12 (View.ld lg r0_0) (ix2 b 0)) (k0_pay5 (View.ld lg r0_0) (ix2 b 0)) (k0_pay8 (View.ld lg r0_0) (ix2 b 0)) (fun e k f => x3 (ix3 e k f)) c k := by
  unfold_out out0_7
  rw [View.canon_unit_zero (by funext a; fin_cases a <;> rfl)]
  generalize k0_pay5 (View.ld lg r0_0) = i
  generalize k0_pay8 (View.ld lg r0_0) = i'
  generalize k0_pay11 (View.ld lg r0_0) = g
  generalize k0_pay12 (View.ld lg r0_0) = g'
  unfold_payloads
  pointwise
  rfl

theorem b2_0 (b : Fin 8) (k : Fin 128) : out0_8 lg x1 x2 x3 x4 (ix3 b 0 k)
    = packB2 (k0_pay11 (View.ld lg r0_0) (ix2 b 0)) (k0_pay12 (View.ld lg r0_0) (ix2 b 0)) (k0_pay5 (View.ld lg r0_0) (ix2 b 0)) (k0_pay8 (View.ld lg r0_0) (ix2 b 0)) (fun e f => x4 (ix2 e f)) k := by
  unfold_out out0_8
  rw [View.canon_unit_zero (by funext a; fin_cases a <;> rfl)]
  generalize k0_pay5 (View.ld lg r0_0) = i
  generalize k0_pay8 (View.ld lg r0_0) = i'
  generalize k0_pay11 (View.ld lg r0_0) = g
  generalize k0_pay12 (View.ld lg r0_0) = g'
  unfold_payloads
  pointwise
  rfl

theorem g_0 (b : Fin 8) (e : Fin 4) : out0_9 lg x1 x2 x3 x4 (ix2 b e)
    = packG (k0_pay11 (View.ld lg r0_0) (ix2 b 0)) (k0_pay12 (View.ld lg r0_0) (ix2 b 0)) (k0_pay5 (View.ld lg r0_0) (ix2 b 0)) (k0_pay8 (View.ld lg r0_0) (ix2 b 0)) e := by
  unfold_out out0_9
  rw [View.canon_unit_zero (by funext a; fin_cases a <;> rfl)]
  unfold k0_pay13
  generalize k0_pay5 (View.ld lg r0_0) = i
  generalize k0_pay8 (View.ld lg r0_0) = i'
  generalize k0_pay11 (View.ld lg r0_0) = g
  generalize k0_pay12 (View.ld lg r0_0) = g'
  pointwise
  rfl

/-- The kernel's packed weights hold the two chosen experts of every row, and its gates are the row's. -/
theorem packed_0 (b : Fin 8) (hr : ∀ e, Real' (row (View.ld lg r0_0) b e)) :
    Packed (experts x1 x2 x3 x4) (sel (row (View.ld lg r0_0) b)) (gsel (row (View.ld lg r0_0) b)) (fun k c => out0_5 lg x1 x2 x3 x4 (ix3 b k c))
      (fun c => out0_6 lg x1 x2 x3 x4 (ix3 b 0 c)) (fun c k => out0_7 lg x1 x2 x3 x4 (ix3 b c k))
      (fun k => out0_8 lg x1 x2 x3 x4 (ix3 b 0 k)) := by
  have h := (chosen _ b hr).packed hr (experts x1 x2 x3 x4)
  simp only [w1_0, b1_0, w2_0, b2_0]
  exact h

theorem gates_0 (b : Fin 8) (hr : ∀ e, Real' (row (View.ld lg r0_0) b e)) (e : Fin 4) :
    out0_9 lg x1 x2 x3 x4 (ix2 b e) = gate (row (View.ld lg r0_0) b) e := by
  rw [g_0]
  exact (chosen _ b hr).gates hr e

end Moe.K

end
-- ==== Proof.Ref.Gates.lean ====
/- The reference's gates: the softmax of the two greatest logits of each row, scattered to their experts. -/
module

public import proofs.«01_k».proof.Proof.Moe.Algebra
public import proofs.«01_k».proof.Proof.Gen.ReferenceIdeal.Run
public import Idealize.ShloMosaic.Lib.Routing.OpsSet
public import Idealize.ShloMosaic.Lib.Routing.OpsPair
import Idealize.ShloMosaic.Lib.Pointwise

@[expose] public section

set_option maxRecDepth 16384

noncomputable section

namespace Moe.R

open Idealize.ShloMosaic Idealize.ShloMosaic.TcCoe Idealize.ShloMosaic.Routing Cert.ReferenceIdeal Cert.ReferenceIdeal.Gen

variable (lg : FVec Ideal S8x4 .f32)

/-- The logits of a batch element. -/
abbrev row (b : Fin 8) : Fin 4 → EReal := fun e => lg (ix2 b e)

/-- The positions of the two greatest logits, -/
def places : IVec S8x2 32 := (Host.topK S8x2 1 (FloatOps.cmpfTotal (F := Ideal) (φ := .f32) .gt) lg sliceFits_S8x4_S8x2).2

/-- the logits there, -/
def values : FVec Ideal S8x2 .f32 :=
  Host.divf ((Host.topK S8x2 1 (FloatOps.cmpfTotal (F := Ideal) (φ := .f32) .gt) lg sliceFits_S8x4_S8x2).1)
    (broadcastInDim S8x2 ![] bcast_S_S8x2 (constant S_ .f32 0x3F800000#32))

/-- their exponentials, against the greater, -/
def powers : FVec Ideal S8x2 .f32 :=
  Host.exp (subf (values lg) (broadcastInDim S8x2 ![0, 1] bcast_S8x1_S8x2_0_1 (broadcastInDim S8x1 ![0] bcast_S8_S8x1_0
    (maximumf (broadcastInDim S8 ![] bcast_S_S8 (constant S_ .f32 0xFF800000#32))
      (Host.reduce FloatOps.maximumf (values lg) (constant S_ .f32 0xFF800000#32) reducesTo_S8x2_S8_d1 h_S_)))))

/-- the batch element of each row, -/
def rows : IVec S8x1 32 := broadcastInDim S8x1 ![0] bcast_S8_S8x1_0 (iotaInDim S8 32 0)

/-- the pairs of positions the gates go to, -/
def targets : IVec S8x2x2 32 :=
  concatenate S8x2x2 2 [⟨S8x2x1, (broadcastInDim S8x2x1 ![0, 1] bcast_S8x2_S8x2x1_0_1 (broadcastInDim S8x2 ![0, 1] bcast_S8x1_S8x2_0_1 (select (cmpi .slt rows (broadcastInDim S8x1 ![] bcast_S_S8x1 (constantI S_ 32 0#32))) (addi rows (broadcastInDim S8x1 ![] bcast_S_S8x1 (constantI S_ 32 8#32))) rows)))⟩, ⟨S8x2x1, (broadcastInDim S8x2x1 ![0, 1] bcast_S8x2_S8x2x1_0_1 (select (cmpi .slt (places lg) (broadcastInDim S8x2 ![] bcast_S_S8x2 (constantI S_ 32 0#32))) (addi (places lg) (broadcastInDim S8x2 ![] bcast_S_S8x2 (constantI S_ 32 4#32))) (places lg)))⟩] concatenates_S8x2x1_S8x2x1_S8x2x2_d2

/-- the shares, -/
def shares : FVec Ideal S8x2 .f32 :=
  Host.divf (powers lg) (broadcastInDim S8x2 ![0, 1] bcast_S8x1_S8x2_0_1 (broadcastInDim S8x1 ![0] bcast_S8_S8x1_0 (Host.reduceAdd (powers lg) (constant S_ .f32 0x00000000#32) reducesTo_S8x2_S8_d1 h_S_)))

/-- and the gates. -/
def gatesOf : FVec Ideal S8x4 .f32 :=
  Host.scatter scatter_S8x4_S8x2x2_S8x2_n_01_01_2 (fun _ b => b) (broadcastInDim S8x4 ![] bcast_S_S8x4 (constant S_ .f32 0x00000000#32))
    (targets lg) (shares lg)

/-- The expert that takes place `k`. -/
def place (r : Fin 4 → EReal) : Fin 2 → Fin 4 := ![top1 r, top2 r]

theorem sorted (b : Fin 8) (hr : ∀ e, row lg b e ≠ ⊥) (k : Fin 2) :
    sortedFrom (fun x y : Fin 4 => FloatOps.cmpfTotal (F := Ideal) (φ := .f32) .gt (lg (ix2 b x)) (lg (ix2 b y)) == 1#1) ⟨k.val, by omega⟩
      = place (row lg b) k := by
  have e : (fun x y : Fin 4 => FloatOps.cmpfTotal (F := Ideal) (φ := .f32) .gt (lg (ix2 b x)) (lg (ix2 b y)) == 1#1)
      = fun x y => decide (row lg b y < row lg b x) := by
    funext x y
    show (BitVec.ofBool (decide (lg (ix2 b y) < lg (ix2 b x))) == 1#1) = _
    by_cases h : lg (ix2 b y) < lg (ix2 b x) <;> simp [row, h]
  rw [e]
  fin_cases k
  · exact sorted_zero _
  · exact sorted_one hr

theorem along_eq (b : Fin 8) (p q : Fin 4) : (ix2 b p : S8x4.Idx).along (1 : Fin 2) q = ix2 b q := by
  funext a
  fin_cases a
  · exact Function.update_of_ne (by decide) _ _
  · exact Function.update_self _ _ _

/-- A row sorted together with some words: entry `q` is the entry at the position a stable sort puts there. -/
theorem sort_eq (w : IVec S8x4 32) (b : Fin 8) (q : Fin 4) :
    (Host.sort2 S8x4 1 (fun l r : Ideal .f32 × BitVec 32 => FloatOps.cmpfTotal (F := Ideal) (φ := .f32) .gt l.1 r.1) lg w).1 (ix2 b q)
      = lg (ix2 b (sortedFrom (fun x y : Fin 4 => FloatOps.cmpfTotal (F := Ideal) (φ := .f32) .gt (lg (ix2 b x)) (lg (ix2 b y)) == 1#1) q))
    ∧ (Host.sort2 S8x4 1 (fun l r : Ideal .f32 × BitVec 32 => FloatOps.cmpfTotal (F := Ideal) (φ := .f32) .gt l.1 r.1) lg w).2 (ix2 b q)
      = w (ix2 b (sortedFrom (fun x y : Fin 4 => FloatOps.cmpfTotal (F := Ideal) (φ := .f32) .gt (lg (ix2 b x)) (lg (ix2 b y)) == 1#1) q)) := by
  unfold Host.sort2
  rw [dif_pos (show 1 < S8x4.rank by decide)]
  have e := along_eq b q
  have hp : (fun x y : Fin 4 => FloatOps.cmpfTotal (F := Ideal) (φ := .f32) .gt (lg ((ix2 b q : S8x4.Idx).along (1 : Fin 2) x)) (lg ((ix2 b q : S8x4.Idx).along (1 : Fin 2) y)) == 1#1)
      = fun x y => FloatOps.cmpfTotal (F := Ideal) (φ := .f32) .gt (lg (ix2 b x)) (lg (ix2 b y)) == 1#1 :=
    funext fun x => funext fun y => by rw [e x, e y]
  constructor
  · exact congrArg lg ((e _).trans (congrArg (fun p : Fin 4 → Fin 4 → Bool => (ix2 b (sortedFrom p q) : S8x4.Idx)) hp))
  · exact congrArg w ((e _).trans (congrArg (fun p : Fin 4 → Fin 4 → Bool => (ix2 b (sortedFrom p q) : S8x4.Idx)) hp))

/-- The words the reference sorts along with the logits: each expert's position. -/
def words : IVec S8x4 32 := fun i => if hd : 1 < S8x4.rank then iotaInDim S8x4 32 ⟨1, hd⟩ i else 0#32

theorem topK_eq (b : Fin 8) (hr : ∀ e, row lg b e ≠ ⊥) (k : Fin 2) :
    (Host.topK S8x2 1 (FloatOps.cmpfTotal (F := Ideal) (φ := .f32) .gt) lg sliceFits_S8x4_S8x2).1 (ix2 b k) = row lg b (place (row lg b) k)
    ∧ places lg (ix2 b k) = BitVec.ofNat 32 (place (row lg b) k).val := by
  have hs := sorted lg b hr k
  have cut : ∀ {α : Type} (v : S8x4.Idx → α), extractStridedSlice S8x2 (fun _ => 0) v sliceFits_S8x4_S8x2 (ix2 b k)
      = v (ix2 b ⟨k.val, by omega⟩) := fun v => by
    refine congrArg v ?_
    funext a
    fin_cases a <;> exact Fin.ext (Nat.zero_add _)
  constructor
  · exact (cut _).trans ((sort_eq lg words b _).1.trans (by rw [hs]))
  · refine Eq.trans (b := words (ix2 b (place (row lg b) k))) ?_ rfl
    exact (cut _).trans ((sort_eq lg words b _).2.trans (by rw [hs]))

theorem value_eq (b : Fin 8) (hr : ∀ e, row lg b e ≠ ⊥) (k : Fin 2) : values lg (ix2 b k) = row lg b (place (row lg b) k) := by
  have h := (topK_eq lg b hr k).1
  unfold values
  generalize (Host.topK S8x2 1 (FloatOps.cmpfTotal (F := Ideal) (φ := .f32) .gt) lg sliceFits_S8x4_S8x2).1 = v at h ⊢
  pointwise
  rw [h]
  simp [Ideal.ofBits, Ideal.ieee, Ideal.div, -EReal.coe_mul]

theorem max_two (f : Fin 2 → EReal) : Finset.univ.fold max (⊥ : EReal) f = max (f 0) (f 1) := by
  rw [show (Finset.univ : Finset (Fin 2)) = {0, 1} from rfl]
  simp

theorem negInf : Ideal.ofBits .f32 0xFF800000#32 = ⊥ := by simp [Ideal.ofBits, Ideal.ieee]

theorem power_eq (b : Fin 8) (hr : ∀ e, Real' (row lg b e)) (k : Fin 2) : powers lg (ix2 b k) = ![1, weight (row lg b)] k := by
  have h := value_eq lg b fun e => (hr e).ne_bot
  unfold powers
  generalize values lg = v at h ⊢
  pointwise
  have hle : row lg b (top2 (row lg b)) ≤ row lg b (top1 (row lg b)) := (first_top1 _).le _
  rw [negInf, max_two, h 0, h 1, max_eq_right bot_le]
  show Ideal.exp (_ - max (row lg b (top1 (row lg b))) (row lg b (top2 (row lg b)))) = _
  rw [max_eq_left hle, h k]
  fin_cases k
  · obtain ⟨x, hx⟩ := hr (top1 (row lg b))
    show Ideal.exp (row lg b (top1 (row lg b)) - row lg b (top1 (row lg b))) = 1
    rw [hx, ← EReal.coe_sub, sub_self]
    show ((Real.exp 0 : ℝ) : EReal) = 1
    simp
  · rfl

theorem share_eq (b : Fin 8) (k : Fin 2) : shares lg (ix2 b k) = Ideal.div (powers lg (ix2 b k)) (∑ k, powers lg (ix2 b k)) := by
  unfold shares
  generalize powers lg = v
  pointwise

theorem small (n : ℕ) (h : n < 8) (a : BitVec 32) : Scalar.select (IntOp.cmpi .slt (BitVec.ofNat 32 n) 0#32) a (BitVec.ofNat 32 n) = BitVec.ofNat 32 n := by
  refine wrap_of_lt _ _ ?_
  rw [BitVec.toNat_ofNat]
  omega

theorem target_eq (b : Fin 8) (hr : ∀ e, row lg b e ≠ ⊥) (k : Fin 2) : targets lg (ix3 b k 0) = BitVec.ofNat 32 b.val
    ∧ targets lg (ix3 b k 1) = BitVec.ofNat 32 (place (row lg b) k).val := by
  have h := (topK_eq lg b hr k).2
  unfold targets rows
  generalize places lg = v at h ⊢
  constructor
  · pointwise
    exact small _ (by omega) _
  · pointwise
    rw [h]
    exact small _ (by omega) _

/-- The reference's gates are the gates of the logits. -/
theorem gatesOf_eq (hr : ∀ b e, Real' (row lg b e)) (b : Fin 8) (e : Fin 4) : gatesOf lg (ix2 b e) = gate (row lg b) e := by
  have hb : ∀ b e, row lg b e ≠ ⊥ := fun b e => (hr b e).ne_bot
  have toInt : ∀ n, n < 8 → (BitVec.ofNat 32 n).toInt = n := fun n hn => by
    rw [BitVec.toInt_eq_toNat_of_lt (by rw [BitVec.toNat_ofNat]; omega), BitVec.toNat_ofNat, Nat.mod_eq_of_lt (by omega)]
  have lands : ∀ (a : Fin 8) (k : Fin 2),
      scatter_S8x4_S8x2x2_S8x2_n_01_01_2.resultIdx? (ix2 a k) (targets lg) = some (ix2 b e) ↔ a = b ∧ place (row lg a) k = e := fun a k => by
    have hl : scatter_S8x4_S8x2x2_S8x2_n_01_01_2.resultIdx? (ix2 a k) (targets lg) = some (ix2 b e)
        ↔ (targets lg (ix3 a k 0)).toInt = b.val ∧ (targets lg (ix3 a k 1)).toInt = e.val :=
      scatter_lands2 scatter_S8x4_S8x2x2_S8x2_n_01_01_2 rfl rfl rfl (targets lg) a k b e
    rw [hl, (target_eq lg a (hb a) k).1, (target_eq lg a (hb a) k).2, toInt _ (by omega), toInt _ (by omega)]
    simp [Fin.ext_iff]
  have hsh : ∀ k, shares lg (ix2 b k) = Ideal.div (![1, weight (row lg b)] k) (1 + weight (row lg b)) := fun k => by
    rw [share_eq, power_eq lg b (hr b), Fin.sum_univ_two, power_eq lg b (hr b), power_eq lg b (hr b)]
    rfl
  have hit : ∀ k, place (row lg b) k = e → gatesOf lg (ix2 b e) = shares lg (ix2 b k) := fun k hk => by
    refine scatter_set_hit _ _ _ _ _ _ (fun i hi => ?_) (ix2 b k) ((lands b k).mpr ⟨rfl, hk⟩)
    obtain ⟨a, k', rfl⟩ : ∃ (a : Fin 8) (k' : Fin 2), i = ix2 a k' := ⟨i 0, i 1, by funext q; fin_cases q <;> rfl⟩
    obtain ⟨rfl, h'⟩ := (lands a k').mp hi
    have : k' = k := by
      have hne := top2_ne (hb a)
      fin_cases k <;> fin_cases k' <;> simp_all [place]
    rw [this]
  unfold gate
  by_cases h1 : e = top1 (row lg b)
  · rw [if_pos h1, hit 0 h1.symm, hsh]
    rfl
  · rw [if_neg h1]
    by_cases h2 : e = top2 (row lg b)
    · rw [if_pos h2, hit 1 h2.symm, hsh]
      rfl
    · rw [if_neg h2]
      refine (scatter_set_miss _ _ _ _ _ fun i hi => ?_).trans ?_
      · obtain ⟨a, k', rfl⟩ : ∃ (a : Fin 8) (k' : Fin 2), i = ix2 a k' := ⟨i 0, i 1, by funext q; fin_cases q <;> rfl⟩
        obtain ⟨rfl, h'⟩ := (lands a k').mp hi
        fin_cases k'
        · exact h1 h'.symm
        · exact h2 h'.symm
      · pointwise

end Moe.R

end
-- ==== Proof.Moe.Sums.lean ====
/- A sum over two of the four axes of an array. -/
module

public import proofs.«01_k».proof.Proof.Moe.Algebra
public import Idealize.ShloMosaic.Lib.IdealHost
import Idealize.ShloMosaic.Lib.Pointwise

@[expose] public section

set_option maxRecDepth 16384

noncomputable section

namespace Moe

open Idealize.ShloMosaic

/-- The host's sum over the second and the last axis, at an entry: the sum over both coordinates. -/
theorem sum_mid_last (h : (⟨4, ![8, 96, 321, 64]⟩ : Shape).ReducesTo [1, 3] ⟨2, ![8, 321]⟩)
    (x : (⟨4, ![8, 96, 321, 64]⟩ : Shape).Idx → EReal) (b : Fin 8) (n : Fin 321) :
    Ideal.hostReduceAdd h x 0 (ix2 b n) = ∑ l, ∑ d, x (ix4 b l n d) := by
  unfold Ideal.hostReduceAdd
  rw [zero_add, ← Finset.sum_product']
  symm
  have hd : ∀ i, h.drop i = ix2 (i 0) (i 2) := fun i => by
    funext a
    fin_cases a <;> rfl
  refine Finset.sum_nbij' (fun p => ix4 b p.1 n p.2) (fun i => (i 1, i 3)) (fun p _ => ?_) (fun _ _ => by simp) (fun _ _ => rfl) (fun i hi => ?_)
    (fun _ _ => rfl)
  · rw [Finset.mem_filter, hd]
    exact ⟨Finset.mem_univ _, rfl⟩
  · rw [Finset.mem_filter, hd] at hi
    have h0 := congrFun hi.2 0
    have h2 := congrFun hi.2 1
    funext a
    fin_cases a
    · exact h0.symm
    · rfl
    · exact h2.symm
    · rfl

end Moe

end
-- ==== Proof.Ref.Layer.lean ====
/- One layer of the reference, as a function of its arrays, read entry by entry. -/
module

public import proofs.«01_k».proof.Proof.Ref.Gates
public import proofs.«01_k».proof.Proof.Moe.Sums
import Idealize.ShloMosaic.Lib.Pointwise

@[expose] public section

set_option maxRecDepth 16384

noncomputable section

namespace Moe.R

open Idealize.ShloMosaic Idealize.ShloMosaic.TcCoe Cert.ReferenceIdeal Cert.ReferenceIdeal.Gen

/-- The four experts held by a layer's weight arrays. -/
def expertsOf (W1 : FVec Ideal S4x64x64 .f32) (b1 : FVec Ideal S4x64 .f32) (W2 : FVec Ideal S4x64x64 .f32) (b2 : FVec Ideal S4x64 .f32) : Experts :=
  ⟨fun e k f => W1 (ix3 e k f), fun e f => b1 (ix2 e f), fun e k f => W2 (ix3 e k f), fun e f => b2 (ix2 e f)⟩

/-- An array of activations, as a function of its coordinates. -/
abbrev act (X : FVec Ideal S8x96x321x64 .f32) : Act := fun b l n d => X (ix4 b l n d)

/-- The mixture of the experts, all of them computed and weighed, -/
def mixOf (g : FVec Ideal S8x4 .f32) (X : FVec Ideal S8x96x321x64 .f32) (W1 : FVec Ideal S4x64x64 .f32) (b1 : FVec Ideal S4x64 .f32)
    (W2 : FVec Ideal S4x64x64 .f32) (b2 : FVec Ideal S4x64 .f32) : FVec Ideal S8x96x321x64 .f32 :=
  addf (addf (addf (addf (broadcastInDim S8x96x321x64 ![] bcast_S_S8x96x321x64 (constant S_ .f32 0x00000000#32)) (mulf (broadcastInDim S8x96x321x64 ![0, 1, 2, 3] bcast_S8x1x1x1_S8x96x321x64_0_1_2_3 (broadcastInDim S8x1x1x1 ![0] bcast_S8_S8x1x1x1_0 (shapeCast _ (extractStridedSlice S8x1 ![0, 0] g slices_S8x4_S8x1_0_0) shapeCasts_S8x1_S8))) (addf (Host.dotGeneral dot_S8x96x321x64_S64x64_S8x96x321x64_3_0_012_1_n_n none (maximumf (addf (Host.dotGeneral dot_S8x96x321x64_S64x64_S8x96x321x64_3_0_012_1_n_n none X (shapeCast _ (extractStridedSlice S1x64x64 ![0, 0, 0] W1 slices_S4x64x64_S1x64x64_0_0_0) shapeCasts_S1x64x64_S64x64)) (broadcastInDim S8x96x321x64 ![0, 1, 2, 3] bcast_S1x1x1x64_S8x96x321x64_0_1_2_3 (broadcastInDim S1x1x1x64 ![3] bcast_S64_S1x1x1x64_3 (shapeCast _ (extractStridedSlice S1x64 ![0, 0] b1 slices_S4x64_S1x64_0_0) shapeCasts_S1x64_S64)))) (broadcastInDim S8x96x321x64 ![] bcast_S_S8x96x321x64 (constant S_ .f32 0x00000000#32))) (shapeCast _ (extractStridedSlice S1x64x64 ![0, 0, 0] W2 slices_S4x64x64_S1x64x64_0_0_0) shapeCasts_S1x64x64_S64x64)) (broadcastInDim S8x96x321x64 ![0, 1, 2, 3] bcast_S1x1x1x64_S8x96x321x64_0_1_2_3 (broadcastInDim S1x1x1x64 ![3] bcast_S64_S1x1x1x64_3 (shapeCast _ (extractStridedSlice S1x64 ![0, 0] b2 slices_S4x64_S1x64_0_0) shapeCasts_S1x64_S64)))))) (mulf (broadcastInDim S8x96x321x64 ![0, 1, 2, 3] bcast_S8x1x1x1_S8x96x321x64_0_1_2_3 (broadcastInDim S8x1x1x1 ![0] bcast_S8_S8x1x1x1_0 (shapeCast _ (extractStridedSlice S8x1 ![0, 1] g slices_S8x4_S8x1_0_1) shapeCasts_S8x1_S8))) (addf (Host.dotGeneral dot_S8x96x321x64_S64x64_S8x96x321x64_3_0_012_1_n_n none (maximumf (addf (Host.dotGeneral dot_S8x96x321x64_S64x64_S8x96x321x64_3_0_012_1_n_n none X (shapeCast _ (extractStridedSlice S1x64x64 ![1, 0, 0] W1 slices_S4x64x64_S1x64x64_1_0_0) shapeCasts_S1x64x64_S64x64)) (broadcastInDim S8x96x321x64 ![0, 1, 2, 3] bcast_S1x1x1x64_S8x96x321x64_0_1_2_3 (broadcastInDim S1x1x1x64 ![3] bcast_S64_S1x1x1x64_3 (shapeCast _ (extractStridedSlice S1x64 ![1, 0] b1 slices_S4x64_S1x64_1_0) shapeCasts_S1x64_S64)))) (broadcastInDim S8x96x321x64 ![] bcast_S_S8x96x321x64 (constant S_ .f32 0x00000000#32))) (shapeCast _ (extractStridedSlice S1x64x64 ![1, 0, 0] W2 slices_S4x64x64_S1x64x64_1_0_0) shapeCasts_S1x64x64_S64x64)) (broadcastInDim S8x96x321x64 ![0, 1, 2, 3] bcast_S1x1x1x64_S8x96x321x64_0_1_2_3 (broadcastInDim S1x1x1x64 ![3] bcast_S64_S1x1x1x64_3 (shapeCast _ (extractStridedSlice S1x64 ![1, 0] b2 slices_S4x64_S1x64_1_0) shapeCasts_S1x64_S64)))))) (mulf (broadcastInDim S8x96x321x64 ![0, 1, 2, 3] bcast_S8x1x1x1_S8x96x321x64_0_1_2_3 (broadcastInDim S8x1x1x1 ![0] bcast_S8_S8x1x1x1_0 (shapeCast _ (extractStridedSlice S8x1 ![0, 2] g slices_S8x4_S8x1_0_2) shapeCasts_S8x1_S8))) (addf (Host.dotGeneral dot_S8x96x321x64_S64x64_S8x96x321x64_3_0_012_1_n_n none (maximumf (addf (Host.dotGeneral dot_S8x96x321x64_S64x64_S8x96x321x64_3_0_012_1_n_n none X (shapeCast _ (extractStridedSlice S1x64x64 ![2, 0, 0] W1 slices_S4x64x64_S1x64x64_2_0_0) shapeCasts_S1x64x64_S64x64)) (broadcastInDim S8x96x321x64 ![0, 1, 2, 3] bcast_S1x1x1x64_S8x96x321x64_0_1_2_3 (broadcastInDim S1x1x1x64 ![3] bcast_S64_S1x1x1x64_3 (shapeCast _ (extractStridedSlice S1x64 ![2, 0] b1 slices_S4x64_S1x64_2_0) shapeCasts_S1x64_S64)))) (broadcastInDim S8x96x321x64 ![] bcast_S_S8x96x321x64 (constant S_ .f32 0x00000000#32))) (shapeCast _ (extractStridedSlice S1x64x64 ![2, 0, 0] W2 slices_S4x64x64_S1x64x64_2_0_0) shapeCasts_S1x64x64_S64x64)) (broadcastInDim S8x96x321x64 ![0, 1, 2, 3] bcast_S1x1x1x64_S8x96x321x64_0_1_2_3 (broadcastInDim S1x1x1x64 ![3] bcast_S64_S1x1x1x64_3 (shapeCast _ (extractStridedSlice S1x64 ![2, 0] b2 slices_S4x64_S1x64_2_0) shapeCasts_S1x64_S64)))))) (mulf (broadcastInDim S8x96x321x64 ![0, 1, 2, 3] bcast_S8x1x1x1_S8x96x321x64_0_1_2_3 (broadcastInDim S8x1x1x1 ![0] bcast_S8_S8x1x1x1_0 (shapeCast _ (extractStridedSlice S8x1 ![0, 3] g slices_S8x4_S8x1_0_3) shapeCasts_S8x1_S8))) (addf (Host.dotGeneral dot_S8x96x321x64_S64x64_S8x96x321x64_3_0_012_1_n_n none (maximumf (addf (Host.dotGeneral dot_S8x96x321x64_S64x64_S8x96x321x64_3_0_012_1_n_n none X (shapeCast _ (extractStridedSlice S1x64x64 ![3, 0, 0] W1 slices_S4x64x64_S1x64x64_3_0_0) shapeCasts_S1x64x64_S64x64)) (broadcastInDim S8x96x321x64 ![0, 1, 2, 3] bcast_S1x1x1x64_S8x96x321x64_0_1_2_3 (broadcastInDim S1x1x1x64 ![3] bcast_S64_S1x1x1x64_3 (shapeCast _ (extractStridedSlice S1x64 ![3, 0] b1 slices_S4x64_S1x64_3_0) shapeCasts_S1x64_S64)))) (broadcastInDim S8x96x321x64 ![] bcast_S_S8x96x321x64 (constant S_ .f32 0x00000000#32))) (shapeCast _ (extractStridedSlice S1x64x64 ![3, 0, 0] W2 slices_S4x64x64_S1x64x64_3_0_0) shapeCasts_S1x64x64_S64x64)) (broadcastInDim S8x96x321x64 ![0, 1, 2, 3] bcast_S1x1x1x64_S8x96x321x64_0_1_2_3 (broadcastInDim S1x1x1x64 ![3] bcast_S64_S1x1x1x64_3 (shapeCast _ (extractStridedSlice S1x64 ![3, 0] b2 slices_S4x64_S1x64_3_0) shapeCasts_S1x64_S64)))))

theorem mixOf_eq (g : FVec Ideal S8x4 .f32) (X : FVec Ideal S8x96x321x64 .f32) (W1 : FVec Ideal S4x64x64 .f32) (b1 : FVec Ideal S4x64 .f32)
    (W2 : FVec Ideal S4x64x64 .f32) (b2 : FVec Ideal S4x64 .f32) (b : Fin 8) (l : Fin 96) (n : Fin 321) (d : Fin 64) :
    mixOf g X W1 b1 W2 b2 (ix4 b l n d) = mixed (expertsOf W1 b1 W2 b2) (fun e => g (ix2 b e)) (act X b l n) d := by
  unfold mixOf mixed
  rw [Fin.sum_univ_four]
  pointwise
  rfl

/-- and the logits of the gates. -/
def logitsOf (X : FVec Ideal S8x96x321x64 .f32) (gw : FVec Ideal S321x4 .f32) : FVec Ideal S8x4 .f32 :=
  Host.dotGeneral dot_S8x321_S321x4_S8x4_1_0_0_1_n_n none (Host.divf (Host.reduceAdd X (constant S_ .f32 0x00000000#32) reducesTo_S8x96x321x64_S8x321_d1_3 h_S_) (broadcastInDim S8x321 ![] bcast_S_S8x321 (constant S_ .f32 0x45C00000#32))) gw

theorem logitsOf_eq (X : FVec Ideal S8x96x321x64 .f32) (gw : FVec Ideal S321x4 .f32) (b : Fin 8) (e : Fin 4) :
    logitsOf X gw (ix2 b e) = logits (fun n e => gw (ix2 n e)) (act X) b e := by
  unfold logitsOf logits total
  pointwise
  exact Finset.sum_congr rfl fun n _ => by rw [sum_mid_last]

end Moe.R

end
-- ==== Proof.Ref.Series.lean ====
/- The reference's standardised and embedded series, read entry by entry. -/
module

public import proofs.«01_k».proof.Proof.Ref.Layer
public import proofs.«01_k».proof.Proof.Moe.Series
import Idealize.ShloMosaic.Lib.Pointwise

@[expose] public section

set_option maxRecDepth 16384

noncomputable section

namespace Moe.R

open Idealize.ShloMosaic Idealize.ShloMosaic.TcCoe Cert.ReferenceIdeal Cert.ReferenceIdeal.Gen

/-- A series array, as a function of its coordinates. -/
abbrev series (x : FVec Ideal S8x96x321 .f32) : Fin 8 → Fin 96 → Fin 321 → EReal := fun b l n => x (ix3 b l n)

/-- The means over time. -/
def meanOf (x : FVec Ideal S8x96x321 .f32) : FVec Ideal S8x1x321 .f32 :=
  Host.divf (broadcastInDim S8x1x321 ![0, 2] bcast_S8x321_S8x1x321_0_2 (Host.reduceAdd x (constant S_ .f32 0x00000000#32) reducesTo_S8x96x321_S8x321_d1 h_S_)) (broadcastInDim S8x1x321 ![] bcast_S_S8x1x321 (constant S_ .f32 0x42C00000#32))

theorem meanOf_eq (x : FVec Ideal S8x96x321 .f32) (b : Fin 8) (n : Fin 321) : meanOf x (ix3 b 0 n) = mean (series x) b n := by
  unfold meanOf mean
  pointwise

theorem c96_pos : 0 < c96 := by
  have h : c96 = ((96 : ℝ) : EReal) := by
    simp [Ideal.ofBits, Ideal.ieee, -EReal.coe_mul]
    norm_num
  rw [h]
  exact_mod_cast (by norm_num : (0 : ℝ) < 96)

/-- No correction is taken from a count. -/
theorem none_eq : FloatOps.sitofp (F := Ideal) .f32 (0#32 : BitVec 32) = (0 : EReal) := by
  show (((0#32 : BitVec 32).toInt : ℝ) : EReal) = 0
  simp

/-- The number of time steps, less the correction, which is none. -/
def count96 : FVec Ideal S_ .f32 :=
  subf (constant S_ .f32 0x42C00000#32) (sitofp .f32 (constantI S_ 32 0#32))

theorem count96_eq (i : S_.Idx) : count96 i = c96 := by
  unfold count96
  pointwise
  rw [none_eq, sub_zero]

/-- The deviations from the means. -/
def devOf (x : FVec Ideal S8x96x321 .f32) : FVec Ideal S8x96x321 .f32 :=
  subf x (broadcastInDim S8x96x321 ![0, 1, 2] bcast_S8x1x321_S8x96x321_0_1_2 (Host.divf (broadcastInDim S8x1x321 ![0, 2] bcast_S8x321_S8x1x321_0_2 (Host.reduceAdd x (constant S_ .f32 0x00000000#32) reducesTo_S8x96x321_S8x321_d1 h_S_)) (broadcastInDim S8x1x321 ![] bcast_S_S8x1x321 (constant S_ .f32 0x42C00000#32))))

theorem devOf_eq (x : FVec Ideal S8x96x321 .f32) (b : Fin 8) (l : Fin 96) (n : Fin 321) : devOf x (ix3 b l n) = series x b l n - mean (series x) b n := by
  unfold devOf mean
  pointwise

/-- The standard deviations. -/
def stdOf (x : FVec Ideal S8x96x321 .f32) : FVec Ideal S8x1x321 .f32 :=
  Host.sqrt (addf (select (broadcastInDim S8x1x321 ![] bcast_S_S8x1x321 (cmpf .ogt count96 (constant S_ .f32 0x00000000#32))) (Host.divf (broadcastInDim S8x1x321 ![0, 2] bcast_S8x321_S8x1x321_0_2 (Host.reduceAdd (mulf (devOf x) (devOf x)) (constant S_ .f32 0x00000000#32) reducesTo_S8x96x321_S8x321_d1 h_S_)) (broadcastInDim S8x1x321 ![] bcast_S_S8x1x321 count96)) (broadcastInDim S8x1x321 ![] bcast_S_S8x1x321 (id (constant S_ .f32 0x7FC00000#32)))) (broadcastInDim S8x1x321 ![] bcast_S_S8x1x321 (constant S_ .f32 0x3727C5AC#32)))

theorem stdOf_eq (x : FVec Ideal S8x96x321 .f32) (b : Fin 8) (n : Fin 321) : stdOf x (ix3 b 0 n) = std (series x) b n := by
  have h := devOf_eq x
  have hc := count96_eq
  unfold stdOf std var
  generalize devOf x = v at h ⊢
  generalize count96 = k at hc ⊢
  pointwise
  simp only [h, hc]
  rw [if_pos c96_pos]

/-- The embedded series. -/
def embedOf (x : FVec Ideal S8x96x321 .f32) (w a : FVec Ideal S64 .f32) : FVec Ideal S8x96x321x64 .f32 :=
  addf (mulf (broadcastInDim S8x96x321x64 ![0, 1, 2, 3] bcast_S8x96x321x1_S8x96x321x64_0_1_2_3 (broadcastInDim S8x96x321x1 ![0, 1, 2] bcast_S8x96x321_S8x96x321x1_0_1_2 (Host.divf (subf x (broadcastInDim S8x96x321 ![0, 1, 2] bcast_S8x1x321_S8x96x321_0_1_2 (meanOf x))) (broadcastInDim S8x96x321 ![0, 1, 2] bcast_S8x1x321_S8x96x321_0_1_2 (stdOf x))))) (broadcastInDim S8x96x321x64 ![0, 1, 2, 3] bcast_S1x1x1x64_S8x96x321x64_0_1_2_3 (broadcastInDim S1x1x1x64 ![3] bcast_S64_S1x1x1x64_3 w))) (broadcastInDim S8x96x321x64 ![0, 1, 2, 3] bcast_S1x1x1x64_S8x96x321x64_0_1_2_3 (broadcastInDim S1x1x1x64 ![3] bcast_S64_S1x1x1x64_3 a))

theorem embedOf_eq (x : FVec Ideal S8x96x321 .f32) (w a : FVec Ideal S64 .f32) : act (embedOf x w a) = embedded (series x) (fun d => w (ix1 d)) (fun d => a (ix1 d)) := by
  funext b l n d
  have hm := meanOf_eq x b n
  have hs := stdOf_eq x b n
  unfold act embedOf embedded
  generalize meanOf x = m at hm ⊢
  generalize stdOf x = s at hs ⊢
  pointwise
  rw [hm, hs]

end Moe.R

end
-- ==== Proof.Kernel.Prepare.lean ====
/- What the host prepares for the kernels, read entry by entry: the padded statistics and series, the padded gating
matrices, and the weights of one layer. -/
module

public import proofs.«01_k».proof.Proof.Kernel.Route0
public import proofs.«01_k».proof.Proof.Ref.Series
import Idealize.ShloMosaic.Lib.Pointwise
import Idealize.ShloMosaic.Lib.KernelVsHost

@[expose] public section

set_option maxRecDepth 16384

noncomputable section

namespace Moe.K

open Idealize.ShloMosaic Idealize.ShloMosaic.TcCoe Cert.KernelIdeal Cert.KernelIdeal.Gen

/-- A node among the padded nodes. -/
abbrev up (n : Fin 321) : Fin 336 := ⟨n.val, by omega⟩

/-! ## Padding -/

/-- Padding only behind leaves positions as they are. -/
theorem plain (i : ℕ) : i = 0 + i * (0 + 1) := by omega

theorem pad_nodes (x : FVec Ideal S8x321 .f32) (v : FVec Ideal S_ .f32) (b : Fin 8) (n : Fin 321) :
    pad S8x336 ![0, 0] ![0, 15] ![0, 0] x v pads_S8x321_S8x336_000_0150 h_S_ (ix2 b (up n)) = x (ix2 b n) :=
  pad_apply_of_inside _ _ _ x v _ _ _ (ix2 b n) fun a => by fin_cases a <;> exact plain _

theorem pad_series (x : FVec Ideal S8x321x96 .f32) (v : FVec Ideal S_ .f32) (b : Fin 8) (n : Fin 321) (l : Fin 96) :
    pad S8x336x96 ![0, 0, 0] ![0, 15, 0] ![0, 0, 0] x v pads_S8x321x96_S8x336x96_000_0150_000 h_S_ (ix3 b (up n) l) = x (ix3 b n l) :=
  pad_apply_of_inside _ _ _ x v _ _ _ (ix3 b n l) fun a => by fin_cases a <;> exact plain _

theorem pad_gates (x : FVec Ideal S3x321x4 .f32) (v : FVec Ideal S_ .f32) (k : Fin 3) (n : Fin 321) (e : Fin 4) :
    pad S3x336x4 ![0, 0, 0] ![0, 15, 0] ![0, 0, 0] x v pads_S3x321x4_S3x336x4_000_0150_000 h_S_ (ix3 k (up n) e) = x (ix3 k n e) :=
  pad_apply_of_inside _ _ _ x v _ _ _ (ix3 k n e) fun a => by fin_cases a <;> exact plain _

theorem pad_gates_off (x : FVec Ideal S3x321x4 .f32) (v : FVec Ideal S_ .f32) (k : Fin 3) (n : Fin 336) (hn : 321 ≤ n.val) (e : Fin 4) :
    pad S3x336x4 ![0, 0, 0] ![0, 15, 0] ![0, 0, 0] x v pads_S3x321x4_S3x336x4_000_0150_000 h_S_ (ix3 k n e) = v ix0 := by
  rw [pad_apply_of_not_inside _ _ _ x v _ _ _ (1 : Fin 3) fun h => by
    have h3 : (n.val - 0) / (0 + 1) < 321 := h.2.2
    omega]
  exact congrArg v (funext fun a => a.elim0)

/-! ## The lines of host operations -/

variable (W : Valuation τ sig (Elt Ideal))

theorem read_v3 : (StableHlo.after hostOps0 W (Proc.devRef .tc main_v3) : FVec Ideal S8x1x321 .f32) = R.meanOf (W (Proc.devRef .tc main_arg0)) := by
  simp only [hostOps0]
  after_results_simp
  rfl

theorem read_c : (StableHlo.after hostOps0 W (Proc.devRef .tc main_c) : Vec Ideal S_ .i32) = constantI S_ 32 0#32 := by
  simp only [hostOps0]
  after_results_simp

theorem read_v4 (h : (W (Proc.devRef .tc main_c) : Vec Ideal S_ .i32) = constantI S_ 32 0#32) :
    Host.sqrt (addf (StableHlo.after hostOps0_1 W (Proc.devRef .tc main_v4) : FVec Ideal S8x1x321 .f32)
      (broadcastInDim S8x1x321 ![] bcast_S_S8x1x321 (constant S_ .f32 0x3727C5AC#32))) = R.stdOf (W (Proc.devRef .tc main_arg0)) := by
  simp only [hostOps0_1]
  after_results_simp
  rw [h]
  rfl

theorem read_v7 : (Host.sqrt (addf (W (Proc.devRef .tc main_v4) : FVec Ideal S8x1x321 .f32)
      (broadcastInDim S8x1x321 ![] bcast_S_S8x1x321 (constant S_ .f32 0x3727C5AC#32))) : FVec Ideal S8x1x321 .f32)
    = (StableHlo.after hostOps0_2 W (Proc.devRef .tc main_v7) : FVec Ideal S8x1x321 .f32) := by
  simp only [hostOps0_2]
  after_results_simp

theorem read_v25 : (StableHlo.after hostOps0_2 W (Proc.devRef .tc main_v25) : FVec Ideal S8x4 .f32)
    = R.logitsOf (addf (mulf (broadcastInDim S8x96x321x64 ![0, 1, 2, 3] bcast_S8x96x321x1_S8x96x321x64_0_1_2_3
        (broadcastInDim S8x96x321x1 ![0, 1, 2] bcast_S8x96x321_S8x96x321x1_0_1_2
          (Host.divf (subf (W (Proc.devRef .tc main_arg0) : FVec Ideal S8x96x321 .f32)
              (broadcastInDim S8x96x321 ![0, 1, 2] bcast_S8x1x321_S8x96x321_0_1_2 (W (Proc.devRef .tc main_v3) : FVec Ideal S8x1x321 .f32)))
            (broadcastInDim S8x96x321 ![0, 1, 2] bcast_S8x1x321_S8x96x321_0_1_2
              (StableHlo.after hostOps0_2 W (Proc.devRef .tc main_v7) : FVec Ideal S8x1x321 .f32)))))
        (broadcastInDim S8x96x321x64 ![0, 1, 2, 3] bcast_S1x1x1x64_S8x96x321x64_0_1_2_3
          (broadcastInDim S1x1x1x64 ![3] bcast_S64_S1x1x1x64_3 (W (Proc.devRef .tc main_arg1) : FVec Ideal S64 .f32))))
        (broadcastInDim S8x96x321x64 ![0, 1, 2, 3] bcast_S1x1x1x64_S8x96x321x64_0_1_2_3
          (broadcastInDim S1x1x1x64 ![3] bcast_S64_S1x1x1x64_3 (W (Proc.devRef .tc main_arg2) : FVec Ideal S64 .f32))))
      (shapeCast S321x4 (extractStridedSlice S1x321x4 ![0, 0, 0] (W (Proc.devRef .tc main_arg3) : FVec Ideal S3x321x4 .f32)
        slices_S3x321x4_S1x321x4_0_0_0) shapeCasts_S1x321x4_S321x4) := by
  simp only [hostOps0_2]
  after_results_simp
  rfl

theorem read_v26 (b : Fin 8) (n : Fin 321) : (StableHlo.after hostOps0_2 W (Proc.devRef .tc main_v26) : FVec Ideal S8x321 .f32) (ix2 b n)
    = (W (Proc.devRef .tc main_v3) : FVec Ideal S8x1x321 .f32) (ix3 b 0 n) := by
  simp only [hostOps0_2]
  after_results_simp
  pointwise

theorem read_v27 (b : Fin 8) (n : Fin 321) : (StableHlo.after hostOps0_3 W (Proc.devRef .tc main_v27) : FVec Ideal S8x336 .f32) (ix2 b (up n))
    = (W (Proc.devRef .tc main_v26) : FVec Ideal S8x321 .f32) (ix2 b n) := by
  simp only [hostOps0_3]
  after_results_simp
  exact pad_nodes _ _ b n

theorem read_v28 (b : Fin 8) (n : Fin 336) : (StableHlo.after hostOps0_4 W (Proc.devRef .tc main_v28) : FVec Ideal S8x336x1 .f32) (ix3 b n 0)
    = (W (Proc.devRef .tc main_v27) : FVec Ideal S8x336 .f32) (ix2 b n) := by
  simp only [hostOps0_4]
  after_results_simp
  pointwise

theorem read_v29 (b : Fin 8) (n : Fin 321) : (StableHlo.after hostOps0_4 W (Proc.devRef .tc main_v29) : FVec Ideal S8x321 .f32) (ix2 b n)
    = (W (Proc.devRef .tc main_v7) : FVec Ideal S8x1x321 .f32) (ix3 b 0 n) := by
  simp only [hostOps0_4]
  after_results_simp
  pointwise

theorem read_v30 (b : Fin 8) (n : Fin 321) : (StableHlo.after hostOps0_5 W (Proc.devRef .tc main_v30) : FVec Ideal S8x336 .f32) (ix2 b (up n))
    = (W (Proc.devRef .tc main_v29) : FVec Ideal S8x321 .f32) (ix2 b n) := by
  simp only [hostOps0_5]
  after_results_simp
  exact pad_nodes _ _ b n

theorem read_v31 (b : Fin 8) (n : Fin 336) : (StableHlo.after hostOps0_6 W (Proc.devRef .tc main_v31) : FVec Ideal S8x336x1 .f32) (ix3 b n 0)
    = (W (Proc.devRef .tc main_v30) : FVec Ideal S8x336 .f32) (ix2 b n) := by
  simp only [hostOps0_6]
  after_results_simp
  pointwise

theorem read_v32 (b : Fin 8) (n : Fin 321) (l : Fin 96) :
    (StableHlo.after hostOps0_6 W (Proc.devRef .tc main_v32) : FVec Ideal S8x321x96 .f32) (ix3 b n l)
      = (W (Proc.devRef .tc main_arg0) : FVec Ideal S8x96x321 .f32) (ix3 b l n) := by
  simp only [hostOps0_6]
  after_results_simp
  pointwise

theorem read_v33 (b : Fin 8) (n : Fin 321) (l : Fin 96) :
    (StableHlo.after hostOps0_7 W (Proc.devRef .tc main_v33) : FVec Ideal S8x336x96 .f32) (ix3 b (up n) l)
      = (W (Proc.devRef .tc main_v32) : FVec Ideal S8x321x96 .f32) (ix3 b n l) := by
  simp only [hostOps0_7]
  after_results_simp
  exact pad_series _ _ b n l

/-- The even time steps come first, then the odd ones. -/
theorem read_v36 (b : Fin 8) (n : Fin 336) (p : Fin 2) (j : Fin 48) :
    (StableHlo.after hostOps0_8 W (Proc.devRef .tc main_v36) : FVec Ideal S8x336x96 .f32) (ix3 b n ⟨p.val * 48 + j.val, by omega⟩)
      = (W (Proc.devRef .tc main_v33) : FVec Ideal S8x336x96 .f32) (ix3 b n ⟨2 * j.val + p.val, by omega⟩) := by
  simp only [hostOps0_8]
  after_results_simp
  fin_cases p <;> pointwise
  exact congrArg (fun i => (W (Proc.devRef .tc main_v33) : FVec Ideal S8x336x96 .f32) (ix3 b n i)) (Fin.ext (Nat.add_comm _ _))

theorem read_v37 (k : Fin 3) (n : Fin 321) (e : Fin 4) :
    (StableHlo.after hostOps0_9 W (Proc.devRef .tc main_v37) : FVec Ideal S3x336x4 .f32) (ix3 k (up n) e)
      = (W (Proc.devRef .tc main_arg3) : FVec Ideal S3x321x4 .f32) (ix3 k n e) := by
  simp only [hostOps0_9]
  after_results_simp
  exact pad_gates _ _ k n e

/-- The padding of the gating matrices is zero. -/
theorem read_v37_off (h : (W (Proc.devRef .tc main_c_7) : Vec Ideal S_ .i32) = constantI S_ 32 0#32) (k : Fin 3) (n : Fin 336)
    (hn : 321 ≤ n.val) (e : Fin 4) :
    (StableHlo.after hostOps0_9 W (Proc.devRef .tc main_v37) : FVec Ideal S3x336x4 .f32) (ix3 k n e) = (0 : EReal) := by
  simp only [hostOps0_9]
  after_results_simp
  rw [h]
  refine (pad_gates_off _ _ k n hn e).trans ?_
  exact R.none_eq

theorem read_c_7 : (StableHlo.after hostOps0_8 W (Proc.devRef .tc main_c_7) : Vec Ideal S_ .i32) = constantI S_ 32 0#32 := by
  simp only [hostOps0_8]
  after_results_simp

theorem read_v38 (d : Fin 64) : (StableHlo.after hostOps0_10 W (Proc.devRef .tc main_v38) : FVec Ideal S1x64 .f32) (ix2 0 d)
    = (W (Proc.devRef .tc main_arg1) : FVec Ideal S64 .f32) (ix1 d) := by
  simp only [hostOps0_10]
  after_results_simp
  pointwise

theorem read_v39 (d : Fin 64) : (StableHlo.after hostOps0_10 W (Proc.devRef .tc main_v39) : FVec Ideal S1x64 .f32) (ix2 0 d)
    = (W (Proc.devRef .tc main_arg2) : FVec Ideal S64 .f32) (ix1 d) := by
  simp only [hostOps0_10]
  after_results_simp
  pointwise

theorem read_v40 (t : Fin 96) : (StableHlo.after hostOps0_10 W (Proc.devRef .tc main_v40) : FVec Ideal S1x96 .f32) (ix2 0 t)
    = (W (Proc.devRef .tc main_arg9) : FVec Ideal S96 .f32) (ix1 t) := by
  simp only [hostOps0_10]
  after_results_simp
  pointwise

/-- Layer 0's weights. -/
theorem read_experts_0 : experts (StableHlo.after hostOps0_10 W (Proc.devRef .tc main_v42)) (StableHlo.after hostOps0_10 W (Proc.devRef .tc main_v44))
      (StableHlo.after hostOps0_10 W (Proc.devRef .tc main_v46)) (StableHlo.after hostOps0_10 W (Proc.devRef .tc main_v48))
    = ⟨fun e i f => (W (Proc.devRef .tc main_arg4) : FVec Ideal S3x4x64x64 .f32) (ix4 0 e i f),
      fun e f => (W (Proc.devRef .tc main_arg5) : FVec Ideal S3x4x64 .f32) (ix3 0 e f),
      fun e i f => (W (Proc.devRef .tc main_arg6) : FVec Ideal S3x4x64x64 .f32) (ix4 0 e i f),
      fun e f => (W (Proc.devRef .tc main_arg7) : FVec Ideal S3x4x64 .f32) (ix3 0 e f)⟩ := by
  simp only [hostOps0_10]
  after_results_simp
  unfold experts
  congr 1 <;> (repeat' funext _) <;> pointwise

/-- Layer 1's weights. -/
theorem read_experts_1 : experts (StableHlo.after hostOps2 W (Proc.devRef .tc main_v57)) (StableHlo.after hostOps2 W (Proc.devRef .tc main_v59))
      (StableHlo.after hostOps2 W (Proc.devRef .tc main_v61)) (StableHlo.after hostOps2 W (Proc.devRef .tc main_v63))
    = ⟨fun e i f => (W (Proc.devRef .tc main_arg4) : FVec Ideal S3x4x64x64 .f32) (ix4 1 e i f),
      fun e f => (W (Proc.devRef .tc main_arg5) : FVec Ideal S3x4x64 .f32) (ix3 1 e f),
      fun e i f => (W (Proc.devRef .tc main_arg6) : FVec Ideal S3x4x64x64 .f32) (ix4 1 e i f),
      fun e f => (W (Proc.devRef .tc main_arg7) : FVec Ideal S3x4x64 .f32) (ix3 1 e f)⟩ := by
  simp only [hostOps2]
  after_results_simp
  unfold experts
  congr 1 <;> (repeat' funext _) <;> pointwise

/-- Layer 2's weights. -/
theorem read_experts_2 : experts (StableHlo.after hostOps4 W (Proc.devRef .tc main_v72)) (StableHlo.after hostOps4 W (Proc.devRef .tc main_v74))
      (StableHlo.after hostOps4 W (Proc.devRef .tc main_v76)) (StableHlo.after hostOps4 W (Proc.devRef .tc main_v78))
    = ⟨fun e i f => (W (Proc.devRef .tc main_arg4) : FVec Ideal S3x4x64x64 .f32) (ix4 2 e i f),
      fun e f => (W (Proc.devRef .tc main_arg5) : FVec Ideal S3x4x64 .f32) (ix3 2 e f),
      fun e i f => (W (Proc.devRef .tc main_arg6) : FVec Ideal S3x4x64x64 .f32) (ix4 2 e i f),
      fun e f => (W (Proc.devRef .tc main_arg7) : FVec Ideal S3x4x64 .f32) (ix3 2 e f)⟩ := by
  simp only [hostOps4]
  after_results_simp
  unfold experts
  congr 1 <;> (repeat' funext _) <;> pointwise

/-- The node sums and the gating matrix of layer 1. -/
theorem read_v53 (b : Fin 8) (n : Fin 336) : (StableHlo.after hostOps2 W (Proc.devRef .tc main_v53) : FVec Ideal S8x336 .f32) (ix2 b n)
    = (W (Proc.devRef .tc main_v52_1) : FVec Ideal S8x1x336x1 .f32) (ix4 b 0 n 0) := by
  simp only [hostOps2]
  after_results_simp
  pointwise

theorem read_v55 (n : Fin 336) (e : Fin 4) : (StableHlo.after hostOps2 W (Proc.devRef .tc main_v55) : FVec Ideal S336x4 .f32) (ix2 n e)
    = (W (Proc.devRef .tc main_v37) : FVec Ideal S3x336x4 .f32) (ix3 1 n e) := by
  simp only [hostOps2]
  after_results_simp
  pointwise

/-- The node sums and the gating matrix of layer 2. -/
theorem read_v68 (b : Fin 8) (n : Fin 336) : (StableHlo.after hostOps4 W (Proc.devRef .tc main_v68) : FVec Ideal S8x336 .f32) (ix2 b n)
    = (W (Proc.devRef .tc main_v67_1) : FVec Ideal S8x1x336x1 .f32) (ix4 b 0 n 0) := by
  simp only [hostOps4]
  after_results_simp
  pointwise

theorem read_v70 (n : Fin 336) (e : Fin 4) : (StableHlo.after hostOps4 W (Proc.devRef .tc main_v70) : FVec Ideal S336x4 .f32) (ix2 n e)
    = (W (Proc.devRef .tc main_v37) : FVec Ideal S3x336x4 .f32) (ix3 2 n e) := by
  simp only [hostOps4]
  after_results_simp
  pointwise

theorem read_v50 : (StableHlo.after hostOps1 W (Proc.devRef .tc main_v50) : S8x128x256.Idx → EReal) = (W (Proc.devRef .tc main_v49_0) : S8x128x256.Idx → EReal) := by
  simp only [hostOps1]
  after_results_simp
  rfl

theorem read_v51 : (StableHlo.after hostOps1 W (Proc.devRef .tc main_v51) : S8x256x128.Idx → EReal) = (W (Proc.devRef .tc main_v49_2) : S8x256x128.Idx → EReal) := by
  simp only [hostOps1]
  after_results_simp
  rfl

theorem read_v65 : (StableHlo.after hostOps3 W (Proc.devRef .tc main_v65) : S8x128x256.Idx → EReal) = (W (Proc.devRef .tc main_v64_0) : S8x128x256.Idx → EReal) := by
  simp only [hostOps3]
  after_results_simp
  rfl

theorem read_v66 : (StableHlo.after hostOps3 W (Proc.devRef .tc main_v66) : S8x256x128.Idx → EReal) = (W (Proc.devRef .tc main_v64_2) : S8x256x128.Idx → EReal) := by
  simp only [hostOps3]
  after_results_simp
  rfl

theorem read_v81 : (StableHlo.after hostOps5 W (Proc.devRef .tc main_v81) : S8x128x256.Idx → EReal) = (W (Proc.devRef .tc main_v79_0) : S8x128x256.Idx → EReal) := by
  simp only [hostOps5]
  after_results_simp
  rfl

theorem read_v82 : (StableHlo.after hostOps5 W (Proc.devRef .tc main_v82) : S8x256x128.Idx → EReal) = (W (Proc.devRef .tc main_v79_2) : S8x256x128.Idx → EReal) := by
  simp only [hostOps5]
  after_results_simp
  rfl

theorem read_v80 : (StableHlo.after hostOps5 W (Proc.devRef .tc main_v80) : S6144x96.Idx → EReal) = (W (Proc.devRef .tc main_arg8) : S6144x96.Idx → EReal) := by
  simp only [hostOps5]
  after_results_simp
  rfl

end Moe.K

end
-- ==== Proof.Kernel.Entry.lean ====
/- What the kernels are launched on, in terms of the arguments: the logits of the first layer, the padded statistics,
series and gating matrices, and the weights. -/
module

public import proofs.«01_k».proof.Proof.Kernel.Prepare
public import proofs.«01_k».proof.Proof.Moe.Arrays

@[expose] public section

set_option maxRecDepth 16384

noncomputable section

namespace Moe.K

open Idealize.ShloMosaic Idealize.ShloMosaic.TcCoe Cert.KernelIdeal Cert.KernelIdeal.Gen

variable (m : (ℓ : Loc nD τ sig) → Buf (Elt Ideal) ℓ) (ρ : Dev nD → PrngReg) (c : Dev nD)

/-- The arguments that the program's argument buffers hold. -/
def args : Args :=
  argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

theorem mean_eq : (W1 m ρ c (Proc.devRef .tc main_v3) : FVec Ideal S8x1x321 .f32) = R.meanOf (m ((c.tc : Thread nD τ).loc main_arg0)) :=
  read_v3 (W0 m ρ c)

theorem std_eq : (W3 m ρ c (Proc.devRef .tc main_v7) : FVec Ideal S8x1x321 .f32) = R.stdOf (m ((c.tc : Thread nD τ).loc main_arg0)) := by
  refine (read_v7 (W2 m ρ c)).symm.trans ((read_v4 (W1 m ρ c) (read_c (W0 m ρ c))).trans ?_)
  rw [W1_args m ρ c main_arg0 (by decide)]

/-- The first layer's logits. -/
theorem logits_eq (b : Fin 8) : row (W11 m ρ c (Proc.devRef .tc main_v25)) b = logits ((args m c).gw 0) (args m c).X0 b := by
  funext e
  have h : (W11 m ρ c (Proc.devRef .tc main_v25) : FVec Ideal S8x4 .f32)
      = R.logitsOf (R.embedOf (m ((c.tc : Thread nD τ).loc main_arg0)) (m ((c.tc : Thread nD τ).loc main_arg1)) (m ((c.tc : Thread nD τ).loc main_arg2)))
        (shapeCast S321x4 (extractStridedSlice S1x321x4 ![0, 0, 0] (m ((c.tc : Thread nD τ).loc main_arg3) : FVec Ideal S3x321x4 .f32)
          slices_S3x321x4_S1x321x4_0_0_0) shapeCasts_S1x321x4_S321x4) := by
    rw [W11_of m ρ c main_v25 (by decide), W10_of m ρ c main_v25 (by decide), W9_of m ρ c main_v25 (by decide), W8_of m ρ c main_v25 (by decide), W7_of m ρ c main_v25 (by decide), W6_of m ρ c main_v25 (by decide), W5_of m ρ c main_v25 (by decide), W4_of m ρ c main_v25 (by decide)]
    refine (read_v25 (W2 m ρ c)).trans ?_
    have hs := std_eq m ρ c
    unfold W3 at hs
    rw [hs, W2_of m ρ c main_v3 (by decide), mean_eq, W2_args m ρ c main_arg0 (by decide), W2_args m ρ c main_arg1 (by decide), W2_args m ρ c main_arg2 (by decide), W2_args m ρ c main_arg3 (by decide)]
    rfl
  show (W11 m ρ c (Proc.devRef .tc main_v25) : FVec Ideal S8x4 .f32) (ix2 b e) = _
  rw [h, R.logitsOf_eq, R.embedOf_eq]
  refine congrArg (fun g => logits g _ b e) (funext fun n => funext fun e => ?_)
  pointwise
  rfl

/-- The padded means, -/
theorem mean_at (b : Fin 8) (n : Fin 321) :
    (W11 m ρ c (Proc.devRef .tc main_v28) : FVec Ideal S8x336x1 .f32) (ix3 b (up n) 0) = mean (args m c).x b n := by
  rw [W11_of m ρ c main_v28 (by decide), W10_of m ρ c main_v28 (by decide), W9_of m ρ c main_v28 (by decide), W8_of m ρ c main_v28 (by decide), W7_of m ρ c main_v28 (by decide), W6_of m ρ c main_v28 (by decide)]
  refine (read_v28 (W4 m ρ c) b (up n)).trans ((read_v27 (W3 m ρ c) b n).trans ((read_v26 (W2 m ρ c) b n).trans ?_))
  rw [W2_of m ρ c main_v3 (by decide), mean_eq, R.meanOf_eq]
  rfl

/-- the padded deviations, -/
theorem std_at (b : Fin 8) (n : Fin 321) :
    (W11 m ρ c (Proc.devRef .tc main_v31) : FVec Ideal S8x336x1 .f32) (ix3 b (up n) 0) = std (args m c).x b n := by
  rw [W11_of m ρ c main_v31 (by decide), W10_of m ρ c main_v31 (by decide), W9_of m ρ c main_v31 (by decide), W8_of m ρ c main_v31 (by decide)]
  refine (read_v31 (W6 m ρ c) b (up n)).trans ((read_v30 (W5 m ρ c) b n).trans ((read_v29 (W4 m ρ c) b n).trans ?_))
  rw [W4_of m ρ c main_v7 (by decide), std_eq, R.stdOf_eq]
  rfl

/-- the padded series, even time steps first, -/
theorem series_at (b : Fin 8) (n : Fin 321) (p : Fin 2) (j : Fin 48) :
    (W11 m ρ c (Proc.devRef .tc main_v36) : FVec Ideal S8x336x96 .f32) (ix3 b (up n) ⟨p.val * 48 + j.val, by omega⟩) = (args m c).x b ⟨2 * j.val + p.val, by omega⟩ n := by
  rw [W11_of m ρ c main_v36 (by decide), W10_of m ρ c main_v36 (by decide)]
  refine (read_v36 (W8 m ρ c) b (up n) p j).trans ((read_v33 (W7 m ρ c) b n _).trans ((read_v32 (W6 m ρ c) b n _).trans ?_))
  rw [W6_args m ρ c main_arg0 (by decide)]
  rfl

/-- the padded gating matrices, -/
theorem gating_at (k : Fin 3) (n : Fin 321) (e : Fin 4) :
    (W11 m ρ c (Proc.devRef .tc main_v37) : FVec Ideal S3x336x4 .f32) (ix3 k (up n) e) = (args m c).gw k n e := by
  rw [W11_of m ρ c main_v37 (by decide)]
  refine (read_v37 (W9 m ρ c) k n e).trans ?_
  rw [W9_args m ρ c main_arg3 (by decide)]
  rfl

theorem gating_off (k : Fin 3) (n : Fin 336) (hn : 321 ≤ n.val) (e : Fin 4) :
    (W11 m ρ c (Proc.devRef .tc main_v37) : FVec Ideal S3x336x4 .f32) (ix3 k n e) = (0 : EReal) := by
  rw [W11_of m ρ c main_v37 (by decide)]
  exact read_v37_off (W9 m ρ c) (read_c_7 (W8 m ρ c)) k n hn e

theorem sw_at (d : Fin 64) :
    (W11 m ρ c (Proc.devRef .tc main_v38) : FVec Ideal S1x64 .f32) (ix2 0 d) = (args m c).sw d := by
  refine (read_v38 (W10 m ρ c) d).trans ?_
  rw [W10_args m ρ c main_arg1 (by decide)]
  rfl

theorem sb_at (d : Fin 64) :
    (W11 m ρ c (Proc.devRef .tc main_v39) : FVec Ideal S1x64 .f32) (ix2 0 d) = (args m c).sb d := by
  refine (read_v39 (W10 m ρ c) d).trans ?_
  rw [W10_args m ρ c main_arg2 (by decide)]
  rfl

theorem pb_at (t : Fin 96) :
    (W11 m ρ c (Proc.devRef .tc main_v40) : FVec Ideal S1x96 .f32) (ix2 0 t) = (args m c).pb t := by
  refine (read_v40 (W10 m ρ c) t).trans ?_
  rw [W10_args m ρ c main_arg9 (by decide)]
  rfl

/-- Layer 0's experts. -/
theorem experts_at_0  :
    experts (W11 m ρ c (Proc.devRef .tc main_v42)) (W11 m ρ c (Proc.devRef .tc main_v44)) (W11 m ρ c (Proc.devRef .tc main_v46)) (W11 m ρ c (Proc.devRef .tc main_v48)) = (args m c).P 0 := by
  refine (read_experts_0 (W10 m ρ c)).trans ?_
  rw [W10_args m ρ c main_arg4 (by decide), W10_args m ρ c main_arg5 (by decide), W10_args m ρ c main_arg6 (by decide), W10_args m ρ c main_arg7 (by decide)]
  rfl

/-- Layer 1's experts. -/
theorem experts_at_1  :
    experts (W15 m ρ c (Proc.devRef .tc main_v57)) (W15 m ρ c (Proc.devRef .tc main_v59)) (W15 m ρ c (Proc.devRef .tc main_v61)) (W15 m ρ c (Proc.devRef .tc main_v63)) = (args m c).P 1 := by
  refine (read_experts_1 (W14 m ρ c)).trans ?_
  rw [W14_args m ρ c main_arg4 (by decide), W14_args m ρ c main_arg5 (by decide), W14_args m ρ c main_arg6 (by decide), W14_args m ρ c main_arg7 (by decide)]
  rfl

/-- Layer 2's experts. -/
theorem experts_at_2  :
    experts (W19 m ρ c (Proc.devRef .tc main_v72)) (W19 m ρ c (Proc.devRef .tc main_v74)) (W19 m ρ c (Proc.devRef .tc main_v76)) (W19 m ρ c (Proc.devRef .tc main_v78)) = (args m c).P 2 := by
  refine (read_experts_2 (W18 m ρ c)).trans ?_
  rw [W18_args m ρ c main_arg4 (by decide), W18_args m ρ c main_arg5 (by decide), W18_args m ρ c main_arg6 (by decide), W18_args m ρ c main_arg7 (by decide)]
  rfl

end Moe.K

end
-- ==== Proof.Kernel.Layer1.lean ====
/- What one grid step of the first layer kernel leaves in its two blocks. -/
module

public import proofs.«01_k».proof.Proof.Kernel.Pack
public import proofs.«01_k».proof.Proof.Gen.KernelIdeal.Frame
import Idealize.ShloMosaic.Lib.Pointwise

@[expose] public section

set_option maxRecDepth 16384

noncomputable section

namespace Moe.K

open Idealize.ShloMosaic Idealize.ShloMosaic.TcCoe Cert.KernelIdeal Cert.KernelIdeal.Gen

/-- The row of the flattened activations that holds the time steps `2 j` and `2 j + 1` of node `n`. -/
abbrev pos (n : Fin 336) (j : Fin 48) : Fin 16128 := ⟨n.val * 48 + j.val, by omega⟩

/-- A row through the packed network. -/
def rowY (w1 : Fin 128 → Fin 256 → EReal) (b1 : Fin 256 → EReal) (w2 : Fin 256 → Fin 128 → EReal) (b2 : Fin 128 → EReal)
    (A : Fin 128 → EReal) (k : Fin 128) : EReal :=
  (∑ c, max ((∑ k', A k' * w1 k' c) + b1 c) 0 * w2 c k) + b2 k

/-- The embedded input: a normalised entry times the embedding's weight, plus its bias. -/
def embed (x m s w a : EReal) : EReal := Ideal.div (x - m) s * w + a

/-- The weights of a block, as functions of their coordinates. -/
abbrev fw1 (w : Vec Ideal S1x128x256 .bf16) : Fin 128 → Fin 256 → EReal := fun k c => w (ix3 0 k c)
abbrev fb1 (w : Vec Ideal S1x1x256 .f32) : Fin 256 → EReal := fun c => w (ix3 0 0 c)
abbrev fw2 (w : Vec Ideal S1x256x128 .bf16) : Fin 256 → Fin 128 → EReal := fun c k => w (ix3 0 c k)
abbrev fb2 (w : Vec Ideal S1x1x128 .f32) : Fin 128 → EReal := fun k => w (ix3 0 0 k)

section

variable (x0 : Vec Ideal S1x336x96 .f32) (x1 x2 : Vec Ideal S1x336x1 .f32) (x3 x4 : Vec Ideal S1x64 .f32)
  (x5 : Vec Ideal S1x128x256 .bf16) (x6 : Vec Ideal S1x1x256 .f32) (x7 : Vec Ideal S1x256x128 .bf16) (x8 : Vec Ideal S1x1x128 .f32)

/-- The embedded input, as the kernel lays it out: row `m`, feature `k`. -/
def start (m : Fin 16128) (k : Fin 128) : EReal := k1_pay4 (F := Ideal) x0 x1 x2 x3 x4 (ix2 m k)

theorem start_eq (n : Fin 336) (j : Fin 48) (p : Fin 2) (d : Fin 64) :
    start x0 x1 x2 x3 x4 (pos n j) (pk p d)
      = embed (x0 (ix3 0 n ⟨p.val * 48 + j.val, by omega⟩)) (x1 (ix3 0 n 0)) (x2 (ix3 0 n 0)) (x3 (ix2 0 d)) (x4 (ix2 0 d)) := by
  have hn : (n.val * 48 + j.val) / 48 = n.val := by omega
  have hj : (n.val * 48 + j.val) % 48 = j.val := by omega
  unfold start k1_pay4 embed
  pointwise
  simp only [hn, hj]
  fin_cases p
  · simp
  · simp

theorem ids : View.ld x0 r1_0 = x0 ∧ View.ld x1 r1_1 = x1 ∧ View.ld x3 r1_2 = x3 ∧ View.ld x5 r1_3 = x5 ∧ View.ld x6 r1_4 = x6
    ∧ View.ld x7 r1_5 = x7 ∧ View.ld x8 r1_6 = x8 := by
  refine ⟨View.ld_unit_zero ?_ _ _, View.ld_unit_zero ?_ _ _, View.ld_unit_zero ?_ _ _, View.ld_unit_zero ?_ _ _, View.ld_unit_zero ?_ _ _,
    View.ld_unit_zero ?_ _ _, View.ld_unit_zero ?_ _ _⟩ <;> (funext a; fin_cases a <;> rfl)

/-- The layer's row: the start and what the packed network makes of it. -/
theorem out1_row (m : Fin 16128) (k : Fin 128) :
    k1_pay1 (F := Ideal) (k1_pay7 x0 x1 x2 x3 x4 x5 x6 x7 x8) (k1_pay8 x0 x1 x2 x3 x4 x5 x6 x7 x8) (k1_pay9 x0 x1 x2 x3 x4 x5 x6 x7 x8) x7 x8 (ix2 m k)
      = start x0 x1 x2 x3 x4 m k + rowY (fw1 x5) (fb1 x6) (fw2 x7) (fb2 x8) (start x0 x1 x2 x3 x4 m) k := by
  have h2 : View.ld x2 r1_1 = x2 := (ids x0 x2 x3 x5 x6 x7 x8).2.1
  have h4 : View.ld x4 r1_2 = x4 := (ids x0 x2 x4 x5 x6 x7 x8).2.2.1
  obtain ⟨h0, h1, h3, h5, h6, _, _⟩ := ids x0 x1 x3 x5 x6 x7 x8
  unfold k1_pay1 k1_pay7 k1_pay8 k1_pay9 k1_pay5 k1_pay6 rowY start
  rw [h0, h1, h2, h3, h4, h5, h6]
  pointwise

theorem out1_A (m : Fin 16128) (k : Fin 128) :
    out1_9 x0 x1 x2 x3 x4 x5 x6 x7 x8 (ix3 0 m k)
      = start x0 x1 x2 x3 x4 m k + rowY (fw1 x5) (fb1 x6) (fw2 x7) (fb2 x8) (start x0 x1 x2 x3 x4 m) k := by
  obtain ⟨_, _, _, _, _, h7, h8⟩ := ids x0 x1 x3 x5 x6 x7 x8
  rw [← out1_row]
  unfold out1_9 k1_pay2
  rw [View.canon_unit_zero (by funext a; fin_cases a <;> rfl), h7, h8]
  pointwise

theorem out1_sum (n : Fin 336) :
    out1_10 x0 x1 x2 x3 x4 x5 x6 x7 x8 (ix4 0 0 n 0)
      = ∑ k, ∑ j, (start x0 x1 x2 x3 x4 (pos n j) k + rowY (fw1 x5) (fb1 x6) (fw2 x7) (fb2 x8) (start x0 x1 x2 x3 x4 (pos n j)) k) := by
  obtain ⟨_, _, _, _, _, h7, h8⟩ := ids x0 x1 x3 x5 x6 x7 x8
  simp only [← out1_row]
  unfold out1_10 k1_pay3
  rw [View.canon_unit_zero (by funext a; fin_cases a <;> rfl), h7, h8]
  pointwise

end

end Moe.K

end
-- ==== Proof.Kernel.Tiles.lean ====
/- Activations held two time steps to a row: sums over the rows of a node, and a layer and the projection on them. -/
module

public import proofs.«01_k».proof.Proof.Kernel.Layer1
public import proofs.«01_k».proof.Proof.Kernel.Prepare
public import proofs.«01_k».proof.Proof.Moe.Model

@[expose] public section

noncomputable section

namespace Moe.K

open Idealize.ShloMosaic

/-- The time step that half `p` of row `j` holds. -/
abbrev step (p : Fin 2) (j : Fin 48) : Fin 96 := ⟨2 * j.val + p.val, by omega⟩

/-- Rows that hold a batch element's activations: row `j` of a node holds two time steps, one after the other. -/
def Holds (A : Fin 16128 → Fin 128 → EReal) (X : Fin 96 → Fin 321 → Fin 64 → EReal) : Prop :=
  ∀ n j p d, A (pos (up n) j) (pk p d) = X (step p j) n d

/-- Summing a node's rows is summing its activations over time and features. -/
theorem sum_rows (f : Fin 48 → Fin 128 → EReal) (Y : Fin 96 → Fin 64 → EReal) (h : ∀ j p d, f j (pk p d) = Y (step p j) d) :
    ∑ k, ∑ j, f j k = ∑ l, ∑ d, Y l d := by
  rw [sum_pk, sum_runs (m := 48) (n := 2) rfl]
  simp only [h]
  have hs : ∀ (p : Fin 2) (j : Fin 48), (⟨j.val * 2 + p.val, by omega⟩ : Fin 96) = step p j := fun p j => Fin.ext (by simp only; omega)
  simp only [hs]
  rw [Finset.sum_comm]
  refine Eq.trans (Finset.sum_congr rfl fun p _ => Finset.sum_comm) ?_
  rw [Finset.sum_comm]
  conv_lhs => enter [2, j]; rw [Finset.sum_comm]

/-- The network's own layer on such rows. -/
theorem rowY_eq {a : Args} {k : Fin 3} {X : Act} {b : Fin 8} (hr : ∀ e, Real' (logits (a.gw k) X b e)) {w1 : Fin 128 → Fin 256 → EReal}
    {b1 : Fin 256 → EReal} {w2 : Fin 256 → Fin 128 → EReal} {b2 : Fin 128 → EReal}
    (h : Packed (a.P k) (sel (logits (a.gw k) X b)) (gsel (logits (a.gw k) X b)) w1 b1 w2 b2) {A : Fin 16128 → Fin 128 → EReal} (hA : Holds A (X b))
    (n : Fin 321) (j : Fin 48) (p : Fin 2) (d : Fin 64) :
    rowY w1 b1 w2 b2 (A (pos (up n) j)) (pk p d) = mixed (a.P k) (gates (a.gw k) X b) (X b (step p j) n) d := by
  unfold rowY
  rw [row_mixed hr h]
  simp only [hA n j]
  rfl

/-- Adding it to the rows gives rows that hold the next activations, -/
theorem holds_step {a : Args} {k : Fin 3} {X : Act} {b : Fin 8} (hr : ∀ e, Real' (logits (a.gw k) X b e)) {w1 : Fin 128 → Fin 256 → EReal}
    {b1 : Fin 256 → EReal} {w2 : Fin 256 → Fin 128 → EReal} {b2 : Fin 128 → EReal}
    (h : Packed (a.P k) (sel (logits (a.gw k) X b)) (gsel (logits (a.gw k) X b)) w1 b1 w2 b2) {A : Fin 16128 → Fin 128 → EReal}
    (hA : Holds A (X b)) : Holds (fun m k' => A m k' + rowY w1 b1 w2 b2 (A m) k') (a.step k X b) := fun n j p d => by
  show A (pos (up n) j) (pk p d) + rowY w1 b1 w2 b2 (A (pos (up n) j)) (pk p d) = _
  rw [rowY_eq hr h hA, hA, add_comm]
  rfl

/-- and its node sums are the sums of what it added. -/
theorem sum_step {a : Args} {k : Fin 3} {X : Act} {b : Fin 8} (hr : ∀ e, Real' (logits (a.gw k) X b e)) {w1 : Fin 128 → Fin 256 → EReal}
    {b1 : Fin 256 → EReal} {w2 : Fin 256 → Fin 128 → EReal} {b2 : Fin 128 → EReal}
    (h : Packed (a.P k) (sel (logits (a.gw k) X b)) (gsel (logits (a.gw k) X b)) w1 b1 w2 b2) {A : Fin 16128 → Fin 128 → EReal}
    (hA : Holds A (X b)) (n : Fin 321) :
    total X b n + ∑ k', ∑ j, rowY w1 b1 w2 b2 (A (pos (up n) j)) k' = total (a.step k X) b n := by
  rw [sum_rows (fun j k' => rowY w1 b1 w2 b2 (A (pos (up n) j)) k') (fun l d => mixed (a.P k) (gates (a.gw k) X b) (X b l n) d)
    fun j p d => rowY_eq hr h hA n j p d]
  unfold total
  rw [add_comm, ← Finset.sum_add_distrib]
  refine Finset.sum_congr rfl fun l _ => ?_
  rw [← Finset.sum_add_distrib]
  rfl

/-- Rows that hold activations sum to the nodes' totals. -/
theorem sum_holds {A : Fin 16128 → Fin 128 → EReal} {X : Act} {b : Fin 8} (hA : Holds A (X b)) (n : Fin 321) :
    ∑ k, ∑ j, A (pos (up n) j) k = total X b n :=
  sum_rows (fun j k => A (pos (up n) j) k) (fun l d => X b l n d) fun j p d => hA n j p d

/-- The projection of a node's rows is that of its activations, time step after time step. -/
theorem project_rows {A : Fin 16128 → Fin 128 → EReal} {X : Act} {b : Fin 8} (hA : Holds A (X b)) (n : Fin 321) (f : Fin 6144 → EReal) :
    ∑ j : Fin 48, ∑ k : Fin 128, A (pos (up n) j) k * f ⟨j.val * 128 + k.val, by omega⟩
      = ∑ k : Fin 6144, X b ⟨k.val / 64, by omega⟩ n ⟨k.val % 64, by omega⟩ * f k := by
  rw [sum_runs (m := 48) (n := 128) rfl]
  refine Finset.sum_congr rfl fun j _ => ?_
  rw [sum_pk, sum_pk]
  refine Finset.sum_congr rfl fun p _ => Finset.sum_congr rfl fun d _ => ?_
  rw [hA]
  have h1 : (⟨(j.val * 128 + (pk p d).val) / 64, by have := (pk p d).isLt; omega⟩ : Fin 96) = step p j :=
    Fin.ext (by simp only [pk]; omega)
  have h2 : (⟨(j.val * 128 + (pk p d).val) % 64, by omega⟩ : Fin 64) = d := Fin.ext (by simp only [pk]; omega)
  rw [h1, h2]

/-- Gating the padded node sums is gating the nodes' means. -/
theorem gate_rows {gw : Fin 321 → Fin 4 → EReal} {X : Act} {b : Fin 8} (v : Fin 336 → EReal) (w : Fin 336 → Fin 4 → EReal)
    (hv : ∀ n, v (up n) = total X b n) (hw : ∀ n e, w (up n) e = gw n e) (h0 : ∀ n : Fin 336, 321 ≤ n.val → ∀ e, w n e = 0) (e : Fin 4) :
    (∑ n, v n * w n e) * ((6144⁻¹ : ℝ) : EReal) = logits gw X b e := by
  have hcut : ∑ n, v n * w n e = ∑ n : Fin 321, total X b n * gw n e := by
    rw [Fin.sum_univ_add (a := 321) (b := 15) (fun n : Fin 336 => v n * w n e)]
    rw [Finset.sum_eq_zero (s := Finset.univ) (f := fun i : Fin 15 => v (Fin.natAdd 321 i) * w (Fin.natAdd 321 i) e)
      fun i _ => by rw [h0 _ (by simp [Fin.natAdd]), mul_zero], add_zero]
    exact Finset.sum_congr rfl fun n _ => by rw [← hv, ← hw]; rfl
  rw [hcut, mul_comm, mul_sum' (by exact_mod_cast (by norm_num : (0 : ℝ) ≤ 6144⁻¹)) (EReal.coe_ne_top _)]
  unfold logits
  refine Finset.sum_congr rfl fun n _ => ?_
  rw [c6144_eq]
  unfold Ideal.div
  rw [if_neg (by exact_mod_cast (by norm_num : (6144 : ℝ) ≠ 0)), ← EReal.coe_inv, ← mul_assoc, mul_comm (((6144 : ℝ)⁻¹ : ℝ) : EReal)]

end Moe.K

end
-- ==== Proof.Kernel.Arr0.lean ====
/- The arrays the first routing kernel leaves: one grid point, so what its body leaves. -/
module

public import proofs.«01_k».proof.Proof.Kernel.Route0
public import Idealize.ShloMosaic.Lib.Pipeline.ValueKit
import Idealize.ShloMosaic.Lib.Pointwise

@[expose] public section

set_option maxRecDepth 16384

noncomputable section

namespace Moe.K

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

theorem idx0 : ∀ t : Fin cfg0.N, win0_0.index t = ![0, 0]
    ∧ win0_1.index t = ![0, 0, 0]
    ∧ win0_2.index t = ![0, 0]
    ∧ win0_3.index t = ![0, 0, 0]
    ∧ win0_4.index t = ![0, 0]
    ∧ win0_5.index t = ![0, 0, 0]
    ∧ win0_6.index t = ![0, 0, 0]
    ∧ win0_7.index t = ![0, 0, 0]
    ∧ win0_8.index t = ![0, 0, 0]
    ∧ win0_9.index t = ![0, 0] :=
  (by decide +kernel : ∀ t : Fin grid0.N, _)

/-- The blocks are the arrays. -/
theorem whole0 : iblk0 V c 0 t0_0 = V c main_v25
    ∧ iblk0 V c 1 t0_0 = V c main_v42
    ∧ iblk0 V c 2 t0_0 = V c main_v44
    ∧ iblk0 V c 3 t0_0 = V c main_v46
    ∧ iblk0 V c 4 t0_0 = V c main_v48 := by
  refine ⟨?_, ?_, ?_, ?_, ?_⟩ <;> blk_ext! [iblk0, idx0 t0_0]

theorem arr0_5 : (dat0 V c).arrAt 5 cfg0.N = out0_5 (V c main_v25) (V c main_v42) (V c main_v44) (V c main_v46) (V c main_v48) := by
  refine (dat0 V c).arrAt_eq_of_after_last 5 t0_0 (by decide +kernel) _ fun j => ?_
  blk_simp
  rw [after0_5, (whole0 V c).1, (whole0 V c).2.1, (whole0 V c).2.2.1, (whole0 V c).2.2.2.1, (whole0 V c).2.2.2.2]

theorem arr0_6 : (dat0 V c).arrAt 6 cfg0.N = out0_6 (V c main_v25) (V c main_v42) (V c main_v44) (V c main_v46) (V c main_v48) := by
  refine (dat0 V c).arrAt_eq_of_after_last 6 t0_0 (by decide +kernel) _ fun j => ?_
  blk_simp
  rw [after0_6, (whole0 V c).1, (whole0 V c).2.1, (whole0 V c).2.2.1, (whole0 V c).2.2.2.1, (whole0 V c).2.2.2.2]

theorem arr0_7 : (dat0 V c).arrAt 7 cfg0.N = out0_7 (V c main_v25) (V c main_v42) (V c main_v44) (V c main_v46) (V c main_v48) := by
  refine (dat0 V c).arrAt_eq_of_after_last 7 t0_0 (by decide +kernel) _ fun j => ?_
  blk_simp
  rw [after0_7, (whole0 V c).1, (whole0 V c).2.1, (whole0 V c).2.2.1, (whole0 V c).2.2.2.1, (whole0 V c).2.2.2.2]

theorem arr0_8 : (dat0 V c).arrAt 8 cfg0.N = out0_8 (V c main_v25) (V c main_v42) (V c main_v44) (V c main_v46) (V c main_v48) := by
  refine (dat0 V c).arrAt_eq_of_after_last 8 t0_0 (by decide +kernel) _ fun j => ?_
  blk_simp
  rw [after0_8, (whole0 V c).1, (whole0 V c).2.1, (whole0 V c).2.2.1, (whole0 V c).2.2.2.1, (whole0 V c).2.2.2.2]

theorem arr0_9 : (dat0 V c).arrAt 9 cfg0.N = out0_9 (V c main_v25) (V c main_v42) (V c main_v44) (V c main_v46) (V c main_v48) := by
  refine (dat0 V c).arrAt_eq_of_after_last 9 t0_0 (by decide +kernel) _ fun j => ?_
  blk_simp
  rw [after0_9, (whole0 V c).1, (whole0 V c).2.1, (whole0 V c).2.2.1, (whole0 V c).2.2.2.1, (whole0 V c).2.2.2.2]

end Moe.K

end
-- ==== Proof.Kernel.Arr1.lean ====
/- The arrays the first layer kernel leaves, entry by entry, from the arrays it is given. -/
module

public import proofs.«01_k».proof.Proof.Kernel.Layer1
public import Idealize.ShloMosaic.Lib.Pipeline.ValueKit
import Idealize.ShloMosaic.Lib.Pointwise

@[expose] public section

set_option maxRecDepth 16384

noncomputable section

namespace Moe.K

open Idealize.ShloMosaic Idealize.ShloMosaic.TcCoe Cert.KernelIdeal Cert.KernelIdeal.Gen

/-- A batch element's packed weights, as functions of their coordinates. -/
abbrev aw1 (w : S8x128x256.Idx → EReal) (b : Fin 8) : Fin 128 → Fin 256 → EReal := fun k c => w (ix3 b k c)
abbrev ab1 (w : S8x1x256.Idx → EReal) (b : Fin 8) : Fin 256 → EReal := fun c => w (ix3 b 0 c)
abbrev aw2 (w : S8x256x128.Idx → EReal) (b : Fin 8) : Fin 256 → Fin 128 → EReal := fun c k => w (ix3 b c k)
abbrev ab2 (w : S8x1x128.Idx → EReal) (b : Fin 8) : Fin 128 → EReal := fun k => w (ix3 b 0 k)

variable (V : (c : Dev nD) → (b : Ref sig .tc) → Buf (Elt Ideal) ((c : Thread nD τ).loc b)) (c : Dev nD)

/-- Where each window looks at a grid point. -/
theorem idx1 : ∀ t : Fin cfg1.N, win1_0.index t = ![t.val, 0, 0]
    ∧ win1_1.index t = ![t.val, 0, 0]
    ∧ win1_2.index t = ![t.val, 0, 0]
    ∧ win1_3.index t = ![0, 0]
    ∧ win1_4.index t = ![0, 0]
    ∧ win1_5.index t = ![t.val, 0, 0]
    ∧ win1_6.index t = ![t.val, 0, 0]
    ∧ win1_7.index t = ![t.val, 0, 0]
    ∧ win1_8.index t = ![t.val, 0, 0]
    ∧ win1_9.index t = ![t.val, 0, 0]
    ∧ win1_10.index t = ![t.val, 0, 0, 0] :=
  (by decide +kernel : ∀ t : Fin grid1.N, _)

/-- The grid point of batch element `b`. -/
abbrev pt1 (b : Fin 8) : Fin cfg1.N := ⟨b.val, lt_of_lt_of_eq b.isLt N_1.symm⟩

theorem blk1_0 (b : Fin 8) (n : Fin 336) (l : Fin 96) : iblk1 V c 0 (pt1 b) (ix3 0 n l) = V c main_v36 (ix3 b n l) := by
  blk_ext! [iblk1, idx1 (pt1 b)]

theorem blk1_1 (b : Fin 8) (n : Fin 336) : iblk1 V c 1 (pt1 b) (ix3 0 n 0) = V c main_v28 (ix3 b n 0) := by
  blk_ext! [iblk1, idx1 (pt1 b)]

theorem blk1_2 (b : Fin 8) (n : Fin 336) : iblk1 V c 2 (pt1 b) (ix3 0 n 0) = V c main_v31 (ix3 b n 0) := by
  blk_ext! [iblk1, idx1 (pt1 b)]

theorem blk1_3 (b : Fin 8) (d : Fin 64) : iblk1 V c 3 (pt1 b) (ix2 0 d) = V c main_v38 (ix2 0 d) := by
  blk_ext! [iblk1, idx1 (pt1 b)]

theorem blk1_4 (b : Fin 8) (d : Fin 64) : iblk1 V c 4 (pt1 b) (ix2 0 d) = V c main_v39 (ix2 0 d) := by
  blk_ext! [iblk1, idx1 (pt1 b)]

theorem wts1 (b : Fin 8) : fw1 (iblk1 V c 5 (pt1 b)) = aw1 (V c main_v50) b
    ∧ fb1 (iblk1 V c 6 (pt1 b)) = ab1 (V c main_v49_1) b
    ∧ fw2 (iblk1 V c 7 (pt1 b)) = aw2 (V c main_v51) b
    ∧ fb2 (iblk1 V c 8 (pt1 b)) = ab2 (V c main_v49_3) b := by
  refine ⟨funext fun k => funext fun q => (?_ : iblk1 V c 5 (pt1 b) (ix3 0 k q) = V c main_v50 (ix3 b k q)), funext fun q => (?_ : iblk1 V c 6 (pt1 b) (ix3 0 0 q) = V c main_v49_1 (ix3 b 0 q)), funext fun q => funext fun k => (?_ : iblk1 V c 7 (pt1 b) (ix3 0 q k) = V c main_v51 (ix3 b q k)), funext fun k => (?_ : iblk1 V c 8 (pt1 b) (ix3 0 0 k) = V c main_v49_3 (ix3 b 0 k))⟩ <;>
    blk_ext! [iblk1, idx1 (pt1 b)]

theorem idx1_9 : ∀ t : Fin cfg1.N, win1_9.index t = ![t.val, 0, 0] :=
  (by decide +kernel : ∀ t : Fin grid1.N, _)

/-- Where an entry of the written block lies in the array: in batch element `t`, at its own coordinates. -/
theorem at1_9 (t : Fin cfg1.N) (y : ((cfg1.win 9).xblock (cfg1.grid.coords t)).Idx) :
    pt1 (((cfg1.win 9).blk t).view.emb y 0) = t ∧ ((ix3 0 (((cfg1.win 9).blk t).view.emb y 1) (((cfg1.win 9).blk t).view.emb y 2)) : S1x16128x128.Idx) = y := by
  constructor
  · have hy0 : (y 0).val < 1 := (y 0).isLt
    refine Fin.ext (?_ : ((((cfg1.win 9).blk t).view.emb y 0 : Fin _) : ℕ) = t.val)
    blk_simp [idx1_9 t]
  · blk_ext [idx1_9 t]

theorem arr1_9 (b : Fin 8) (m : Fin 16128) (k : Fin 128) : (dat1 V c).arrAt 9 cfg1.N (ix3 b m k)
    = out1_9 (iblk1 V c 0 (pt1 b)) (iblk1 V c 1 (pt1 b)) (iblk1 V c 2 (pt1 b)) (iblk1 V c 3 (pt1 b)) (iblk1 V c 4 (pt1 b)) (iblk1 V c 5 (pt1 b)) (iblk1 V c 6 (pt1 b)) (iblk1 V c 7 (pt1 b)) (iblk1 V c 8 (pt1 b)) (ix3 0 m k) := by
  refine congrFun ((dat1 V c).arrAt_eq_of_covers 9 (fun i : S8x16128x128.Idx =>
    out1_9 (iblk1 V c 0 (pt1 (i 0))) (iblk1 V c 1 (pt1 (i 0))) (iblk1 V c 2 (pt1 (i 0))) (iblk1 V c 3 (pt1 (i 0))) (iblk1 V c 4 (pt1 (i 0))) (iblk1 V c 5 (pt1 (i 0))) (iblk1 V c 6 (pt1 (i 0))) (iblk1 V c 7 (pt1 (i 0))) (iblk1 V c 8 (pt1 (i 0))) (ix3 0 (i 1) (i 2))) (by decide +kernel) fun t hf y => ?_) (ix3 b m k)
  blk_simp
  rw [after1_9, (at1_9 t y).1]
  exact (congrArg _ (at1_9 t y).2).symm

theorem idx1_10 : ∀ t : Fin cfg1.N, win1_10.index t = ![t.val, 0, 0, 0] :=
  (by decide +kernel : ∀ t : Fin grid1.N, _)

/-- Where an entry of the written block lies in the array: in batch element `t`, at its own coordinates. -/
theorem at1_10 (t : Fin cfg1.N) (y : ((cfg1.win 10).xblock (cfg1.grid.coords t)).Idx) :
    pt1 (((cfg1.win 10).blk t).view.emb y 0) = t ∧ ((ix4 0 (((cfg1.win 10).blk t).view.emb y 1) (((cfg1.win 10).blk t).view.emb y 2) (((cfg1.win 10).blk t).view.emb y 3)) : S1x1x336x1.Idx) = y := by
  constructor
  · have hy0 : (y 0).val < 1 := (y 0).isLt
    refine Fin.ext (?_ : ((((cfg1.win 10).blk t).view.emb y 0 : Fin _) : ℕ) = t.val)
    blk_simp [idx1_10 t]
  · blk_ext [idx1_10 t]

theorem arr1_10 (b : Fin 8) (n : Fin 336) : (dat1 V c).arrAt 10 cfg1.N (ix4 b 0 n 0)
    = out1_10 (iblk1 V c 0 (pt1 b)) (iblk1 V c 1 (pt1 b)) (iblk1 V c 2 (pt1 b)) (iblk1 V c 3 (pt1 b)) (iblk1 V c 4 (pt1 b)) (iblk1 V c 5 (pt1 b)) (iblk1 V c 6 (pt1 b)) (iblk1 V c 7 (pt1 b)) (iblk1 V c 8 (pt1 b)) (ix4 0 0 n 0) := by
  refine congrFun ((dat1 V c).arrAt_eq_of_covers 10 (fun i : S8x1x336x1.Idx =>
    out1_10 (iblk1 V c 0 (pt1 (i 0))) (iblk1 V c 1 (pt1 (i 0))) (iblk1 V c 2 (pt1 (i 0))) (iblk1 V c 3 (pt1 (i 0))) (iblk1 V c 4 (pt1 (i 0))) (iblk1 V c 5 (pt1 (i 0))) (iblk1 V c 6 (pt1 (i 0))) (iblk1 V c 7 (pt1 (i 0))) (iblk1 V c 8 (pt1 (i 0))) (ix4 0 (i 1) (i 2) (i 3))) (by decide +kernel) fun t hf y => ?_) (ix4 b 0 n 0)
  blk_simp
  rw [after1_10, (at1_10 t y).1]
  exact (congrArg _ (at1_10 t y).2).symm

end Moe.K

end
-- ==== Proof.Kernel.First.lean ====
/- The first layer: its gates, the rows it leaves and their node sums. -/
module

public import proofs.«01_k».proof.Proof.Kernel.Entry
public import proofs.«01_k».proof.Proof.Kernel.Tiles
public import proofs.«01_k».proof.Proof.Kernel.Arr0
public import proofs.«01_k».proof.Proof.Kernel.Arr1

@[expose] public section

set_option maxRecDepth 16384

noncomputable section

namespace Moe.K

open Idealize.ShloMosaic Idealize.ShloMosaic.TcCoe Cert.KernelIdeal Cert.KernelIdeal.Gen

variable (m : (ℓ : Loc nD τ sig) → Buf (Elt Ideal) ℓ) (ρ : Dev nD → PrngReg) (c : Dev nD)

/-- The batch elements' packed weights hold the experts that their logits choose. -/
abbrev PackedAt (a : Args) (k : Fin 3) (X : Act) (w1 : S8x128x256.Idx → EReal) (b1 : S8x1x256.Idx → EReal) (w2 : S8x256x128.Idx → EReal)
    (b2 : S8x1x128.Idx → EReal) (b : Fin 8) : Prop :=
  Packed (a.P k) (sel (logits (a.gw k) X b)) (gsel (logits (a.gw k) X b)) (aw1 w1 b) (ab1 b1 b) (aw2 w2 b) (ab2 b2 b)

variable {m c}

theorem row_0 (b : Fin 8) : row (View.ld (V11 m ρ c main_v25) r0_0) b = logits ((args m c).gw 0) (args m c).X0 b := by
  rw [ld0]
  exact logits_eq m ρ c b

theorem real_0 (h : (args m c).Finite) (b : Fin 8) (e : Fin 4) : Real' (logits ((args m c).gw 0) (args m c).X0 b e) :=
  logits_real (h.gw 0) (Args.X0_real h) b e

/-- The gates that the routing kernel leaves, -/
theorem gates_at_0 (h : (args m c).Finite) (b : Fin 8) (e : Fin 4) :
    (W12 m ρ c (Proc.devRef .tc main_v49_4) : FVec Ideal S8x4 .f32) (ix2 b e) = gates ((args m c).gw 0) (args m c).X0 b e := by
  have hr := real_0 h b
  rw [← row_0 ρ b] at hr
  refine (congrFun ((W12_arr m ρ c 9).trans (arr0_9 (V11 m ρ) c)) (ix2 b e)).trans ?_
  rw [gates_0 _ _ _ _ _ b hr e, row_0 ρ b]
  rfl

/-- the weights the layer kernel is launched on, -/
theorem packed_at_0 (h : (args m c).Finite) (b : Fin 8) : PackedAt (args m c) 0 (args m c).X0 (W13 m ρ c (Proc.devRef .tc main_v50))
    (W13 m ρ c (Proc.devRef .tc main_v49_1)) (W13 m ρ c (Proc.devRef .tc main_v51)) (W13 m ρ c (Proc.devRef .tc main_v49_3)) b := by
  have hr := real_0 h b
  rw [← row_0 ρ b] at hr
  have hp := packed_0 (V11 m ρ c main_v25) (V11 m ρ c main_v42) (V11 m ρ c main_v44) (V11 m ρ c main_v46) (V11 m ρ c main_v48) b hr
  rw [row_0 ρ b, show experts (V11 m ρ c main_v42) (V11 m ρ c main_v44) (V11 m ρ c main_v46) (V11 m ρ c main_v48) = _ from experts_at_0 m ρ c] at hp
  have h5 : (W13 m ρ c (Proc.devRef .tc main_v50) : S8x128x256.Idx → EReal) = _ :=
    (read_v50 (W12 m ρ c)).trans ((W12_arr m ρ c 5).trans (arr0_5 (V11 m ρ) c))
  have h6 : (W13 m ρ c (Proc.devRef .tc main_v49_1) : S8x1x256.Idx → EReal) = _ :=
    (W13_of m ρ c main_v49_1 (by decide)).trans ((W12_arr m ρ c 6).trans (arr0_6 (V11 m ρ) c))
  have h7 : (W13 m ρ c (Proc.devRef .tc main_v51) : S8x256x128.Idx → EReal) = _ :=
    (read_v51 (W12 m ρ c)).trans ((W12_arr m ρ c 7).trans (arr0_7 (V11 m ρ) c))
  have h8 : (W13 m ρ c (Proc.devRef .tc main_v49_3) : S8x1x128.Idx → EReal) = _ :=
    (W13_of m ρ c main_v49_3 (by decide)).trans ((W12_arr m ρ c 8).trans (arr0_8 (V11 m ρ) c))
  unfold PackedAt
  rw [h5, h6, h7, h8]
  exact hp

/-- the rows the layer kernel starts from, -/
abbrev rows_0 (b : Fin 8) : Fin 16128 → Fin 128 → EReal :=
  start (iblk1 (V13 m ρ) c 0 (pt1 b)) (iblk1 (V13 m ρ) c 1 (pt1 b)) (iblk1 (V13 m ρ) c 2 (pt1 b)) (iblk1 (V13 m ρ) c 3 (pt1 b)) (iblk1 (V13 m ρ) c 4 (pt1 b))

theorem holds_0 (b : Fin 8) : Holds (rows_0 (m := m) (c := c) ρ b) ((args m c).X0 b) := fun n j p d => by
  refine (start_eq _ _ _ _ _ (up n) j p d).trans ?_
  rw [blk1_0, blk1_1, blk1_2, blk1_3, blk1_4]
  have e0 : V13 m ρ c main_v36 = W11 m ρ c (Proc.devRef .tc main_v36) := by rw [V13, W13_of m ρ c main_v36 (by decide), W12_of m ρ c main_v36 (by decide +kernel)]
  have e1 : V13 m ρ c main_v28 = W11 m ρ c (Proc.devRef .tc main_v28) := by rw [V13, W13_of m ρ c main_v28 (by decide), W12_of m ρ c main_v28 (by decide +kernel)]
  have e2 : V13 m ρ c main_v31 = W11 m ρ c (Proc.devRef .tc main_v31) := by rw [V13, W13_of m ρ c main_v31 (by decide), W12_of m ρ c main_v31 (by decide +kernel)]
  have e3 : V13 m ρ c main_v38 = W11 m ρ c (Proc.devRef .tc main_v38) := by rw [V13, W13_of m ρ c main_v38 (by decide), W12_of m ρ c main_v38 (by decide +kernel)]
  have e4 : V13 m ρ c main_v39 = W11 m ρ c (Proc.devRef .tc main_v39) := by rw [V13, W13_of m ρ c main_v39 (by decide), W12_of m ρ c main_v39 (by decide +kernel)]
  rw [e0, e1, e2, e3, e4, series_at, mean_at, std_at, sw_at, sb_at]
  rfl

/-- the rows it leaves -/
theorem holds_1 (h : (args m c).Finite) (b : Fin 8) :
    Holds (fun i k => (W14 m ρ c (Proc.devRef .tc main_v52_0) : FVec Ideal S8x16128x128 .bf16) (ix3 b i k)) ((args m c).X1 b) := by
  have hs := holds_step (real_0 h b) (packed_at_0 ρ h b) (holds_0 (m := m) (c := c) ρ b)
  intro n j p d
  refine Eq.trans ?_ (hs n j p d)
  refine (congrFun (W14_arr m ρ c 9) (ix3 b (pos (up n) j) (pk p d))).trans ((arr1_9 (V13 m ρ) c b _ _).trans ((out1_A _ _ _ _ _ _ _ _ _ _ _).trans ?_))
  obtain ⟨w5, w6, w7, w8⟩ := wts1 (V13 m ρ) c b
  rw [w5, w6, w7, w8]

/-- and their node sums. -/
theorem sums_1 (h : (args m c).Finite) (b : Fin 8) (n : Fin 321) :
    (W14 m ρ c (Proc.devRef .tc main_v52_1) : FVec Ideal S8x1x336x1 .f32) (ix4 b 0 (up n) 0) = total (args m c).X1 b n := by
  have hs := holds_step (real_0 h b) (packed_at_0 ρ h b) (holds_0 (m := m) (c := c) ρ b)
  refine Eq.trans ?_ (sum_holds (X := (args m c).X1) hs n)
  refine (congrFun (W14_arr m ρ c 10) (ix4 b 0 (up n) 0)).trans ((arr1_10 (V13 m ρ) c b _).trans ((out1_sum _ _ _ _ _ _ _ _ _ _).trans ?_))
  obtain ⟨w5, w6, w7, w8⟩ := wts1 (V13 m ρ) c b
  rw [w5, w6, w7, w8]

end Moe.K

end
-- ==== Proof.Kernel.Route2.lean ====
/- The routing kernel of layer 2: it forms the logits from the node sums, and from them what the first one does. -/
module

public import proofs.«01_k».proof.Proof.Kernel.Route0
import Idealize.ShloMosaic.Lib.Pointwise

@[expose] public section

set_option maxRecDepth 16384

noncomputable section

namespace Moe.K

open Idealize.ShloMosaic Idealize.ShloMosaic.TcCoe Cert.KernelIdeal Cert.KernelIdeal.Gen

/-! ## Its values are the first routing kernel's, of the logits it forms -/

section Same

variable (v : Vec Ideal S8x336 .f32) (w : Vec Ideal S336x4 .f32)

theorem same2_6 : k2_pay6 v w = k0_pay4 (k2_pay5 v w) := by unfold k2_pay6 k0_pay4; rw [pay3]
theorem same2_7 : k2_pay7 v w = k0_pay5 (k2_pay5 v w) := by unfold k2_pay7 k0_pay5; rw [pay3, same2_6]
theorem same2_8 : k2_pay8 v w = k0_pay6 (k2_pay5 v w) := by unfold k2_pay8 k0_pay6; rw [pay3, same2_7]
theorem same2_9 : k2_pay9 v w = k0_pay7 (k2_pay5 v w) := by unfold k2_pay9 k0_pay7; rw [same2_8]
theorem same2_10 : k2_pay10 v w = k0_pay8 (k2_pay5 v w) := by unfold k2_pay10 k0_pay8; rw [same2_8, same2_9]
theorem same2_11 : k2_pay11 v w = k0_pay9 (k2_pay5 v w) := by unfold k2_pay11 k0_pay9; rw [same2_9, same2_6]
theorem same2_12 : k2_pay12 v w = k0_pay10 (k2_pay5 v w) := by unfold k2_pay12 k0_pay10; rw [same2_11]
theorem same2_13 : k2_pay13 v w = k0_pay11 (k2_pay5 v w) := by unfold k2_pay13 k0_pay11; rw [same2_12]
theorem same2_14 : k2_pay14 v w = k0_pay12 (k2_pay5 v w) := by unfold k2_pay14 k0_pay12; rw [same2_11, same2_12]

theorem logits_2 (b : Fin 8) (e : Fin 4) : k2_pay5 v w (ix2 b e) = (∑ n, v (ix2 b n) * w (ix2 n e)) * ((6144⁻¹ : ℝ) : EReal) := by
  unfold k2_pay5
  pointwise
  rw [IdealRules.named_const.ideal_named_scalar κ "inv6144" (φ := .f32) 0x392AAAAB#32 _ rfl]

theorem chosen_2 (b : Fin 8) (hr : ∀ e, Real' (row (k2_pay5 v w) b e)) :
    Chosen (row (k2_pay5 v w) b) (k2_pay7 v w (ix2 b 0)) (k2_pay10 v w (ix2 b 0)) (k2_pay13 v w (ix2 b 0)) (k2_pay14 v w (ix2 b 0)) := by
  rw [same2_7, same2_10, same2_13, same2_14]
  exact chosen _ b hr

end Same

/-! ## The results, read at an index -/

variable (v : Vec Ideal S8x336 .f32) (w : Vec Ideal S336x4 .f32) (x1 : Vec Ideal S4x64x64 .f32) (x2 : Vec Ideal S4x64 .f32)
  (x3 : Vec Ideal S4x64x64 .f32) (x4 : Vec Ideal S4x64 .f32)

theorem w1_2 (b : Fin 8) (k : Fin 128) (c : Fin 256) : out2_6 v w x1 x2 x3 x4 (ix3 b k c)
    = packW1 (k2_pay7 (View.ld v r2_0) (View.ld w r2_1) (ix2 b 0)) (k2_pay10 (View.ld v r2_0) (View.ld w r2_1) (ix2 b 0)) (fun e k f => x1 (ix3 e k f)) k c := by
  unfold_out out2_6
  rw [View.canon_unit_zero (by funext a; fin_cases a <;> rfl)]
  generalize k2_pay7 (View.ld v r2_0) (View.ld w r2_1) = i
  generalize k2_pay10 (View.ld v r2_0) (View.ld w r2_1) = i'
  unfold_payloads
  pointwise
  rfl

theorem b1_2 (b : Fin 8) (c : Fin 256) : out2_7 v w x1 x2 x3 x4 (ix3 b 0 c)
    = packB1 (k2_pay7 (View.ld v r2_0) (View.ld w r2_1) (ix2 b 0)) (k2_pay10 (View.ld v r2_0) (View.ld w r2_1) (ix2 b 0)) (fun e f => x2 (ix2 e f)) c := by
  unfold_out out2_7
  rw [View.canon_unit_zero (by funext a; fin_cases a <;> rfl)]
  generalize k2_pay7 (View.ld v r2_0) (View.ld w r2_1) = i
  generalize k2_pay10 (View.ld v r2_0) (View.ld w r2_1) = i'
  unfold_payloads
  pointwise
  rfl

theorem w2_2 (b : Fin 8) (c : Fin 256) (k : Fin 128) : out2_8 v w x1 x2 x3 x4 (ix3 b c k)
    = packW2 (k2_pay13 (View.ld v r2_0) (View.ld w r2_1) (ix2 b 0)) (k2_pay14 (View.ld v r2_0) (View.ld w r2_1) (ix2 b 0)) (k2_pay7 (View.ld v r2_0) (View.ld w r2_1) (ix2 b 0)) (k2_pay10 (View.ld v r2_0) (View.ld w r2_1) (ix2 b 0)) (fun e k f => x3 (ix3 e k f)) c k := by
  unfold_out out2_8
  rw [View.canon_unit_zero (by funext a; fin_cases a <;> rfl)]
  generalize k2_pay7 (View.ld v r2_0) (View.ld w r2_1) = i
  generalize k2_pay10 (View.ld v r2_0) (View.ld w r2_1) = i'
  generalize k2_pay13 (View.ld v r2_0) (View.ld w r2_1) = g
  generalize k2_pay14 (View.ld v r2_0) (View.ld w r2_1) = g'
  unfold_payloads
  pointwise
  rfl

theorem b2_2 (b : Fin 8) (k : Fin 128) : out2_9 v w x1 x2 x3 x4 (ix3 b 0 k)
    = packB2 (k2_pay13 (View.ld v r2_0) (View.ld w r2_1) (ix2 b 0)) (k2_pay14 (View.ld v r2_0) (View.ld w r2_1) (ix2 b 0)) (k2_pay7 (View.ld v r2_0) (View.ld w r2_1) (ix2 b 0)) (k2_pay10 (View.ld v r2_0) (View.ld w r2_1) (ix2 b 0)) (fun e f => x4 (ix2 e f)) k := by
  unfold_out out2_9
  rw [View.canon_unit_zero (by funext a; fin_cases a <;> rfl)]
  generalize k2_pay7 (View.ld v r2_0) (View.ld w r2_1) = i
  generalize k2_pay10 (View.ld v r2_0) (View.ld w r2_1) = i'
  generalize k2_pay13 (View.ld v r2_0) (View.ld w r2_1) = g
  generalize k2_pay14 (View.ld v r2_0) (View.ld w r2_1) = g'
  unfold_payloads
  pointwise
  rfl

theorem g_2 (b : Fin 8) (e : Fin 4) : out2_10 v w x1 x2 x3 x4 (ix2 b e)
    = packG (k2_pay13 (View.ld v r2_0) (View.ld w r2_1) (ix2 b 0)) (k2_pay14 (View.ld v r2_0) (View.ld w r2_1) (ix2 b 0)) (k2_pay7 (View.ld v r2_0) (View.ld w r2_1) (ix2 b 0)) (k2_pay10 (View.ld v r2_0) (View.ld w r2_1) (ix2 b 0)) e := by
  unfold_out out2_10
  rw [View.canon_unit_zero (by funext a; fin_cases a <;> rfl)]
  unfold k2_pay17 k2_pay15 k2_pay16
  generalize k2_pay7 (View.ld v r2_0) (View.ld w r2_1) = i
  generalize k2_pay10 (View.ld v r2_0) (View.ld w r2_1) = i'
  generalize k2_pay13 (View.ld v r2_0) (View.ld w r2_1) = g
  generalize k2_pay14 (View.ld v r2_0) (View.ld w r2_1) = g'
  pointwise
  rfl

/-- The kernel's packed weights hold the two chosen experts of every row, and its gates are the row's. -/
theorem packed_2 (b : Fin 8) (hr : ∀ e, Real' (row (k2_pay5 (View.ld v r2_0) (View.ld w r2_1)) b e)) :
    Packed (experts x1 x2 x3 x4) (sel (row (k2_pay5 (View.ld v r2_0) (View.ld w r2_1)) b)) (gsel (row (k2_pay5 (View.ld v r2_0) (View.ld w r2_1)) b)) (fun k c => out2_6 v w x1 x2 x3 x4 (ix3 b k c))
      (fun c => out2_7 v w x1 x2 x3 x4 (ix3 b 0 c)) (fun c k => out2_8 v w x1 x2 x3 x4 (ix3 b c k))
      (fun k => out2_9 v w x1 x2 x3 x4 (ix3 b 0 k)) := by
  have h := (chosen_2 _ _ b hr).packed hr (experts x1 x2 x3 x4)
  simp only [w1_2, b1_2, w2_2, b2_2]
  exact h

theorem gates_2 (b : Fin 8) (hr : ∀ e, Real' (row (k2_pay5 (View.ld v r2_0) (View.ld w r2_1)) b e)) (e : Fin 4) :
    out2_10 v w x1 x2 x3 x4 (ix2 b e) = gate (row (k2_pay5 (View.ld v r2_0) (View.ld w r2_1)) b) e := by
  rw [g_2]
  exact (chosen_2 _ _ b hr).gates hr e

end Moe.K

end
-- ==== Proof.Kernel.Layer3.lean ====
/- What one grid step of the second layer kernel leaves in its two blocks. -/
module

public import proofs.«01_k».proof.Proof.Kernel.Layer1
import Idealize.ShloMosaic.Lib.Pointwise

@[expose] public section

set_option maxRecDepth 16384

noncomputable section

namespace Moe.K

open Idealize.ShloMosaic Idealize.ShloMosaic.TcCoe Cert.KernelIdeal Cert.KernelIdeal.Gen

section

variable (x0 : Vec Ideal S1x16128x128 .bf16) (x1 : Vec Ideal S1x1x336x1 .f32) (x2 : Vec Ideal S1x128x256 .bf16) (x3 : Vec Ideal S1x1x256 .f32)
  (x4 : Vec Ideal S1x256x128 .bf16) (x5 : Vec Ideal S1x1x128 .f32)

theorem ids3 : View.ld x0 r3_0 = x0 ∧ View.ld x1 r3_5 = x1 ∧ View.ld x2 r3_1 = x2 ∧ View.ld x3 r3_2 = x3 ∧ View.ld x4 r3_3 = x4
    ∧ View.ld x5 r3_4 = x5 := by
  refine ⟨View.ld_unit_zero ?_ _ _, View.ld_unit_zero ?_ _ _, View.ld_unit_zero ?_ _ _, View.ld_unit_zero ?_ _ _, View.ld_unit_zero ?_ _ _,
    View.ld_unit_zero ?_ _ _⟩ <;> (funext a; fin_cases a <;> rfl)

theorem out3_row (m : Fin 16128) (k : Fin 128) :
    k3_pay3 (F := Ideal) x0 x2 x3 x4 x5 (ix2 m k) = rowY (fw1 x2) (fb1 x3) (fw2 x4) (fb2 x5) (fun k' => x0 (ix3 0 m k')) k := by
  unfold k3_pay3 k3_pay2 rowY
  pointwise

theorem out3_A (m : Fin 16128) (k : Fin 128) :
    out3_6 x0 x1 x2 x3 x4 x5 (ix3 0 m k)
      = x0 (ix3 0 m k) + rowY (fw1 x2) (fb1 x3) (fw2 x4) (fb2 x5) (fun k' => x0 (ix3 0 m k')) k := by
  obtain ⟨h0, _, h2, h3, h4, h5⟩ := ids3 x0 x1 x2 x3 x4 x5
  rw [← out3_row]
  unfold out3_6 k3_pay4 k3_pay2
  rw [View.canon_unit_zero (by funext a; fin_cases a <;> rfl), h0, h2, h3, h4, h5]
  pointwise

theorem out3_sum (n : Fin 336) :
    out3_7 x0 x1 x2 x3 x4 x5 (ix4 0 0 n 0)
      = x1 (ix4 0 0 n 0) + ∑ k, ∑ j, rowY (fw1 x2) (fb1 x3) (fw2 x4) (fb2 x5) (fun k' => x0 (ix3 0 (pos n j) k')) k := by
  obtain ⟨h0, h1, h2, h3, h4, h5⟩ := ids3 x0 x1 x2 x3 x4 x5
  simp only [← out3_row]
  unfold out3_7 k3_pay1 k3_pay5 k3_pay6
  rw [View.canon_unit_zero (by funext a; fin_cases a <;> rfl), h0, h1, h2, h3, h4, h5]
  pointwise

end

end Moe.K

end
-- ==== Proof.Kernel.Arr2.lean ====
/- The arrays the second routing kernel leaves: one grid point, so what its body leaves. -/
module

public import proofs.«01_k».proof.Proof.Kernel.Route2
public import Idealize.ShloMosaic.Lib.Pipeline.ValueKit
import Idealize.ShloMosaic.Lib.Pointwise

@[expose] public section

set_option maxRecDepth 16384

noncomputable section

namespace Moe.K

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

theorem idx2 : ∀ t : Fin cfg2.N, win2_0.index t = ![0, 0]
    ∧ win2_1.index t = ![0, 0]
    ∧ win2_2.index t = ![0, 0, 0]
    ∧ win2_3.index t = ![0, 0]
    ∧ win2_4.index t = ![0, 0, 0]
    ∧ win2_5.index t = ![0, 0]
    ∧ win2_6.index t = ![0, 0, 0]
    ∧ win2_7.index t = ![0, 0, 0]
    ∧ win2_8.index t = ![0, 0, 0]
    ∧ win2_9.index t = ![0, 0, 0]
    ∧ win2_10.index t = ![0, 0] :=
  (by decide +kernel : ∀ t : Fin grid2.N, _)

/-- The blocks are the arrays. -/
theorem whole2 : iblk2 V c 0 t2_0 = V c main_v53
    ∧ iblk2 V c 1 t2_0 = V c main_v55
    ∧ iblk2 V c 2 t2_0 = V c main_v57
    ∧ iblk2 V c 3 t2_0 = V c main_v59
    ∧ iblk2 V c 4 t2_0 = V c main_v61
    ∧ iblk2 V c 5 t2_0 = V c main_v63 := by
  refine ⟨?_, ?_, ?_, ?_, ?_, ?_⟩ <;> blk_ext! [iblk2, idx2 t2_0]

theorem arr2_6 : (dat2 V c).arrAt 6 cfg2.N = out2_6 (V c main_v53) (V c main_v55) (V c main_v57) (V c main_v59) (V c main_v61) (V c main_v63) := by
  refine (dat2 V c).arrAt_eq_of_after_last 6 t2_0 (by decide +kernel) _ fun j => ?_
  blk_simp
  rw [after2_6, (whole2 V c).1, (whole2 V c).2.1, (whole2 V c).2.2.1, (whole2 V c).2.2.2.1, (whole2 V c).2.2.2.2.1, (whole2 V c).2.2.2.2.2]

theorem arr2_7 : (dat2 V c).arrAt 7 cfg2.N = out2_7 (V c main_v53) (V c main_v55) (V c main_v57) (V c main_v59) (V c main_v61) (V c main_v63) := by
  refine (dat2 V c).arrAt_eq_of_after_last 7 t2_0 (by decide +kernel) _ fun j => ?_
  blk_simp
  rw [after2_7, (whole2 V c).1, (whole2 V c).2.1, (whole2 V c).2.2.1, (whole2 V c).2.2.2.1, (whole2 V c).2.2.2.2.1, (whole2 V c).2.2.2.2.2]

theorem arr2_8 : (dat2 V c).arrAt 8 cfg2.N = out2_8 (V c main_v53) (V c main_v55) (V c main_v57) (V c main_v59) (V c main_v61) (V c main_v63) := by
  refine (dat2 V c).arrAt_eq_of_after_last 8 t2_0 (by decide +kernel) _ fun j => ?_
  blk_simp
  rw [after2_8, (whole2 V c).1, (whole2 V c).2.1, (whole2 V c).2.2.1, (whole2 V c).2.2.2.1, (whole2 V c).2.2.2.2.1, (whole2 V c).2.2.2.2.2]

theorem arr2_9 : (dat2 V c).arrAt 9 cfg2.N = out2_9 (V c main_v53) (V c main_v55) (V c main_v57) (V c main_v59) (V c main_v61) (V c main_v63) := by
  refine (dat2 V c).arrAt_eq_of_after_last 9 t2_0 (by decide +kernel) _ fun j => ?_
  blk_simp
  rw [after2_9, (whole2 V c).1, (whole2 V c).2.1, (whole2 V c).2.2.1, (whole2 V c).2.2.2.1, (whole2 V c).2.2.2.2.1, (whole2 V c).2.2.2.2.2]

theorem arr2_10 : (dat2 V c).arrAt 10 cfg2.N = out2_10 (V c main_v53) (V c main_v55) (V c main_v57) (V c main_v59) (V c main_v61) (V c main_v63) := by
  refine (dat2 V c).arrAt_eq_of_after_last 10 t2_0 (by decide +kernel) _ fun j => ?_
  blk_simp
  rw [after2_10, (whole2 V c).1, (whole2 V c).2.1, (whole2 V c).2.2.1, (whole2 V c).2.2.2.1, (whole2 V c).2.2.2.2.1, (whole2 V c).2.2.2.2.2]

end Moe.K

end
-- ==== Proof.Kernel.Arr3.lean ====
/- The arrays the middle layer kernel leaves, entry by entry, from the arrays it is given. -/
module

public import proofs.«01_k».proof.Proof.Kernel.Arr1
public import proofs.«01_k».proof.Proof.Kernel.Layer3
public import Idealize.ShloMosaic.Lib.Pipeline.ValueKit
import Idealize.ShloMosaic.Lib.Pointwise

@[expose] public section

set_option maxRecDepth 16384

noncomputable section

namespace Moe.K

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

/-- Where each window looks at a grid point. -/
theorem idx3 : ∀ t : Fin cfg3.N, win3_0.index t = ![t.val, 0, 0]
    ∧ win3_1.index t = ![t.val, 0, 0, 0]
    ∧ win3_2.index t = ![t.val, 0, 0]
    ∧ win3_3.index t = ![t.val, 0, 0]
    ∧ win3_4.index t = ![t.val, 0, 0]
    ∧ win3_5.index t = ![t.val, 0, 0]
    ∧ win3_6.index t = ![t.val, 0, 0]
    ∧ win3_7.index t = ![t.val, 0, 0, 0] :=
  (by decide +kernel : ∀ t : Fin grid3.N, _)

/-- The grid point of batch element `b`. -/
abbrev pt3 (b : Fin 8) : Fin cfg3.N := ⟨b.val, lt_of_lt_of_eq b.isLt N_3.symm⟩

theorem blk3_0 (b : Fin 8) (m : Fin 16128) (k : Fin 128) : iblk3 V c 0 (pt3 b) (ix3 0 m k) = V c main_v52_0 (ix3 b m k) := by
  blk_ext! [iblk3, idx3 (pt3 b)]

theorem blk3_1 (b : Fin 8) (n : Fin 336) : iblk3 V c 1 (pt3 b) (ix4 0 0 n 0) = V c main_v52_1 (ix4 b 0 n 0) := by
  blk_ext! [iblk3, idx3 (pt3 b)]

theorem wts3 (b : Fin 8) : fw1 (iblk3 V c 2 (pt3 b)) = aw1 (V c main_v65) b
    ∧ fb1 (iblk3 V c 3 (pt3 b)) = ab1 (V c main_v64_1) b
    ∧ fw2 (iblk3 V c 4 (pt3 b)) = aw2 (V c main_v66) b
    ∧ fb2 (iblk3 V c 5 (pt3 b)) = ab2 (V c main_v64_3) b := by
  refine ⟨funext fun k => funext fun q => (?_ : iblk3 V c 2 (pt3 b) (ix3 0 k q) = V c main_v65 (ix3 b k q)), funext fun q => (?_ : iblk3 V c 3 (pt3 b) (ix3 0 0 q) = V c main_v64_1 (ix3 b 0 q)), funext fun q => funext fun k => (?_ : iblk3 V c 4 (pt3 b) (ix3 0 q k) = V c main_v66 (ix3 b q k)), funext fun k => (?_ : iblk3 V c 5 (pt3 b) (ix3 0 0 k) = V c main_v64_3 (ix3 b 0 k))⟩ <;>
    blk_ext! [iblk3, idx3 (pt3 b)]

theorem idx3_6 : ∀ t : Fin cfg3.N, win3_6.index t = ![t.val, 0, 0] :=
  (by decide +kernel : ∀ t : Fin grid3.N, _)

/-- Where an entry of the written block lies in the array: in batch element `t`, at its own coordinates. -/
theorem at3_6 (t : Fin cfg3.N) (y : ((cfg3.win 6).xblock (cfg3.grid.coords t)).Idx) :
    pt3 (((cfg3.win 6).blk t).view.emb y 0) = t ∧ ((ix3 0 (((cfg3.win 6).blk t).view.emb y 1) (((cfg3.win 6).blk t).view.emb y 2)) : S1x16128x128.Idx) = y := by
  constructor
  · have hy0 : (y 0).val < 1 := (y 0).isLt
    refine Fin.ext (?_ : ((((cfg3.win 6).blk t).view.emb y 0 : Fin _) : ℕ) = t.val)
    blk_simp [idx3_6 t]
  · blk_ext [idx3_6 t]

theorem arr3_6 (b : Fin 8) (m : Fin 16128) (k : Fin 128) : (dat3 V c).arrAt 6 cfg3.N (ix3 b m k)
    = out3_6 (iblk3 V c 0 (pt3 b)) (iblk3 V c 1 (pt3 b)) (iblk3 V c 2 (pt3 b)) (iblk3 V c 3 (pt3 b)) (iblk3 V c 4 (pt3 b)) (iblk3 V c 5 (pt3 b)) (ix3 0 m k) := by
  refine congrFun ((dat3 V c).arrAt_eq_of_covers 6 (fun i : S8x16128x128.Idx =>
    out3_6 (iblk3 V c 0 (pt3 (i 0))) (iblk3 V c 1 (pt3 (i 0))) (iblk3 V c 2 (pt3 (i 0))) (iblk3 V c 3 (pt3 (i 0))) (iblk3 V c 4 (pt3 (i 0))) (iblk3 V c 5 (pt3 (i 0))) (ix3 0 (i 1) (i 2))) (by decide +kernel) fun t hf y => ?_) (ix3 b m k)
  blk_simp
  rw [after3_6, (at3_6 t y).1]
  exact (congrArg _ (at3_6 t y).2).symm

theorem idx3_7 : ∀ t : Fin cfg3.N, win3_7.index t = ![t.val, 0, 0, 0] :=
  (by decide +kernel : ∀ t : Fin grid3.N, _)

/-- Where an entry of the written block lies in the array: in batch element `t`, at its own coordinates. -/
theorem at3_7 (t : Fin cfg3.N) (y : ((cfg3.win 7).xblock (cfg3.grid.coords t)).Idx) :
    pt3 (((cfg3.win 7).blk t).view.emb y 0) = t ∧ ((ix4 0 (((cfg3.win 7).blk t).view.emb y 1) (((cfg3.win 7).blk t).view.emb y 2) (((cfg3.win 7).blk t).view.emb y 3)) : S1x1x336x1.Idx) = y := by
  constructor
  · have hy0 : (y 0).val < 1 := (y 0).isLt
    refine Fin.ext (?_ : ((((cfg3.win 7).blk t).view.emb y 0 : Fin _) : ℕ) = t.val)
    blk_simp [idx3_7 t]
  · blk_ext [idx3_7 t]

theorem arr3_7 (b : Fin 8) (n : Fin 336) : (dat3 V c).arrAt 7 cfg3.N (ix4 b 0 n 0)
    = out3_7 (iblk3 V c 0 (pt3 b)) (iblk3 V c 1 (pt3 b)) (iblk3 V c 2 (pt3 b)) (iblk3 V c 3 (pt3 b)) (iblk3 V c 4 (pt3 b)) (iblk3 V c 5 (pt3 b)) (ix4 0 0 n 0) := by
  refine congrFun ((dat3 V c).arrAt_eq_of_covers 7 (fun i : S8x1x336x1.Idx =>
    out3_7 (iblk3 V c 0 (pt3 (i 0))) (iblk3 V c 1 (pt3 (i 0))) (iblk3 V c 2 (pt3 (i 0))) (iblk3 V c 3 (pt3 (i 0))) (iblk3 V c 4 (pt3 (i 0))) (iblk3 V c 5 (pt3 (i 0))) (ix4 0 (i 1) (i 2) (i 3))) (by decide +kernel) fun t hf y => ?_) (ix4 b 0 n 0)
  blk_simp
  rw [after3_7, (at3_7 t y).1]
  exact (congrArg _ (at3_7 t y).2).symm

end Moe.K

end
-- ==== Proof.Kernel.Second.lean ====
/- The second layer: its gates, the rows it leaves and their node sums. -/
module

public import proofs.«01_k».proof.Proof.Kernel.First
public import proofs.«01_k».proof.Proof.Kernel.Route2
public import proofs.«01_k».proof.Proof.Kernel.Layer3
public import proofs.«01_k».proof.Proof.Kernel.Arr2
public import proofs.«01_k».proof.Proof.Kernel.Arr3

@[expose] public section

set_option maxRecDepth 16384

noncomputable section

namespace Moe.K

open Idealize.ShloMosaic Idealize.ShloMosaic.TcCoe Cert.KernelIdeal Cert.KernelIdeal.Gen

variable (m : (ℓ : Loc nD τ sig) → Buf (Elt Ideal) ℓ) (ρ : Dev nD → PrngReg) (c : Dev nD)

variable {m c}

section Named

/-! The routing kernel's results, its row of logits given by name. -/

variable (v : Vec Ideal S8x336 .f32) (w : Vec Ideal S336x4 .f32) (x1 : Vec Ideal S4x64x64 .f32) (x2 : Vec Ideal S4x64 .f32)
  (x3 : Vec Ideal S4x64x64 .f32) (x4 : Vec Ideal S4x64 .f32) {b : Fin 8} {L : Fin 4 → EReal}
  (hL : row (k2_pay5 (View.ld v r2_0) (View.ld w r2_1)) b = L) (hr : ∀ e, Real' (L e))

include hL hr

theorem packed_named_1 : Packed (experts x1 x2 x3 x4) (sel L) (gsel L) (fun k c => out2_6 v w x1 x2 x3 x4 (ix3 b k c))
    (fun c => out2_7 v w x1 x2 x3 x4 (ix3 b 0 c)) (fun c k => out2_8 v w x1 x2 x3 x4 (ix3 b c k))
    (fun k => out2_9 v w x1 x2 x3 x4 (ix3 b 0 k)) := by
  subst hL
  exact packed_2 v w x1 x2 x3 x4 b hr

theorem gates_named_1 (e : Fin 4) : out2_10 v w x1 x2 x3 x4 (ix2 b e) = gate L e := by
  subst hL
  exact gates_2 v w x1 x2 x3 x4 b hr e

end Named

theorem row_1 (h : (args m c).Finite) (b : Fin 8) :
    row (k2_pay5 (View.ld (V15 m ρ c main_v53) r2_0) (View.ld (V15 m ρ c main_v55) r2_1)) b = logits ((args m c).gw 1) (args m c).X1 b := by
  rw [show View.ld (V15 m ρ c main_v53) r2_0 = V15 m ρ c main_v53 from View.ld_unit_zero (by funext a; fin_cases a <;> rfl) _ _,
    show View.ld (V15 m ρ c main_v55) r2_1 = V15 m ρ c main_v55 from View.ld_unit_zero (by funext a; fin_cases a <;> rfl) _ _]
  funext e
  refine (logits_2 _ _ b e).trans (gate_rows (fun n => (V15 m ρ c main_v53 : FVec Ideal S8x336 .f32) (ix2 b n))
    (fun n e => (V15 m ρ c main_v55 : FVec Ideal S336x4 .f32) (ix2 n e)) (fun n => ?_) (fun n e => ?_) (fun n hn e => ?_) e)
  · exact (read_v53 (W14 m ρ c) b (up n)).trans (sums_1 ρ h b n)
  · refine (read_v55 (W14 m ρ c) (up n) e).trans ?_
    rw [W14_of m ρ c main_v37 (by decide +kernel), W13_of m ρ c main_v37 (by decide), W12_of m ρ c main_v37 (by decide +kernel)]
    exact gating_at m ρ c 1 n e
  · refine (read_v55 (W14 m ρ c) n e).trans ?_
    rw [W14_of m ρ c main_v37 (by decide +kernel), W13_of m ρ c main_v37 (by decide), W12_of m ρ c main_v37 (by decide +kernel)]
    exact gating_off m ρ c 1 n hn e

theorem real_1 (h : (args m c).Finite) (b : Fin 8) (e : Fin 4) : Real' (logits ((args m c).gw 1) (args m c).X1 b e) :=
  logits_real (h.gw 1) (Args.X1_real h) b e

/-- The gates that the routing kernel leaves, -/
theorem gates_at_1 (h : (args m c).Finite) (b : Fin 8) (e : Fin 4) :
    (W16 m ρ c (Proc.devRef .tc main_v64_4) : FVec Ideal S8x4 .f32) (ix2 b e) = gates ((args m c).gw 1) (args m c).X1 b e := by
  refine (congrFun ((W16_arr m ρ c 10).trans (arr2_10 (V15 m ρ) c)) (ix2 b e)).trans ?_
  exact gates_named_1 _ _ _ _ _ _ (row_1 ρ h b) (real_1 h b) e

/-- the weights the layer kernel is launched on, -/
theorem packed_at_1 (h : (args m c).Finite) (b : Fin 8) : PackedAt (args m c) 1 (args m c).X1 (W17 m ρ c (Proc.devRef .tc main_v65))
    (W17 m ρ c (Proc.devRef .tc main_v64_1)) (W17 m ρ c (Proc.devRef .tc main_v66)) (W17 m ρ c (Proc.devRef .tc main_v64_3)) b := by
  have hp := packed_named_1 (V15 m ρ c main_v53) (V15 m ρ c main_v55) (V15 m ρ c main_v57) (V15 m ρ c main_v59) (V15 m ρ c main_v61) (V15 m ρ c main_v63) (row_1 ρ h b) (real_1 h b)
  rw [show experts (V15 m ρ c main_v57) (V15 m ρ c main_v59) (V15 m ρ c main_v61) (V15 m ρ c main_v63) = _ from experts_at_1 m ρ c] at hp
  have h6 : (W17 m ρ c (Proc.devRef .tc main_v65) : S8x128x256.Idx → EReal) = _ :=
    (read_v65 (W16 m ρ c)).trans ((W16_arr m ρ c 6).trans (arr2_6 (V15 m ρ) c))
  have h7 : (W17 m ρ c (Proc.devRef .tc main_v64_1) : S8x1x256.Idx → EReal) = _ :=
    (W17_of m ρ c main_v64_1 (by decide)).trans ((W16_arr m ρ c 7).trans (arr2_7 (V15 m ρ) c))
  have h8 : (W17 m ρ c (Proc.devRef .tc main_v66) : S8x256x128.Idx → EReal) = _ :=
    (read_v66 (W16 m ρ c)).trans ((W16_arr m ρ c 8).trans (arr2_8 (V15 m ρ) c))
  have h9 : (W17 m ρ c (Proc.devRef .tc main_v64_3) : S8x1x128.Idx → EReal) = _ :=
    (W17_of m ρ c main_v64_3 (by decide)).trans ((W16_arr m ρ c 9).trans (arr2_9 (V15 m ρ) c))
  unfold PackedAt
  rw [h6, h7, h8, h9]
  exact hp

/-- the rows it is launched on, -/
abbrev rows_1 (b : Fin 8) : Fin 16128 → Fin 128 → EReal :=
  fun i k => (iblk3 (V17 m ρ) c 0 (pt3 b) : Vec Ideal S1x16128x128 .bf16) (ix3 0 i k)

theorem start_1 (h : (args m c).Finite) (b : Fin 8) : Holds (rows_1 (m := m) (c := c) ρ b) ((args m c).X1 b) := fun n j p d => by
  refine (blk3_0 (V17 m ρ) c b _ _).trans ?_
  rw [V17, W17_of m ρ c main_v52_0 (by decide), W16_of m ρ c main_v52_0 (by decide +kernel), W15_of m ρ c main_v52_0 (by decide)]
  exact holds_1 ρ h b n j p d

/-- the rows it leaves -/
theorem holds_2 (h : (args m c).Finite) (b : Fin 8) :
    Holds (fun i k => (W18 m ρ c (Proc.devRef .tc main_v67_0) : FVec Ideal S8x16128x128 .bf16) (ix3 b i k)) ((args m c).X2 b) := by
  have hs := holds_step (real_1 h b) (packed_at_1 ρ h b) (start_1 ρ h b)
  intro n j p d
  refine Eq.trans ?_ (hs n j p d)
  refine (congrFun (W18_arr m ρ c 6) (ix3 b (pos (up n) j) (pk p d))).trans ((arr3_6 (V17 m ρ) c b _ _).trans ((out3_A _ _ _ _ _ _ _ _).trans ?_))
  obtain ⟨w2, w3, w4, w5⟩ := wts3 (V17 m ρ) c b
  rw [w2, w3, w4, w5]

/-- and their node sums. -/
theorem sums_2 (h : (args m c).Finite) (b : Fin 8) (n : Fin 321) :
    (W18 m ρ c (Proc.devRef .tc main_v67_1) : FVec Ideal S8x1x336x1 .f32) (ix4 b 0 (up n) 0) = total (args m c).X2 b n := by
  refine Eq.trans ?_ (sum_step (real_1 h b) (packed_at_1 ρ h b) (start_1 ρ h b) n)
  refine (congrFun (W18_arr m ρ c 7) (ix4 b 0 (up n) 0)).trans ((arr3_7 (V17 m ρ) c b _).trans ((out3_sum _ _ _ _ _ _ _).trans ?_))
  obtain ⟨w2, w3, w4, w5⟩ := wts3 (V17 m ρ) c b
  rw [w2, w3, w4, w5, blk3_1, V17, W17_of m ρ c main_v52_1 (by decide), W16_of m ρ c main_v52_1 (by decide +kernel), W15_of m ρ c main_v52_1 (by decide), sums_1 ρ h b n]

end Moe.K

end
-- ==== Proof.Kernel.Route4.lean ====
/- The routing kernel of layer 3: it computes what that of layer 2 does, so what is known of the one holds of the other. -/
module

public import proofs.«01_k».proof.Proof.Kernel.Route2

@[expose] public section

set_option maxRecDepth 16384

noncomputable section

namespace Moe.K

open Idealize.ShloMosaic Idealize.ShloMosaic.TcCoe Cert.KernelIdeal Cert.KernelIdeal.Gen

variable (v : Vec Ideal S8x336 .f32) (w : Vec Ideal S336x4 .f32) (x1 : Vec Ideal S4x64x64 .f32) (x2 : Vec Ideal S4x64 .f32)
  (x3 : Vec Ideal S4x64x64 .f32) (x4 : Vec Ideal S4x64 .f32)

/-- Its logits, -/
theorem logits_as : k4_pay5 (F := Ideal) v w = k2_pay5 v w := rfl
/-- its packed weights and biases, -/
theorem packed_as : out4_6 v w x1 x2 x3 x4 = out2_6 v w x1 x2 x3 x4 ∧ out4_7 v w x1 x2 x3 x4 = out2_7 v w x1 x2 x3 x4
    ∧ out4_8 v w x1 x2 x3 x4 = out2_8 v w x1 x2 x3 x4 ∧ out4_9 v w x1 x2 x3 x4 = out2_9 v w x1 x2 x3 x4 := ⟨rfl, rfl, rfl, rfl⟩
/-- and its gates. -/
theorem gates_as : out4_10 v w x1 x2 x3 x4 = out2_10 v w x1 x2 x3 x4 := rfl

end Moe.K

end
-- ==== Proof.Kernel.Layer5.lean ====
/- What one grid step of the last kernel leaves in its block: the third layer, and the projection of a node's activations. -/
module

public import proofs.«01_k».proof.Proof.Kernel.Layer1
import Idealize.ShloMosaic.Lib.Pointwise

@[expose] public section

set_option maxRecDepth 16384

noncomputable section

namespace Moe.K

open Idealize.ShloMosaic Idealize.ShloMosaic.TcCoe Cert.KernelIdeal Cert.KernelIdeal.Gen

section

theorem slices48 (j : Fin 48) : S336x48x128.Slices ![0, j.val, 0] S336x1x128 := by
  fin_cases j <;> decide

/-- Row `j` of every node. -/
def slab (v : FVec Ideal S336x48x128 .bf16) (j : Fin 48) : FVec Ideal S336x128 .bf16 :=
  shapeCast S336x128 (extractStridedSlice S336x1x128 ![0, j.val, 0] v (slices48 j)) shapeCasts_S336x1x128_S336x128

theorem slab_apply (v : FVec Ideal S336x48x128 .bf16) (j : Fin 48) (n : Fin 336) (k : Fin 128) : slab v j (ix2 n k) = v (ix3 n j k) := by
  unfold slab
  pointwise

/-- A node's rows one after the other. -/
theorem slabs_apply (v : FVec Ideal S336x48x128 .bf16) (h) (n : Fin 336) (j : Fin 48) (k : Fin 128) :
    concatenate S336x6144 1 (List.ofFn fun j : Fin 48 => (⟨S336x128, slab v j⟩ : (s : Shape) × (s.Idx → EReal))) h
      (ix2 n ⟨j.val * 128 + k.val, by omega⟩) = v (ix3 n j k) := by
  rw [concatenate_ofFn_apply (t := S336x6144) (s₁ := S336x128) 1 (slab v) h rfl 128 rfl _ j (by show (j.val * 128 + k.val) / 128 = j.val; omega)
    (ix2 n k) (by show k.val = (j.val * 128 + k.val) % 128; omega)
    (by intro b hb; fin_cases b; · rfl
        · exact absurd rfl hb), slab_apply]

variable (x0 : Vec Ideal S1x16128x128 .bf16) (x1 : Vec Ideal S1x128x256 .bf16) (x2 : Vec Ideal S1x1x256 .f32)
  (x3 : Vec Ideal S1x256x128 .bf16) (x4 : Vec Ideal S1x1x128 .f32) (x5 : Vec Ideal S6144x96 .bf16) (x6 : Vec Ideal S1x96 .f32)
  (x7 x8 : Vec Ideal S1x336x1 .f32)

theorem ids5 : View.ld x0 r5_0 = x0 ∧ View.ld x1 r5_1 = x1 ∧ View.ld x2 r5_2 = x2 ∧ View.ld x3 r5_3 = x3 ∧ View.ld x4 r5_4 = x4
    ∧ View.ld x5 r5_5 = x5 ∧ View.ld x6 r5_6 = x6 ∧ View.ld x7 r5_7 = x7 ∧ View.ld x8 r5_7 = x8 := by
  refine ⟨View.ld_unit_zero ?_ _ _, View.ld_unit_zero ?_ _ _, View.ld_unit_zero ?_ _ _, View.ld_unit_zero ?_ _ _, View.ld_unit_zero ?_ _ _,
    View.ld_unit_zero ?_ _ _, View.ld_unit_zero ?_ _ _, View.ld_unit_zero ?_ _ _, View.ld_unit_zero ?_ _ _⟩ <;> (funext a; fin_cases a <;> rfl)

theorem out5_row (n : Fin 336) (j : Fin 48) (k : Fin 128) :
    k5_pay3 (F := Ideal) x0 x1 x2 x3 x4 (ix3 n j k)
      = x0 (ix3 0 (pos n j) k) + rowY (fw1 x1) (fb1 x2) (fw2 x3) (fb2 x4) (fun k' => x0 (ix3 0 (pos n j) k')) k := by
  unfold k5_pay3 rowY
  pointwise

/-- The projection of a node's activations, scaled and shifted back. -/
theorem out5_eq (n : Fin 336) (t : Fin 96) :
    out5_9 x0 x1 x2 x3 x4 x5 x6 x7 x8 (ix3 0 n t)
      = ((∑ j : Fin 48, ∑ k : Fin 128, (x0 (ix3 0 (pos n j) k) + rowY (fw1 x1) (fb1 x2) (fw2 x3) (fb2 x4) (fun k' => x0 (ix3 0 (pos n j) k')) k)
            * x5 (ix2 ⟨j.val * 128 + k.val, by omega⟩ t)) + x6 (ix2 0 t)) * x8 (ix3 0 n 0) + x7 (ix3 0 n 0) := by
  obtain ⟨h0, h1, h2, h3, h4, h5, h6, h7, h8⟩ := ids5 x0 x1 x2 x3 x4 x5 x6 x7 x8
  unfold out5_9 k5_pay44
  rw [View.canon_unit_zero (by funext a; fin_cases a <;> rfl), h0, h1, h2, h3, h4, h5, h6, h7, h8]
  unfold k5_pay2 k5_pay4 k5_pay5 k5_pay6 k5_pay7 k5_pay8 k5_pay9 k5_pay10 k5_pay11 k5_pay12 k5_pay13 k5_pay14 k5_pay15 k5_pay16 k5_pay17 k5_pay18 k5_pay19 k5_pay20 k5_pay21 k5_pay22 k5_pay23 k5_pay24 k5_pay25 k5_pay26 k5_pay27 k5_pay28 k5_pay29 k5_pay30 k5_pay31 k5_pay32 k5_pay33 k5_pay34 k5_pay35 k5_pay36 k5_pay37 k5_pay38 k5_pay39 k5_pay40 k5_pay41 k5_pay42 k5_pay43
  pointwise
  rw [sum_runs (m := 48) (n := 128) rfl]
  refine congrArg₂ (· + ·) (congrArg₂ (· * ·) (congrArg₂ (· + ·) (Finset.sum_congr rfl fun j _ =>
    Finset.sum_congr rfl fun k _ => congrArg₂ (· * ·) ?_ rfl) rfl) rfl) rfl
  unfold k5_pay1
  exact (slabs_apply (k5_pay3 (F := Ideal) x0 x1 x2 x3 x4) _ n j k).trans (out5_row x0 x1 x2 x3 x4 n j k)

end

end Moe.K

end
-- ==== Proof.Kernel.Arr4.lean ====
/- The arrays the third routing kernel leaves: one grid point, so what its body leaves. -/
module

public import proofs.«01_k».proof.Proof.Kernel.Route4
public import Idealize.ShloMosaic.Lib.Pipeline.ValueKit
import Idealize.ShloMosaic.Lib.Pointwise

@[expose] public section

set_option maxRecDepth 16384

noncomputable section

namespace Moe.K

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

theorem idx4 : ∀ t : Fin cfg4.N, win4_0.index t = ![0, 0]
    ∧ win4_1.index t = ![0, 0]
    ∧ win4_2.index t = ![0, 0, 0]
    ∧ win4_3.index t = ![0, 0]
    ∧ win4_4.index t = ![0, 0, 0]
    ∧ win4_5.index t = ![0, 0]
    ∧ win4_6.index t = ![0, 0, 0]
    ∧ win4_7.index t = ![0, 0, 0]
    ∧ win4_8.index t = ![0, 0, 0]
    ∧ win4_9.index t = ![0, 0, 0]
    ∧ win4_10.index t = ![0, 0] :=
  (by decide +kernel : ∀ t : Fin grid4.N, _)

/-- The blocks are the arrays. -/
theorem whole4 : iblk4 V c 0 t4_0 = V c main_v68
    ∧ iblk4 V c 1 t4_0 = V c main_v70
    ∧ iblk4 V c 2 t4_0 = V c main_v72
    ∧ iblk4 V c 3 t4_0 = V c main_v74
    ∧ iblk4 V c 4 t4_0 = V c main_v76
    ∧ iblk4 V c 5 t4_0 = V c main_v78 := by
  refine ⟨?_, ?_, ?_, ?_, ?_, ?_⟩ <;> blk_ext! [iblk4, idx4 t4_0]

theorem arr4_6 : (dat4 V c).arrAt 6 cfg4.N = out4_6 (V c main_v68) (V c main_v70) (V c main_v72) (V c main_v74) (V c main_v76) (V c main_v78) := by
  refine (dat4 V c).arrAt_eq_of_after_last 6 t4_0 (by decide +kernel) _ fun j => ?_
  blk_simp
  rw [after4_6, (whole4 V c).1, (whole4 V c).2.1, (whole4 V c).2.2.1, (whole4 V c).2.2.2.1, (whole4 V c).2.2.2.2.1, (whole4 V c).2.2.2.2.2]

theorem arr4_7 : (dat4 V c).arrAt 7 cfg4.N = out4_7 (V c main_v68) (V c main_v70) (V c main_v72) (V c main_v74) (V c main_v76) (V c main_v78) := by
  refine (dat4 V c).arrAt_eq_of_after_last 7 t4_0 (by decide +kernel) _ fun j => ?_
  blk_simp
  rw [after4_7, (whole4 V c).1, (whole4 V c).2.1, (whole4 V c).2.2.1, (whole4 V c).2.2.2.1, (whole4 V c).2.2.2.2.1, (whole4 V c).2.2.2.2.2]

theorem arr4_8 : (dat4 V c).arrAt 8 cfg4.N = out4_8 (V c main_v68) (V c main_v70) (V c main_v72) (V c main_v74) (V c main_v76) (V c main_v78) := by
  refine (dat4 V c).arrAt_eq_of_after_last 8 t4_0 (by decide +kernel) _ fun j => ?_
  blk_simp
  rw [after4_8, (whole4 V c).1, (whole4 V c).2.1, (whole4 V c).2.2.1, (whole4 V c).2.2.2.1, (whole4 V c).2.2.2.2.1, (whole4 V c).2.2.2.2.2]

theorem arr4_9 : (dat4 V c).arrAt 9 cfg4.N = out4_9 (V c main_v68) (V c main_v70) (V c main_v72) (V c main_v74) (V c main_v76) (V c main_v78) := by
  refine (dat4 V c).arrAt_eq_of_after_last 9 t4_0 (by decide +kernel) _ fun j => ?_
  blk_simp
  rw [after4_9, (whole4 V c).1, (whole4 V c).2.1, (whole4 V c).2.2.1, (whole4 V c).2.2.2.1, (whole4 V c).2.2.2.2.1, (whole4 V c).2.2.2.2.2]

theorem arr4_10 : (dat4 V c).arrAt 10 cfg4.N = out4_10 (V c main_v68) (V c main_v70) (V c main_v72) (V c main_v74) (V c main_v76) (V c main_v78) := by
  refine (dat4 V c).arrAt_eq_of_after_last 10 t4_0 (by decide +kernel) _ fun j => ?_
  blk_simp
  rw [after4_10, (whole4 V c).1, (whole4 V c).2.1, (whole4 V c).2.2.1, (whole4 V c).2.2.2.1, (whole4 V c).2.2.2.2.1, (whole4 V c).2.2.2.2.2]

end Moe.K

end
-- ==== Proof.Kernel.Arr5.lean ====
/- The arrays the last layer kernel leaves, entry by entry, from the arrays it is given. -/
module

public import proofs.«01_k».proof.Proof.Kernel.Arr1
public import proofs.«01_k».proof.Proof.Kernel.Layer5
public import Idealize.ShloMosaic.Lib.Pipeline.ValueKit
import Idealize.ShloMosaic.Lib.Pointwise

@[expose] public section

set_option maxRecDepth 16384

noncomputable section

namespace Moe.K

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

/-- Where each window looks at a grid point. -/
theorem idx5 : ∀ t : Fin cfg5.N, win5_0.index t = ![t.val, 0, 0]
    ∧ win5_1.index t = ![t.val, 0, 0]
    ∧ win5_2.index t = ![t.val, 0, 0]
    ∧ win5_3.index t = ![t.val, 0, 0]
    ∧ win5_4.index t = ![t.val, 0, 0]
    ∧ win5_5.index t = ![0, 0]
    ∧ win5_6.index t = ![0, 0]
    ∧ win5_7.index t = ![t.val, 0, 0]
    ∧ win5_8.index t = ![t.val, 0, 0]
    ∧ win5_9.index t = ![t.val, 0, 0] :=
  (by decide +kernel : ∀ t : Fin grid5.N, _)

/-- The grid point of batch element `b`. -/
abbrev pt5 (b : Fin 8) : Fin cfg5.N := ⟨b.val, lt_of_lt_of_eq b.isLt N_5.symm⟩

theorem blk5_0 (b : Fin 8) (m : Fin 16128) (k : Fin 128) : iblk5 V c 0 (pt5 b) (ix3 0 m k) = V c main_v67_0 (ix3 b m k) := by
  blk_ext! [iblk5, idx5 (pt5 b)]

theorem wts5 (b : Fin 8) : fw1 (iblk5 V c 1 (pt5 b)) = aw1 (V c main_v81) b
    ∧ fb1 (iblk5 V c 2 (pt5 b)) = ab1 (V c main_v79_1) b
    ∧ fw2 (iblk5 V c 3 (pt5 b)) = aw2 (V c main_v82) b
    ∧ fb2 (iblk5 V c 4 (pt5 b)) = ab2 (V c main_v79_3) b := by
  refine ⟨funext fun k => funext fun q => (?_ : iblk5 V c 1 (pt5 b) (ix3 0 k q) = V c main_v81 (ix3 b k q)), funext fun q => (?_ : iblk5 V c 2 (pt5 b) (ix3 0 0 q) = V c main_v79_1 (ix3 b 0 q)), funext fun q => funext fun k => (?_ : iblk5 V c 3 (pt5 b) (ix3 0 q k) = V c main_v82 (ix3 b q k)), funext fun k => (?_ : iblk5 V c 4 (pt5 b) (ix3 0 0 k) = V c main_v79_3 (ix3 b 0 k))⟩ <;>
    blk_ext! [iblk5, idx5 (pt5 b)]

theorem blk5_5 (b : Fin 8) (i : Fin 6144) (t : Fin 96) : iblk5 V c 5 (pt5 b) (ix2 i t) = V c main_v80 (ix2 i t) := by
  blk_ext! [iblk5, idx5 (pt5 b)]

theorem blk5_6 (b : Fin 8) (t : Fin 96) : iblk5 V c 6 (pt5 b) (ix2 0 t) = V c main_v40 (ix2 0 t) := by
  blk_ext! [iblk5, idx5 (pt5 b)]

theorem blk5_7 (b : Fin 8) (n : Fin 336) : iblk5 V c 7 (pt5 b) (ix3 0 n 0) = V c main_v28 (ix3 b n 0) := by
  blk_ext! [iblk5, idx5 (pt5 b)]

theorem blk5_8 (b : Fin 8) (n : Fin 336) : iblk5 V c 8 (pt5 b) (ix3 0 n 0) = V c main_v31 (ix3 b n 0) := by
  blk_ext! [iblk5, idx5 (pt5 b)]

theorem idx5_9 : ∀ t : Fin cfg5.N, win5_9.index t = ![t.val, 0, 0] :=
  (by decide +kernel : ∀ t : Fin grid5.N, _)

/-- Where an entry of the written block lies in the array: in batch element `t`, at its own coordinates. -/
theorem at5_9 (t : Fin cfg5.N) (y : ((cfg5.win 9).xblock (cfg5.grid.coords t)).Idx) :
    pt5 (((cfg5.win 9).blk t).view.emb y 0) = t ∧ ((ix3 0 (((cfg5.win 9).blk t).view.emb y 1) (((cfg5.win 9).blk t).view.emb y 2)) : S1x336x96.Idx) = y := by
  constructor
  · have hy0 : (y 0).val < 1 := (y 0).isLt
    refine Fin.ext (?_ : ((((cfg5.win 9).blk t).view.emb y 0 : Fin _) : ℕ) = t.val)
    blk_simp [idx5_9 t]
  · blk_ext [idx5_9 t]

theorem arr5_9 (b : Fin 8) (n : Fin 336) (t : Fin 96) : (dat5 V c).arrAt 9 cfg5.N (ix3 b n t)
    = out5_9 (iblk5 V c 0 (pt5 b)) (iblk5 V c 1 (pt5 b)) (iblk5 V c 2 (pt5 b)) (iblk5 V c 3 (pt5 b)) (iblk5 V c 4 (pt5 b)) (iblk5 V c 5 (pt5 b)) (iblk5 V c 6 (pt5 b)) (iblk5 V c 7 (pt5 b)) (iblk5 V c 8 (pt5 b)) (ix3 0 n t) := by
  refine congrFun ((dat5 V c).arrAt_eq_of_covers 9 (fun i : S8x336x96.Idx =>
    out5_9 (iblk5 V c 0 (pt5 (i 0))) (iblk5 V c 1 (pt5 (i 0))) (iblk5 V c 2 (pt5 (i 0))) (iblk5 V c 3 (pt5 (i 0))) (iblk5 V c 4 (pt5 (i 0))) (iblk5 V c 5 (pt5 (i 0))) (iblk5 V c 6 (pt5 (i 0))) (iblk5 V c 7 (pt5 (i 0))) (iblk5 V c 8 (pt5 (i 0))) (ix3 0 (i 1) (i 2))) (by decide +kernel) fun t hf y => ?_) (ix3 b n t)
  blk_simp
  rw [after5_9, (at5_9 t y).1]
  exact (congrArg _ (at5_9 t y).2).symm

end Moe.K

end
-- ==== Proof.Kernel.Third.lean ====
/- The third layer and the projection: its gates, and the forecast it leaves. -/
module

public import proofs.«01_k».proof.Proof.Kernel.Second
public import proofs.«01_k».proof.Proof.Kernel.Route4
public import proofs.«01_k».proof.Proof.Kernel.Layer5
public import proofs.«01_k».proof.Proof.Kernel.Arr4
public import proofs.«01_k».proof.Proof.Kernel.Arr5

@[expose] public section

set_option maxRecDepth 16384

noncomputable section

namespace Moe.K

open Idealize.ShloMosaic Idealize.ShloMosaic.TcCoe Cert.KernelIdeal Cert.KernelIdeal.Gen

variable (m : (ℓ : Loc nD τ sig) → Buf (Elt Ideal) ℓ) (ρ : Dev nD → PrngReg) (c : Dev nD)

variable {m c}

theorem row_2 (h : (args m c).Finite) (b : Fin 8) :
    row (k2_pay5 (View.ld (V19 m ρ c main_v68) r2_0) (View.ld (V19 m ρ c main_v70) r2_1)) b = logits ((args m c).gw 2) (args m c).X2 b := by
  rw [show View.ld (V19 m ρ c main_v68) r2_0 = V19 m ρ c main_v68 from View.ld_unit_zero (by funext a; fin_cases a <;> rfl) _ _,
    show View.ld (V19 m ρ c main_v70) r2_1 = V19 m ρ c main_v70 from View.ld_unit_zero (by funext a; fin_cases a <;> rfl) _ _]
  funext e
  refine (logits_2 _ _ b e).trans (gate_rows (fun n => (V19 m ρ c main_v68 : FVec Ideal S8x336 .f32) (ix2 b n))
    (fun n e => (V19 m ρ c main_v70 : FVec Ideal S336x4 .f32) (ix2 n e)) (fun n => ?_) (fun n e => ?_) (fun n hn e => ?_) e)
  · exact (read_v68 (W18 m ρ c) b (up n)).trans (sums_2 ρ h b n)
  · refine (read_v70 (W18 m ρ c) (up n) e).trans ?_
    rw [W18_of m ρ c main_v37 (by decide +kernel), W17_of m ρ c main_v37 (by decide), W16_of m ρ c main_v37 (by decide +kernel), W15_of m ρ c main_v37 (by decide), W14_of m ρ c main_v37 (by decide +kernel), W13_of m ρ c main_v37 (by decide), W12_of m ρ c main_v37 (by decide +kernel)]
    exact gating_at m ρ c 2 n e
  · refine (read_v70 (W18 m ρ c) n e).trans ?_
    rw [W18_of m ρ c main_v37 (by decide +kernel), W17_of m ρ c main_v37 (by decide), W16_of m ρ c main_v37 (by decide +kernel), W15_of m ρ c main_v37 (by decide), W14_of m ρ c main_v37 (by decide +kernel), W13_of m ρ c main_v37 (by decide), W12_of m ρ c main_v37 (by decide +kernel)]
    exact gating_off m ρ c 2 n hn e

theorem real_2 (h : (args m c).Finite) (b : Fin 8) (e : Fin 4) : Real' (logits ((args m c).gw 2) (args m c).X2 b e) :=
  logits_real (h.gw 2) (Args.X2_real h) b e

/-- The gates that the routing kernel leaves, -/
theorem gates_at_2 (h : (args m c).Finite) (b : Fin 8) (e : Fin 4) :
    (W20 m ρ c (Proc.devRef .tc main_v79_4) : FVec Ideal S8x4 .f32) (ix2 b e) = gates ((args m c).gw 2) (args m c).X2 b e := by
  refine (congrFun ((W20_arr m ρ c 10).trans (arr4_10 (V19 m ρ) c)) (ix2 b e)).trans ?_
  rw [gates_as]
  exact gates_named_1 _ _ _ _ _ _ (row_2 ρ h b) (real_2 h b) e

/-- the weights the layer kernel is launched on, -/
theorem packed_at_2 (h : (args m c).Finite) (b : Fin 8) : PackedAt (args m c) 2 (args m c).X2 (W21 m ρ c (Proc.devRef .tc main_v81))
    (W21 m ρ c (Proc.devRef .tc main_v79_1)) (W21 m ρ c (Proc.devRef .tc main_v82)) (W21 m ρ c (Proc.devRef .tc main_v79_3)) b := by
  have hp := packed_named_1 (V19 m ρ c main_v68) (V19 m ρ c main_v70) (V19 m ρ c main_v72) (V19 m ρ c main_v74) (V19 m ρ c main_v76) (V19 m ρ c main_v78) (row_2 ρ h b) (real_2 h b)
  rw [show experts (V19 m ρ c main_v72) (V19 m ρ c main_v74) (V19 m ρ c main_v76) (V19 m ρ c main_v78) = _ from experts_at_2 m ρ c] at hp
  have h6 : (W21 m ρ c (Proc.devRef .tc main_v81) : S8x128x256.Idx → EReal) = _ :=
    (read_v81 (W20 m ρ c)).trans ((W20_arr m ρ c 6).trans (arr4_6 (V19 m ρ) c))
  have h7 : (W21 m ρ c (Proc.devRef .tc main_v79_1) : S8x1x256.Idx → EReal) = _ :=
    (W21_of m ρ c main_v79_1 (by decide)).trans ((W20_arr m ρ c 7).trans (arr4_7 (V19 m ρ) c))
  have h8 : (W21 m ρ c (Proc.devRef .tc main_v82) : S8x256x128.Idx → EReal) = _ :=
    (read_v82 (W20 m ρ c)).trans ((W20_arr m ρ c 8).trans (arr4_8 (V19 m ρ) c))
  have h9 : (W21 m ρ c (Proc.devRef .tc main_v79_3) : S8x1x128.Idx → EReal) = _ :=
    (W21_of m ρ c main_v79_3 (by decide)).trans ((W20_arr m ρ c 9).trans (arr4_9 (V19 m ρ) c))
  obtain ⟨a6, a7, a8, a9⟩ := packed_as (V19 m ρ c main_v68) (V19 m ρ c main_v70) (V19 m ρ c main_v72) (V19 m ρ c main_v74) (V19 m ρ c main_v76) (V19 m ρ c main_v78)
  unfold PackedAt
  rw [h6, h7, h8, h9, a6, a7, a8, a9]
  exact hp

/-- the rows it is launched on, -/
abbrev rows_2 (b : Fin 8) : Fin 16128 → Fin 128 → EReal :=
  fun i k => (iblk5 (V21 m ρ) c 0 (pt5 b) : Vec Ideal S1x16128x128 .bf16) (ix3 0 i k)

theorem start_2 (h : (args m c).Finite) (b : Fin 8) : Holds (rows_2 (m := m) (c := c) ρ b) ((args m c).X2 b) := fun n j p d => by
  refine (blk5_0 (V21 m ρ) c b _ _).trans ?_
  rw [V21, W21_of m ρ c main_v67_0 (by decide), W20_of m ρ c main_v67_0 (by decide +kernel), W19_of m ρ c main_v67_0 (by decide)]
  exact holds_2 ρ h b n j p d

/-- the forecast. -/
theorem forecast_at (h : (args m c).Finite) (b : Fin 8) (n : Fin 321) (t : Fin 96) :
    (W22 m ρ c (Proc.devRef .tc main_v83) : FVec Ideal S8x336x96 .f32) (ix3 b (up n) t) = (args m c).out b t n := by
  have hs := holds_step (real_2 h b) (packed_at_2 ρ h b) (start_2 ρ h b)
  refine (congrFun (W22_arr m ρ c 9) (ix3 b (up n) t)).trans ((arr5_9 (V21 m ρ) c b _ _).trans ((out5_eq _ _ _ _ _ _ _ _ _ _ _).trans ?_))
  obtain ⟨w1, w2, w3, w4⟩ := wts5 (V21 m ρ) c b
  rw [w1, w2, w3, w4, blk5_6, blk5_7, blk5_8]
  simp only [blk5_5]
  have e6 : V21 m ρ c main_v40 = W11 m ρ c (Proc.devRef .tc main_v40) := by rw [V21, W21_of m ρ c main_v40 (by decide), W20_of m ρ c main_v40 (by decide +kernel), W19_of m ρ c main_v40 (by decide), W18_of m ρ c main_v40 (by decide +kernel), W17_of m ρ c main_v40 (by decide), W16_of m ρ c main_v40 (by decide +kernel), W15_of m ρ c main_v40 (by decide), W14_of m ρ c main_v40 (by decide +kernel), W13_of m ρ c main_v40 (by decide), W12_of m ρ c main_v40 (by decide +kernel)]
  have e7 : V21 m ρ c main_v28 = W11 m ρ c (Proc.devRef .tc main_v28) := by rw [V21, W21_of m ρ c main_v28 (by decide), W20_of m ρ c main_v28 (by decide +kernel), W19_of m ρ c main_v28 (by decide), W18_of m ρ c main_v28 (by decide +kernel), W17_of m ρ c main_v28 (by decide), W16_of m ρ c main_v28 (by decide +kernel), W15_of m ρ c main_v28 (by decide), W14_of m ρ c main_v28 (by decide +kernel), W13_of m ρ c main_v28 (by decide), W12_of m ρ c main_v28 (by decide +kernel)]
  have e8 : V21 m ρ c main_v31 = W11 m ρ c (Proc.devRef .tc main_v31) := by rw [V21, W21_of m ρ c main_v31 (by decide), W20_of m ρ c main_v31 (by decide +kernel), W19_of m ρ c main_v31 (by decide), W18_of m ρ c main_v31 (by decide +kernel), W17_of m ρ c main_v31 (by decide), W16_of m ρ c main_v31 (by decide +kernel), W15_of m ρ c main_v31 (by decide), W14_of m ρ c main_v31 (by decide +kernel), W13_of m ρ c main_v31 (by decide), W12_of m ρ c main_v31 (by decide +kernel)]
  have e5 : (V21 m ρ c main_v80 : S6144x96.Idx → EReal) = _ := (read_v80 (W20 m ρ c)).trans (W20_args m ρ c main_arg8 (by decide))
  rw [e6, e7, e8, e5, pb_at, mean_at, std_at]
  refine (congrArg (fun y => (y + (args m c).pb t) * std (args m c).x b n + mean (args m c).x b n)
    (project_rows (X := (args m c).X3) hs n fun i => (args m c).pw i t)).trans ?_
  rfl

end Moe.K

end
-- ==== Proof.Kernel.Stats.lean ====
/- What the statistics kernel leaves in its two results. -/
module

public import proofs.«01_k».proof.Proof.Kernel.Pack
public import proofs.«01_k».proof.Proof.Gen.KernelIdeal.Frame
import Idealize.ShloMosaic.Lib.Pointwise

@[expose] public section

set_option maxRecDepth 16384

noncomputable section

namespace Moe.K

open Idealize.ShloMosaic Idealize.ShloMosaic.TcCoe Cert.KernelIdeal Cert.KernelIdeal.Gen

variable (x : Vec Ideal S3x8x4 .f32)

/-- The gates of layer `l`. -/
abbrev gatesOf (l : Fin 3) : Fin 8 → Fin 4 → EReal := fun b e => x (ix3 l b e)

theorem ld6 : View.ld x r6_0 = x := View.ld_unit_zero (by funext a; fin_cases a <;> rfl) _ _

/-- The load-balance losses of the layers, added up, -/
theorem out6_bal : out6_1 x (ix2 0 0) = ∑ l, balance (gatesOf x l) := by
  unfold out6_1 k6_pay2 k6_pay1
  rw [View.canon_unit_zero (by funext a; fin_cases a <;> rfl), ld6]
  pointwise
  rfl

/-- and the mean of their entropies. -/
theorem out6_con : out6_2 x (ix2 0 0) = Ideal.div (∑ l, entropy (gatesOf x l)) (Ideal.ofBits .f32 0x40400000#32) := by
  unfold out6_2 k6_pay3 k6_pay1
  rw [View.canon_unit_zero (by funext a; fin_cases a <;> rfl), ld6]
  pointwise
  simp only [zero_sub]
  rfl

end Moe.K

end
-- ==== Proof.Kernel.Arr6.lean ====
/- The arrays the losses kernel leaves: one grid point, so what its body leaves. -/
module

public import proofs.«01_k».proof.Proof.Kernel.Stats
public import Idealize.ShloMosaic.Lib.Pipeline.ValueKit
import Idealize.ShloMosaic.Lib.Pointwise

@[expose] public section

set_option maxRecDepth 16384

noncomputable section

namespace Moe.K

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

theorem idx6 : ∀ t : Fin cfg6.N, win6_0.index t = ![0, 0, 0]
    ∧ win6_1.index t = ![0, 0]
    ∧ win6_2.index t = ![0, 0] :=
  (by decide +kernel : ∀ t : Fin grid6.N, _)

/-- The blocks are the arrays. -/
theorem whole6 : iblk6 V c 0 t6_0 = V c main_v89 := by
  blk_ext! [iblk6, idx6 t6_0]

theorem arr6_1 : (dat6 V c).arrAt 1 cfg6.N = out6_1 (V c main_v89) := by
  refine (dat6 V c).arrAt_eq_of_after_last 1 t6_0 (by decide +kernel) _ fun j => ?_
  blk_simp
  rw [after6_1, whole6 V c]

theorem arr6_2 : (dat6 V c).arrAt 2 cfg6.N = out6_2 (V c main_v89) := by
  refine (dat6 V c).arrAt_eq_of_after_last 2 t6_0 (by decide +kernel) _ fun j => ?_
  blk_simp
  rw [after6_2, whole6 V c]

end Moe.K

end
-- ==== Proof.Kernel.Results.lean ====
/- The kernel's three results: the forecast cut to its nodes, and the losses of the three layers' gates. -/
module

public import proofs.«01_k».proof.Proof.Kernel.Third
public import proofs.«01_k».proof.Proof.Kernel.Stats
public import proofs.«01_k».proof.Proof.Kernel.Arr6
import Idealize.ShloMosaic.Lib.Pointwise

@[expose] public section

set_option maxRecDepth 16384

noncomputable section

namespace Moe.K

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-! ## The last lines of host operations -/

section Reads

variable (W : Valuation τ sig (Elt Ideal))

theorem read_v85 (b : Fin 8) (t : Fin 96) (n : Fin 321) :
    (StableHlo.after hostOps6 W (Proc.devRef .tc main_v85) : FVec Ideal S8x96x321 .f32) (ix3 b t n)
      = (W (Proc.devRef .tc main_v83) : FVec Ideal S8x336x96 .f32) (ix3 b (up n) t) := by
  simp only [hostOps6]
  after_results_simp
  pointwise

/-- The three layers' gates, stacked. -/
theorem read_v89 (l : Fin 3) (b : Fin 8) (e : Fin 4) :
    (StableHlo.after hostOps6 W (Proc.devRef .tc main_v89) : FVec Ideal S3x8x4 .f32) (ix3 l b e)
      = ![(W (Proc.devRef .tc main_v49_4) : FVec Ideal S8x4 .f32) (ix2 b e), (W (Proc.devRef .tc main_v64_4) : FVec Ideal S8x4 .f32) (ix2 b e),
          (W (Proc.devRef .tc main_v79_4) : FVec Ideal S8x4 .f32) (ix2 b e)] l := by
  simp only [hostOps6]
  after_results_simp
  fin_cases l <;> pointwise <;> after_results_simp <;> pointwise

theorem read_v91 : (StableHlo.after hostOps7 W (Proc.devRef .tc main_v91) : FVec Ideal S_ .f32) ix0
    = (W (Proc.devRef .tc main_v90_0) : FVec Ideal S1x1 .f32) (ix2 0 0) := by
  simp only [hostOps7]
  after_results_simp
  pointwise

theorem read_v92 : (StableHlo.after hostOps7 W (Proc.devRef .tc main_v92) : FVec Ideal S_ .f32) ix0
    = (W (Proc.devRef .tc main_v90_1) : FVec Ideal S1x1 .f32) (ix2 0 0) := by
  simp only [hostOps7]
  after_results_simp
  pointwise

end Reads

/-! ## The results -/

variable {m c}

theorem out_at (h : (args m c).Finite) (b : Fin 8) (t : Fin 96) (n : Fin 321) :
    (W25 m ρ c (Proc.devRef .tc main_v85) : FVec Ideal S8x96x321 .f32) (ix3 b t n) = (args m c).out b t n := by
  rw [W25_of m ρ c main_v85 (by decide), W24_of m ρ c main_v85 (by decide +kernel)]
  exact (read_v85 (W22 m ρ c) b t n).trans (forecast_at ρ h b n t)

theorem stack_at (h : (args m c).Finite) (l : Fin 3) : gatesOf (V23 m ρ c main_v89) l = (args m c).G l := by
  funext b e
  refine (read_v89 (W22 m ρ c) l b e).trans ?_
  rw [W22_of m ρ c main_v49_4 (by decide +kernel), W21_of m ρ c main_v49_4 (by decide), W20_of m ρ c main_v49_4 (by decide +kernel), W19_of m ρ c main_v49_4 (by decide), W18_of m ρ c main_v49_4 (by decide +kernel), W17_of m ρ c main_v49_4 (by decide), W16_of m ρ c main_v49_4 (by decide +kernel), W15_of m ρ c main_v49_4 (by decide), W14_of m ρ c main_v49_4 (by decide +kernel), W13_of m ρ c main_v49_4 (by decide), W22_of m ρ c main_v64_4 (by decide +kernel), W21_of m ρ c main_v64_4 (by decide), W20_of m ρ c main_v64_4 (by decide +kernel), W19_of m ρ c main_v64_4 (by decide), W18_of m ρ c main_v64_4 (by decide +kernel), W17_of m ρ c main_v64_4 (by decide), W22_of m ρ c main_v79_4 (by decide +kernel), W21_of m ρ c main_v79_4 (by decide), gates_at_0 ρ h, gates_at_1 ρ h, gates_at_2 ρ h]
  fin_cases l <;> rfl

theorem bal_at (h : (args m c).Finite) : (W25 m ρ c (Proc.devRef .tc main_v91) : FVec Ideal S_ .f32) ix0 = (args m c).bal := by
  refine (read_v91 (W24 m ρ c)).trans ((congrFun ((W24_arr m ρ c 1).trans (arr6_1 (V23 m ρ) c)) (ix2 0 0)).trans ((out6_bal _).trans ?_))
  unfold Args.bal
  exact Finset.sum_congr rfl fun l _ => congrArg balance (stack_at ρ h l)

theorem con_at (h : (args m c).Finite) : (W25 m ρ c (Proc.devRef .tc main_v92) : FVec Ideal S_ .f32) ix0 = (args m c).con := by
  refine (read_v92 (W24 m ρ c)).trans ((congrFun ((W24_arr m ρ c 2).trans (arr6_2 (V23 m ρ) c)) (ix2 0 0)).trans ((out6_con _).trans ?_))
  unfold Args.con
  exact congrArg (fun y => Ideal.div y _) (Finset.sum_congr rfl fun l _ => congrArg entropy (stack_at ρ h l))

end Moe.K

end
-- ==== Proof.Ref.Losses.lean ====
/- The reference's losses of one layer's gates, read entry by entry. -/
module

public import proofs.«01_k».proof.Proof.Ref.Series
import Idealize.ShloMosaic.Lib.Pointwise

@[expose] public section

set_option maxRecDepth 16384

noncomputable section

namespace Moe.R

open Idealize.ShloMosaic Idealize.ShloMosaic.TcCoe Cert.ReferenceIdeal Cert.ReferenceIdeal.Gen

/-- The gates, as a function of their coordinates. -/
abbrev gatesAt (g : FVec Ideal S8x4 .f32) : Fin 8 → Fin 4 → EReal := fun b e => g (ix2 b e)

/-- The experts' importances. -/
def impOf (g : FVec Ideal S8x4 .f32) : FVec Ideal S4 .f32 :=
  Host.reduceAdd g (constant S_ .f32 0x00000000#32) reducesTo_S8x4_S4_d0 h_S_

theorem impOf_eq (g : FVec Ideal S8x4 .f32) (e : Fin 4) : impOf g (ix1 e) = importance (gatesAt g) e := by
  unfold impOf importance
  pointwise

/-- Their mean, -/
def impMeanOf (imp : FVec Ideal S4 .f32) : FVec Ideal S_ .f32 :=
  Host.divf (Host.reduceAdd imp (constant S_ .f32 0x00000000#32) reducesTo_S4_S_d0 h_S_) (constant S_ .f32 0x40800000#32)

theorem impMeanOf_eq (g : FVec Ideal S8x4 .f32) : impMeanOf (impOf g) ix0 = impMean (gatesAt g) := by
  have h := impOf_eq g
  unfold impMeanOf impMean
  generalize impOf g = v at h ⊢
  pointwise
  simp only [h]

/-- the deviations from it, -/
def spreadOf (imp : FVec Ideal S4 .f32) : FVec Ideal S4 .f32 :=
  subf imp (broadcastInDim S4 ![0] bcast_S1_S4_0 (Host.divf (broadcastInDim S1 ![] bcast_S_S1 (Host.reduceAdd imp (constant S_ .f32 0x00000000#32) reducesTo_S4_S_d0 h_S_)) (broadcastInDim S1 ![] bcast_S_S1 (constant S_ .f32 0x40800000#32))))

theorem spreadOf_eq (g : FVec Ideal S8x4 .f32) (e : Fin 4) : spreadOf (impOf g) (ix1 e) = importance (gatesAt g) e - impMean (gatesAt g) := by
  have h := impOf_eq g
  unfold spreadOf impMean
  generalize impOf g = v at h ⊢
  pointwise
  simp only [h]

/-- the number of experts, less the correction, which is none, -/
def count4 : FVec Ideal S_ .f32 :=
  subf (constant S_ .f32 0x40800000#32) (sitofp .f32 (constantI S_ 32 0#32))

theorem count4_eq (i : S_.Idx) : count4 i = Ideal.ofBits .f32 0x40800000#32 := by
  unfold count4
  pointwise
  rw [none_eq, sub_zero]

theorem four_pos : 0 < Ideal.ofBits .f32 0x40800000#32 := by
  have h : Ideal.ofBits .f32 0x40800000#32 = ((4 : ℝ) : EReal) := by
    simp [Ideal.ofBits, Ideal.ieee, -EReal.coe_mul]
    norm_num
  rw [h]
  exact_mod_cast (by norm_num : (0 : ℝ) < 4)

/-- and the load-balance loss. -/
def balanceOf (g : FVec Ideal S8x4 .f32) : FVec Ideal S_ .f32 :=
  Host.divf (select (cmpf .ogt count4 (constant S_ .f32 0x00000000#32)) (Host.divf (Host.reduceAdd (mulf (spreadOf (impOf g)) (spreadOf (impOf g))) (constant S_ .f32 0x00000000#32) reducesTo_S4_S_d0 h_S_) count4) (id (constant S_ .f32 0x7FC00000#32))) (addf (mulf (impMeanOf (impOf g)) (impMeanOf (impOf g))) (constant S_ .f32 0x2EDBE6FF#32))

theorem balanceOf_eq (g : FVec Ideal S8x4 .f32) : balanceOf g ix0 = balance (gatesAt g) := by
  have h := spreadOf_eq g
  have hm := impMeanOf_eq g
  have hc := count4_eq
  unfold balanceOf balance impVar
  generalize spreadOf (impOf g) = v at h ⊢
  generalize impMeanOf (impOf g) = q at hm ⊢
  generalize count4 = k at hc ⊢
  pointwise
  simp only [h, hm, hc]
  rw [if_pos four_pos]

/-- The mean entropy of the gates. -/
def entropyOf (g : FVec Ideal S8x4 .f32) : FVec Ideal S_ .f32 :=
  Host.negf (Host.divf (Host.reduceAdd (Host.reduceAdd (mulf g (Host.log (addf g (broadcastInDim S8x4 ![] bcast_S_S8x4 (constant S_ .f32 0x3089705F#32))))) (constant S_ .f32 0x00000000#32) reducesTo_S8x4_S8_d1 h_S_) (constant S_ .f32 0x00000000#32) reducesTo_S8_S_d0 h_S_) (constant S_ .f32 0x41000000#32))

theorem entropyOf_eq (g : FVec Ideal S8x4 .f32) : entropyOf g ix0 = entropy (gatesAt g) := by
  unfold entropyOf entropy
  pointwise

end Moe.R

end
-- ==== Proof.Ref.Final.lean ====
/- The reference's results in plain sums: its layers one after another, then the forecast and the losses. -/
module

public import proofs.«01_k».proof.Proof.Gen.ReferenceIdeal.Run
public import proofs.«01_k».proof.Proof.Ref.Losses
public import proofs.«01_k».proof.Proof.Moe.Arrays
import Idealize.ShloMosaic.Lib.Pointwise

@[expose] public section

set_option maxRecDepth 16384

noncomputable section

namespace Moe.R

open Idealize.ShloMosaic Idealize.ShloMosaic.TcCoe Idealize.ShloMosaic.StableHlo Idealize.SL.Sem Cert.ReferenceIdeal.Value Cert.ReferenceIdeal Cert.ReferenceIdeal.Gen

/-- A layer's gates, from the activations before it, -/
theorem gates_step {a : Args} (h : a.Finite) (k : Fin 3) {X : FVec Ideal S8x96x321x64 .f32} {Xs : Act} (hX : act X = Xs)
    (hr : ∀ b l n d, Real' (Xs b l n d)) {gw : FVec Ideal S321x4 .f32} (hg : ∀ n e, gw (ix2 n e) = a.gw k n e) :
    gatesAt (gatesOf (logitsOf X gw)) = gates (a.gw k) Xs := by
  subst hX
  have hl : ∀ b, row (logitsOf X gw) b = logits (a.gw k) (act X) b := fun b => funext fun e => by
    rw [show row (logitsOf X gw) b e = _ from logitsOf_eq X gw b e]
    simp only [hg]
  funext b e
  rw [show gatesAt (gatesOf (logitsOf X gw)) b e = _ from
    gatesOf_eq _ (fun b e => by rw [hl]; exact logits_real (h.gw k) hr b e) b e, hl]
  rfl

/-- and the activations after it. -/
theorem act_step {a : Args} (k : Fin 3) {X : FVec Ideal S8x96x321x64 .f32} {Xs : Act} (hX : act X = Xs) {g : FVec Ideal S8x4 .f32}
    (hg : gatesAt g = gates (a.gw k) Xs) {W1 : FVec Ideal S4x64x64 .f32} {b1 : FVec Ideal S4x64 .f32} {W2 : FVec Ideal S4x64x64 .f32}
    {b2 : FVec Ideal S4x64 .f32} (hP : expertsOf W1 b1 W2 b2 = a.P k) :
    act (addf (mixOf g X W1 b1 W2 b2) X) = a.step k Xs := by
  subst hX
  funext b l n d
  unfold Args.step layer
  rw [← hg, ← hP]
  show mixOf g X W1 b1 W2 b2 (ix4 b l n d) + X (ix4 b l n d) = _
  rw [mixOf_eq]

variable (V : Valuation τ sig (Elt Ideal))

/-- The arguments that the program's argument buffers hold. -/
def args : Args :=
  argsOf (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9))

/-! ## The layers' own weights -/

theorem experts_0 : expertsOf (res_main_v23 V) (res_main_v25 V) (res_main_v27 V) (res_main_v29 V) = (args V).P 0 := by
  unfold res_main_v23 res_main_v25 res_main_v27 res_main_v29 expertsOf args argsOf
  congr 1 <;> (repeat' funext _) <;> pointwise

/-- Layer 0's gating matrix. -/
def gw_0 : FVec Ideal S321x4 .f32 :=
  shapeCast S321x4 (extractStridedSlice S1x321x4 ![0, 0, 0] (V (Proc.devRef .tc main_arg3) : FVec Ideal S3x321x4 .f32) slices_S3x321x4_S1x321x4_0_0_0) shapeCasts_S1x321x4_S321x4

theorem gw_0_eq (n : Fin 321) (e : Fin 4) : gw_0 V (ix2 n e) = (args V).gw 0 n e := by
  unfold gw_0 args argsOf
  pointwise

theorem experts_1 : expertsOf (res_main_v178 V) (res_main_v180 V) (res_main_v182 V) (res_main_v184 V) = (args V).P 1 := by
  unfold res_main_v178 res_main_v180 res_main_v182 res_main_v184 expertsOf args argsOf
  congr 1 <;> (repeat' funext _) <;> pointwise

/-- Layer 1's gating matrix. -/
def gw_1 : FVec Ideal S321x4 .f32 :=
  shapeCast S321x4 (extractStridedSlice S1x321x4 ![1, 0, 0] (V (Proc.devRef .tc main_arg3) : FVec Ideal S3x321x4 .f32) slices_S3x321x4_S1x321x4_1_0_0) shapeCasts_S1x321x4_S321x4

theorem gw_1_eq (n : Fin 321) (e : Fin 4) : gw_1 V (ix2 n e) = (args V).gw 1 n e := by
  unfold gw_1 args argsOf
  pointwise

theorem experts_2 : expertsOf (res_main_v333 V) (res_main_v335 V) (res_main_v337 V) (res_main_v339 V) = (args V).P 2 := by
  unfold res_main_v333 res_main_v335 res_main_v337 res_main_v339 expertsOf args argsOf
  congr 1 <;> (repeat' funext _) <;> pointwise

/-- Layer 2's gating matrix. -/
def gw_2 : FVec Ideal S321x4 .f32 :=
  shapeCast S321x4 (extractStridedSlice S1x321x4 ![2, 0, 0] (V (Proc.devRef .tc main_arg3) : FVec Ideal S3x321x4 .f32) slices_S3x321x4_S1x321x4_2_0_0) shapeCasts_S1x321x4_S321x4

theorem gw_2_eq (n : Fin 321) (e : Fin 4) : gw_2 V (ix2 n e) = (args V).gw 2 n e := by
  unfold gw_2 args argsOf
  pointwise

/-! ## The activations and the gates -/

theorem start : act (res_main_v19 V) = (args V).X0 :=
  (show res_main_v19 V = embedOf (V (Proc.devRef .tc main_arg0)) (V (Proc.devRef .tc main_arg1)) (V (Proc.devRef .tc main_arg2)) from rfl) ▸
    embedOf_eq _ _ _

theorem gates_0 {V : Valuation τ sig (Elt Ideal)} (h : (args V).Finite) : gatesAt (res_main_v64 V) = gates ((args V).gw 0) (args V).X0 :=
  (show res_main_v64 V = gatesOf (logitsOf (res_main_v19 V) (gw_0 V)) from rfl) ▸
    gates_step h 0 (start V) (Args.X0_real h) (gw_0_eq V)

theorem after_0 {V : Valuation τ sig (Elt Ideal)} (h : (args V).Finite) : act (res_main_v158 V) = (args V).X1 :=
  (show res_main_v158 V = addf (mixOf (res_main_v64 V) (res_main_v19 V) (res_main_v23 V) (res_main_v25 V) (res_main_v27 V) (res_main_v29 V)) (res_main_v19 V) from rfl) ▸
    act_step 0 (start V) (gates_0 h) (experts_0 V)

theorem gates_1 {V : Valuation τ sig (Elt Ideal)} (h : (args V).Finite) : gatesAt (res_main_v219 V) = gates ((args V).gw 1) (args V).X1 :=
  (show res_main_v219 V = gatesOf (logitsOf (res_main_v158 V) (gw_1 V)) from rfl) ▸
    gates_step h 1 (after_0 h) (Args.X1_real h) (gw_1_eq V)

theorem after_1 {V : Valuation τ sig (Elt Ideal)} (h : (args V).Finite) : act (res_main_v313 V) = (args V).X2 :=
  (show res_main_v313 V = addf (mixOf (res_main_v219 V) (res_main_v158 V) (res_main_v178 V) (res_main_v180 V) (res_main_v182 V) (res_main_v184 V)) (res_main_v158 V) from rfl) ▸
    act_step 1 (after_0 h) (gates_1 h) (experts_1 V)

theorem gates_2 {V : Valuation τ sig (Elt Ideal)} (h : (args V).Finite) : gatesAt (res_main_v374 V) = gates ((args V).gw 2) (args V).X2 :=
  (show res_main_v374 V = gatesOf (logitsOf (res_main_v313 V) (gw_2 V)) from rfl) ▸
    gates_step h 2 (after_1 h) (Args.X2_real h) (gw_2_eq V)

theorem after_2 {V : Valuation τ sig (Elt Ideal)} (h : (args V).Finite) : act (addf (res_main_v467 V) (res_main_v313 V)) = (args V).X3 :=
  (show addf (res_main_v467 V) (res_main_v313 V) = addf (mixOf (res_main_v374 V) (res_main_v313 V) (res_main_v333 V) (res_main_v335 V) (res_main_v337 V) (res_main_v339 V)) (res_main_v313 V) from rfl) ▸
    act_step 2 (after_1 h) (gates_2 h) (experts_2 V)

/-! ## The results -/

/-- The forecast, from the last activations and the series' scale. -/
def forecastOf (X : FVec Ideal S8x96x321x64 .f32) (s m : FVec Ideal S8x1x321 .f32) (pw : FVec Ideal S6144x96 .f32) (pb : FVec Ideal S96 .f32) :
    FVec Ideal S8x96x321 .f32 :=
  addf (mulf (transpose S8x96x321 [0, 2, 1] (addf (Host.dotGeneral dot_S8x321x6144_S6144x96_S8x321x96_2_0_01_1_n_n none (shapeCast _ (transpose S8x321x96x64 [0, 2, 1, 3] X transposes_S8x96x321x64_S8x321x96x64_0_2_1_3) shapeCasts_S8x321x96x64_S8x321x6144) pw) (broadcastInDim S8x321x96 ![0, 1, 2] bcast_S1x1x96_S8x321x96_0_1_2 (broadcastInDim S1x1x96 ![2] bcast_S96_S1x1x96_2 pb))) transposes_S8x321x96_S8x96x321_0_2_1) (broadcastInDim S8x96x321 ![0, 1, 2] bcast_S8x1x321_S8x96x321_0_1_2 s)) (broadcastInDim S8x96x321 ![0, 1, 2] bcast_S8x1x321_S8x96x321_0_1_2 m)

theorem forecastOf_eq (X : FVec Ideal S8x96x321x64 .f32) (s m : FVec Ideal S8x1x321 .f32) (pw : FVec Ideal S6144x96 .f32)
    (pb : FVec Ideal S96 .f32) (b : Fin 8) (t : Fin 96) (n : Fin 321) :
    forecastOf X s m pw pb (ix3 b t n)
      = ((∑ k : Fin 6144, act X b ⟨k.val / 64, by omega⟩ n ⟨k.val % 64, by omega⟩ * pw (ix2 k t)) + pb (ix1 t)) * s (ix3 b 0 n) + m (ix3 b 0 n) := by
  unfold forecastOf
  pointwise

/-- The sum of three losses, -/
def sumOf (x y z : FVec Ideal S_ .f32) : FVec Ideal S_ .f32 := addf (addf (addf (constant S_ .f32 0x00000000#32) x) y) z

theorem sumOf_eq (x y z : FVec Ideal S_ .f32) : sumOf x y z ix0 = x ix0 + y ix0 + z ix0 := by
  unfold sumOf
  pointwise

/-- and the mean of three. -/
def meanThree (x y z : FVec Ideal S_ .f32) : FVec Ideal S_ .f32 :=
  Host.divf (Host.reduceAdd ((concatenate S3 0 [⟨S1, ((broadcastInDim S1 ![] bcast_S_S1 x) : FVec Ideal S1 .f32)⟩, ⟨S1, ((broadcastInDim S1 ![] bcast_S_S1 y) : FVec Ideal S1 .f32)⟩, ⟨S1, ((broadcastInDim S1 ![] bcast_S_S1 z) : FVec Ideal S1 .f32)⟩] concatenates_S1_S1_S1_S3_d0 : FVec Ideal S3 .f32)) (constant S_ .f32 0x00000000#32) reducesTo_S3_S_d0 h_S_) (constant S_ .f32 0x40400000#32)

theorem meanThree_eq (x y z : FVec Ideal S_ .f32) :
    meanThree x y z ix0 = Ideal.div (x ix0 + y ix0 + z ix0) (Ideal.ofBits .f32 0x40400000#32) := by
  unfold meanThree
  pointwise
  rw [Fin.sum_univ_three]
  pointwise

/-- What the results are, on finite arguments; and the arguments are unchanged. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      ((args (launchContents m c)).Finite →
        (∀ b t n, (r.2.mem ((c.tc : Thread nD τ).loc main_v495) : FVec Ideal S8x96x321 .f32) (ix3 b t n) = (args (launchContents m c)).out b t n)
        ∧ (r.2.mem ((c.tc : Thread nD τ).loc main_v484) : FVec Ideal S_ .f32) ix0 = (args (launchContents m c)).bal
        ∧ (r.2.mem ((c.tc : Thread nD τ).loc main_v501) : FVec Ideal S_ .f32) ix0 = (args (launchContents m c)).con)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ⟨fun hf => ?_, (h c).2.2.2⟩) (run (F := Ideal) m ρ)
  obtain ⟨h1, h2, h3, -⟩ := h c
  have g0 := gates_0 hf
  have g1 := gates_1 hf
  have g2 := gates_2 hf
  have hX := after_2 hf
  generalize launchContents m c = V at *
  refine ⟨fun b t n => ?_, ?_, ?_⟩
  · rw [h1]
    refine (forecastOf_eq (addf (res_main_v467 V) (res_main_v313 V)) (res_main_v7 V) (res_main_v3 V) (V (Proc.devRef .tc main_arg8))
      (V (Proc.devRef .tc main_arg9)) b t n).trans ?_
    rw [hX, show (res_main_v7 V : FVec Ideal S8x1x321 .f32) (ix3 b 0 n) = _ from stdOf_eq (V (Proc.devRef .tc main_arg0)) b n,
      show (res_main_v3 V : FVec Ideal S8x1x321 .f32) (ix3 b 0 n) = _ from meanOf_eq (V (Proc.devRef .tc main_arg0)) b n]
    rfl
  · rw [h2]
    refine (sumOf_eq (balanceOf (res_main_v64 V)) (balanceOf (res_main_v219 V)) (balanceOf (res_main_v374 V))).trans ?_
    rw [balanceOf_eq, balanceOf_eq, balanceOf_eq, g0, g1, g2]
    unfold Args.bal
    rw [Fin.sum_univ_three]
    rfl
  · rw [h3]
    refine (meanThree_eq (entropyOf (res_main_v64 V)) (entropyOf (res_main_v219 V)) (entropyOf (res_main_v374 V))).trans ?_
    rw [entropyOf_eq, entropyOf_eq, entropyOf_eq, g0, g1, g2]
    unfold Args.con
    rw [Fin.sum_univ_three]
    rfl

end Moe.R

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Moe.Finite
public import proofs.«01_k».proof.Proof.Kernel.Run
public import proofs.«01_k».proof.Proof.Kernel.Results
public import proofs.«01_k».proof.Proof.Ref.Final
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference runs, ends with every counter at zero, and leaves its arguments as they were. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- Naming the constant `1/6144` is the only rewrite of the idealized kernel, and its real value is the one named. -/
theorem preserves : Cert.preserves_Kernel_KernelIdeal :=
  IdealRules.named_const.statement Cert.KernelIdeal.κ "inv6144" .f32 0x392AAAAB#32 ((6144⁻¹ : ℝ) : EReal) rfl

/-- Two arrays of three axes are equal when they agree at every three indices, -/
theorem ext3 {n0 n1 n2 : ℕ} {u v : FVec Ideal ⟨3, ![n0, n1, n2]⟩ .f32} (h : ∀ i j k, u (ix3 i j k) = v (ix3 i j k)) : u = v := by
  funext i
  have hi : i = ix3 (i 0) (i 1) (i 2) := by
    funext k
    fin_cases k <;> rfl
  rw [hi]
  exact h _ _ _

/-- and two of none when their one element is. -/
theorem ext0 {u v : FVec Ideal ⟨0, ![]⟩ .f32} (h : u ix0 = v ix0) : u = v := by
  funext i
  have hi : i = ix0 := funext fun k => k.elim0
  rw [hi]
  exact h

/-- When the embedding, the gates and the experts of the first two layers hold numbers, the kernel and the reference end with the same three results. -/
theorem algebraic : Cert.algebraic_KernelIdeal_ReferenceIdeal_pre_finite (hPre_finite := Moe.shapes_fit) := by
  intro m g m' g' hpre hargs
  have hf : ∀ c, (Moe.K.args m c).Finite := fun c =>
    letI := Moe.shapes_fit
    Moe.finite_of _ _ _ _ _ _ _ _ _ _ (congrFun (hpre c) ix0)
  have ha : ∀ c : Dev Cert.KernelIdeal.nD, Moe.R.args (StableHlo.launchContents m' c) = Moe.K.args m c := fun c => by
    obtain ⟨h0, h1, h2, h3, h4, h5, h6, h7, h8, h9⟩ := hargs c
    unfold Moe.K.args
    rw [← h0, ← h1, ← h2, ← h3, ← h4, ← h5, ← h6, ← h7, ← h8, ← h9]
    rfl
  refine ⟨fun c => Cert.KernelIdeal.Gen.W25 m g c (Proc.devRef .tc Cert.KernelIdeal.main_v85),
    fun c => Cert.KernelIdeal.Gen.W25 m g c (Proc.devRef .tc Cert.KernelIdeal.main_v91),
    fun c => Cert.KernelIdeal.Gen.W25 m g c (Proc.devRef .tc Cert.KernelIdeal.main_v92), Moe.K.run m g, ?_⟩
  refine (θ_run Cert.ReferenceIdeal.defs _ _).mono (fun r h c => ?_) (Moe.R.results m' g')
  obtain ⟨hr, hm⟩ := h c
  obtain ⟨h1, h2, h3⟩ := hr ((ha c).symm ▸ hf c)
  rw [ha c] at h1 h2 h3
  exact ⟨ext3 fun b t n => (h1 b t n).trans (Moe.K.out_at g (hf c) b t n).symm, ext0 (h2.trans (Moe.K.bal_at g (hf c)).symm),
    ext0 (h3.trans (Moe.K.con_at g (hf c)).symm), hm⟩

theorem claim : Cert.Claim := ⟨Cert.Kernel.Gen.facts, Cert.KernelIdeal.Gen.facts, Cert.ReferenceIdeal.Gen.facts, Moe.shapes_fit,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, preserves, algebraic⟩

end Cert.Proof

end
